-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v13_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_v13_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v85) = v0 c
          ∧ r.2.mem ((c.tc : Thread Cert.Reference2Ideal.nD Cert.Reference2Ideal.τ).loc Cert.Reference2Ideal.main_v87) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
-- ==== Kernel.lean ====
abbrev S4x8192x1024 : Shape := ⟨3, ![4, 8192, 1024]⟩
abbrev S2x4x3072 : Shape := ⟨3, ![2, 4, 3072]⟩
abbrev S2x1024 : Shape := ⟨2, ![2, 1024]⟩
abbrev S1x1024x1024 : Shape := ⟨3, ![1, 1024, 1024]⟩
abbrev S1x1024x6144 : Shape := ⟨3, ![1, 1024, 6144]⟩
abbrev S1x2048 : Shape := ⟨2, ![1, 2048]⟩
abbrev S1x16x128x128 : Shape := ⟨4, ![1, 16, 128, 128]⟩
abbrev S1x16x128 : Shape := ⟨3, ![1, 16, 128]⟩
abbrev S1x2048x1024 : Shape := ⟨3, ![1, 2048, 1024]⟩
abbrev S1x4x1024 : Shape := ⟨3, ![1, 4, 1024]⟩
abbrev S4x1024 : Shape := ⟨2, ![4, 1024]⟩
abbrev S4x1x1024 : Shape := ⟨3, ![4, 1, 1024]⟩
abbrev S_ : Shape := ⟨0, ![]⟩
abbrev S1024x1024 : Shape := ⟨2, ![1024, 1024]⟩
abbrev S1x1024 : Shape := ⟨2, ![1, 1024]⟩
abbrev S1024 : Shape := ⟨1, ![1024]⟩
abbrev S1024x6144 : Shape := ⟨2, ![1024, 6144]⟩
abbrev S2048 : Shape := ⟨1, ![2048]⟩
abbrev S16x128x128 : Shape := ⟨3, ![16, 128, 128]⟩
abbrev S16x128 : Shape := ⟨2, ![16, 128]⟩
abbrev S128x16 : Shape := ⟨2, ![128, 16]⟩
abbrev S2048x1024 : Shape := ⟨2, ![2048, 1024]⟩
abbrev S1x512x1024 : Shape := ⟨3, ![1, 512, 1024]⟩
abbrev S1x1x1024 : Shape := ⟨3, ![1, 1, 1024]⟩
abbrev S512x1024 : Shape := ⟨2, ![512, 1024]⟩
abbrev S512x2048 : Shape := ⟨2, ![512, 2048]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩
abbrev S1024x256 : Shape := ⟨2, ![1024, 256]⟩
abbrev S512x256 : Shape := ⟨2, ![512, 256]⟩
abbrev S1x128x128 : Shape := ⟨3, ![1, 128, 128]⟩
abbrev S128x128 : Shape := ⟨2, ![128, 128]⟩
abbrev S128x1 : Shape := ⟨2, ![128, 1]⟩
abbrev S128x256 : Shape := ⟨2, ![128, 256]⟩

abbrev nBuf : Space → Nat
  | .hbm => 63
  | .vmem => 29
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .f32⟩
  | .hbm, ⟨2, _⟩ => ⟨S2x4x3072, .f32⟩
  | .hbm, ⟨3, _⟩ => ⟨S2x1024, .f32⟩
  | .hbm, ⟨4, _⟩ => ⟨S2x1024, .f32⟩
  | .hbm, ⟨5, _⟩ => ⟨S1x1024x1024, .f32⟩
  | .hbm, ⟨6, _⟩ => ⟨S1x1024x6144, .f32⟩
  | .hbm, ⟨7, _⟩ => ⟨S1x2048, .f32⟩
  | .hbm, ⟨8, _⟩ => ⟨S1x2048, .f32⟩
  | .hbm, ⟨9, _⟩ => ⟨S1x16x128x128, .f32⟩
  | .hbm, ⟨10, _⟩ => ⟨S1x16x128, .f32⟩
  | .hbm, ⟨11, _⟩ => ⟨S1x2048x1024, .f32⟩
  | .hbm, ⟨12, _⟩ => ⟨S1x4x1024, .f32⟩
  | .hbm, ⟨13, _⟩ => ⟨S4x1024, .f32⟩
  | .hbm, ⟨14, _⟩ => ⟨S4x1x1024, .f32⟩
  | .hbm, ⟨15, _⟩ => ⟨S1x4x1024, .f32⟩
  | .hbm, ⟨16, _⟩ => ⟨S4x1024, .f32⟩
  | .hbm, ⟨17, _⟩ => ⟨S4x1x1024, .f32⟩
  | .hbm, ⟨18, _⟩ => ⟨S_, .f32⟩
  | .hbm, ⟨19, _⟩ => ⟨S4x1x1024, .f32⟩
  | .hbm, ⟨20, _⟩ => ⟨S4x1x1024, .f32⟩
  | .hbm, ⟨21, _⟩ => ⟨S1x4x1024, .f32⟩
  | .hbm, ⟨22, _⟩ => ⟨S4x1024, .f32⟩
  | .hbm, ⟨23, _⟩ => ⟨S4x1x1024, .f32⟩
  | .hbm, ⟨24, _⟩ => ⟨S1x4x1024, .f32⟩
  | .hbm, ⟨25, _⟩ => ⟨S4x1024, .f32⟩
  | .hbm, ⟨26, _⟩ => ⟨S4x1x1024, .f32⟩
  | .hbm, ⟨27, _⟩ => ⟨S1x4x1024, .f32⟩
  | .hbm, ⟨28, _⟩ => ⟨S4x1024, .f32⟩
  | .hbm, ⟨29, _⟩ => ⟨S4x1x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S1x4x1024, .f32⟩
  | .hbm, ⟨34, _⟩ => ⟨S4x1024, .f32⟩
  | .hbm, ⟨35, _⟩ => ⟨S4x1x1024, .f32⟩
  | .hbm, ⟨36, _⟩ => ⟨S1024x1024, .f32⟩
  | .hbm, ⟨37, _⟩ => ⟨S1024x1024, .bf16⟩
  | .hbm, ⟨38, _⟩ => ⟨S1x1024, .f32⟩
  | .hbm, ⟨39, _⟩ => ⟨S1024, .f32⟩
  | .hbm, ⟨40, _⟩ => ⟨S1x1024, .f32⟩
  | .hbm, ⟨41, _⟩ => ⟨S1x1024, .f32⟩
  | .hbm, ⟨42, _⟩ => ⟨S1024, .f32⟩
  | .hbm, ⟨43, _⟩ => ⟨S1x1024, .f32⟩
  | .hbm, ⟨44, _⟩ => ⟨S1024x6144, .f32⟩
  | .hbm, ⟨45, _⟩ => ⟨S1024x6144, .bf16⟩
  | .hbm, ⟨46, _⟩ => ⟨S2048, .f32⟩
  | .hbm, ⟨47, _⟩ => ⟨S1x2048, .f32⟩
  | .hbm, ⟨48, _⟩ => ⟨S2048, .f32⟩
  | .hbm, ⟨49, _⟩ => ⟨S1x2048, .f32⟩
  | .hbm, ⟨50, _⟩ => ⟨S16x128x128, .f32⟩
  | .hbm, ⟨51, _⟩ => ⟨S16x128x128, .bf16⟩
  | .hbm, ⟨52, _⟩ => ⟨S16x128, .f32⟩
  | .hbm, ⟨53, _⟩ => ⟨S128x16, .f32⟩
  | .hbm, ⟨54, _⟩ => ⟨S2048x1024, .f32⟩
  | .hbm, ⟨55, _⟩ => ⟨S2048x1024, .bf16⟩
  | .hbm, ⟨56, _⟩ => ⟨S1x1024, .f32⟩
  | .hbm, ⟨57, _⟩ => ⟨S1024, .f32⟩
  | .hbm, ⟨58, _⟩ => ⟨S1x1024, .f32⟩
  | .hbm, ⟨59, _⟩ => ⟨S1x1024, .f32⟩
  | .hbm, ⟨60, _⟩ => ⟨S1024, .f32⟩
  | .hbm, ⟨61, _⟩ => ⟨S1x1024, .f32⟩
  | .hbm, ⟨62, _⟩ => ⟨S4x8192x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1024x6144, .bf16⟩
  | .local _ .vmem, ⟨16, _⟩ => ⟨S1x2048, .f32⟩
  | .local _ .vmem, ⟨17, _⟩ => ⟨S1x2048, .f32⟩
  | .local _ .vmem, ⟨18, _⟩ => ⟨S16x128x128, .bf16⟩
  | .local _ .vmem, ⟨19, _⟩ => ⟨S128x16, .f32⟩
  | .local _ .vmem, ⟨20, _⟩ => ⟨S2048x1024, .bf16⟩
  | .local _ .vmem, ⟨21, _⟩ => ⟨S1x1024, .f32⟩
  | .local _ .vmem, ⟨22, _⟩ => ⟨S1x1024, .f32⟩
  | .local _ .vmem, ⟨23, _⟩ => ⟨S1x512x1024, .f32⟩
  | .local _ .vmem, ⟨24, _⟩ => ⟨S1x512x1024, .f32⟩
  | .local _ .vmem, ⟨25, _⟩ => ⟨S512x1024, .f32⟩
  | .local _ .vmem, ⟨26, _⟩ => ⟨S512x1024, .bf16⟩
  | .local _ .vmem, ⟨27, _⟩ => ⟨S512x2048, .bf16⟩
  | .local _ .vmem, ⟨28, _⟩ => ⟨S512x2048, .bf16⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg17_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem17_1 : DmaSem sig := 24

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x6144 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S16x128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2048x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ReferenceIdeal.lean ====
abbrev S4x8192x1024 : Shape := ⟨3, ![4, 8192, 1024]⟩
abbrev S2x4x3072 : Shape := ⟨3, ![2, 4, 3072]⟩
abbrev S2x1024 : Shape := ⟨2, ![2, 1024]⟩
abbrev S1x1024x1024 : Shape := ⟨3, ![1, 1024, 1024]⟩
abbrev S1x1024x6144 : Shape := ⟨3, ![1, 1024, 6144]⟩
abbrev S1x2048 : Shape := ⟨2, ![1, 2048]⟩
abbrev S1x16x128x128 : Shape := ⟨4, ![1, 16, 128, 128]⟩
abbrev S1x16x128 : Shape := ⟨3, ![1, 16, 128]⟩
abbrev S1x2048x1024 : Shape := ⟨3, ![1, 2048, 1024]⟩
abbrev S1x4x3072 : Shape := ⟨3, ![1, 4, 3072]⟩
abbrev S4x3072 : Shape := ⟨2, ![4, 3072]⟩
abbrev S4x1024 : Shape := ⟨2, ![4, 1024]⟩
abbrev S1024x1024 : Shape := ⟨2, ![1024, 1024]⟩
abbrev S_ : Shape := ⟨0, ![]⟩
abbrev S4x1x1024 : Shape := ⟨3, ![4, 1, 1024]⟩
abbrev S1x1024 : Shape := ⟨2, ![1, 1024]⟩
abbrev S1024 : Shape := ⟨1, ![1024]⟩
abbrev S4x8192 : Shape := ⟨2, ![4, 8192]⟩
abbrev S4x8192x1 : Shape := ⟨3, ![4, 8192, 1]⟩
abbrev S1x1x1024 : Shape := ⟨3, ![1, 1, 1024]⟩
abbrev S1024x6144 : Shape := ⟨2, ![1024, 6144]⟩
abbrev S2048 : Shape := ⟨1, ![2048]⟩
abbrev S16x128x128 : Shape := ⟨3, ![16, 128, 128]⟩
abbrev S16x128 : Shape := ⟨2, ![16, 128]⟩
abbrev S2048x1024 : Shape := ⟨2, ![2048, 1024]⟩
abbrev S4x8192x6144 : Shape := ⟨3, ![4, 8192, 6144]⟩
abbrev S4x8192x4096 : Shape := ⟨3, ![4, 8192, 4096]⟩
abbrev S4x8192x2048 : Shape := ⟨3, ![4, 8192, 2048]⟩
abbrev S1x1x2048 : Shape := ⟨3, ![1, 1, 2048]⟩
abbrev S4x64x128x16x128 : Shape := ⟨5, ![4, 64, 128, 16, 128]⟩
abbrev S16x4x64x128x128 : Shape := ⟨5, ![16, 4, 64, 128, 128]⟩
abbrev S128x16 : Shape := ⟨2, ![128, 16]⟩
abbrev S1x1x128x16x1 : Shape := ⟨5, ![1, 1, 128, 16, 1]⟩

abbrev nBuf : Space → Nat
  | .hbm => 183
  | .vmem => 0
  | .smem => 0
  | _ => 0

abbrev hbmTy0_0 (i : Nat) : BufTy := match i % 128 with
  | 0 => ⟨S4x8192x1024, .bf16⟩
  | 1 => ⟨S4x8192x1024, .f32⟩
  | 2 => ⟨S2x4x3072, .f32⟩
  | 3 => ⟨S2x1024, .f32⟩
  | 4 => ⟨S2x1024, .f32⟩
  | 5 => ⟨S1x1024x1024, .f32⟩
  | 6 => ⟨S1x1024x6144, .f32⟩
  | 7 => ⟨S1x2048, .f32⟩
  | 8 => ⟨S1x2048, .f32⟩
  | 9 => ⟨S1x16x128x128, .f32⟩
  | 10 => ⟨S1x16x128, .f32⟩
  | 11 => ⟨S1x2048x1024, .f32⟩
  | 12 => ⟨S1x4x3072, .f32⟩
  | 13 => ⟨S4x3072, .f32⟩
  | 14 => ⟨S4x1024, .f32⟩
  | 15 => ⟨S4x1024, .f32⟩
  | 16 => ⟨S4x1024, .f32⟩
  | 17 => ⟨S4x8192x1024, .f32⟩
  | 18 => ⟨S1024x1024, .f32⟩
  | 19 => ⟨S4x8192x1024, .f32⟩
  | 20 => ⟨S_, .f32⟩
  | 21 => ⟨S4x8192x1024, .f32⟩
  | 22 => ⟨S4x8192x1024, .f32⟩
  | 23 => ⟨S4x1x1024, .f32⟩
  | 24 => ⟨S4x8192x1024, .f32⟩
  | 25 => ⟨S4x8192x1024, .f32⟩
  | 26 => ⟨S4x8192x1024, .f32⟩
  | 27 => ⟨S1x1024, .f32⟩
  | 28 => ⟨S1024, .f32⟩
  | 29 => ⟨S1x1024, .f32⟩
  | 30 => ⟨S1024, .f32⟩
  | 31 => ⟨S_, .f32⟩
  | 32 => ⟨S4x8192, .f32⟩
  | 33 => ⟨S4x8192x1, .f32⟩
  | 34 => ⟨S_, .f32⟩
  | 35 => ⟨S4x8192x1, .f32⟩
  | 36 => ⟨S4x8192x1, .f32⟩
  | 37 => ⟨S4x8192x1024, .f32⟩
  | 38 => ⟨S4x8192x1024, .f32⟩
  | 39 => ⟨S4x8192x1024, .f32⟩
  | 40 => ⟨S_, .f32⟩
  | 41 => ⟨S4x8192, .f32⟩
  | 42 => ⟨S4x8192x1, .f32⟩
  | 43 => ⟨S_, .f32⟩
  | 44 => ⟨S4x8192x1, .f32⟩
  | 45 => ⟨S4x8192x1, .f32⟩
  | 46 => ⟨S4x8192x1024, .f32⟩
  | 47 => ⟨S4x8192x1024, .f32⟩
  | 48 => ⟨S_, .f32⟩
  | 49 => ⟨S4x8192x1, .f32⟩
  | 50 => ⟨S4x8192x1, .f32⟩
  | 51 => ⟨S4x8192x1, .f32⟩
  | 52 => ⟨S4x8192x1024, .f32⟩
  | 53 => ⟨S4x8192x1024, .f32⟩
  | 54 => ⟨S1x1x1024, .f32⟩
  | 55 => ⟨S4x8192x1024, .f32⟩
  | 56 => ⟨S4x8192x1024, .f32⟩
  | 57 => ⟨S1x1x1024, .f32⟩
  | 58 => ⟨S4x8192x1024, .f32⟩
  | 59 => ⟨S4x8192x1024, .f32⟩
  | 60 => ⟨S1x4x3072, .f32⟩
  | 61 => ⟨S4x3072, .f32⟩
  | 62 => ⟨S4x1024, .f32⟩
  | 63 => ⟨S4x1024, .f32⟩
  | 64 => ⟨S4x1024, .f32⟩
  | 65 => ⟨S4x1x1024, .f32⟩
  | 66 => ⟨S_, .f32⟩
  | 67 => ⟨S4x1x1024, .f32⟩
  | 68 => ⟨S4x1x1024, .f32⟩
  | 69 => ⟨S4x8192x1024, .f32⟩
  | 70 => ⟨S4x8192x1024, .f32⟩
  | 71 => ⟨S4x1x1024, .f32⟩
  | 72 => ⟨S4x8192x1024, .f32⟩
  | 73 => ⟨S4x8192x1024, .f32⟩
  | 74 => ⟨S1024x6144, .f32⟩
  | 75 => ⟨S2048, .f32⟩
  | 76 => ⟨S2048, .f32⟩
  | 77 => ⟨S16x128x128, .f32⟩
  | 78 => ⟨S16x128, .f32⟩
  | 79 => ⟨S2048x1024, .f32⟩
  | 80 => ⟨S4x8192x6144, .f32⟩
  | 81 => ⟨S4x8192x4096, .f32⟩
  | 82 => ⟨S_, .f32⟩
  | 83 => ⟨S4x8192x4096, .f32⟩
  | 84 => ⟨S4x8192x4096, .f32⟩
  | 85 => ⟨S4x8192x4096, .f32⟩
  | 86 => ⟨S_, .f32⟩
  | 87 => ⟨S4x8192x4096, .f32⟩
  | 88 => ⟨S4x8192x4096, .f32⟩
  | 89 => ⟨S4x8192x4096, .f32⟩
  | 90 => ⟨S4x8192x4096, .f32⟩
  | 91 => ⟨S4x8192x2048, .f32⟩
  | 92 => ⟨S4x8192x2048, .f32⟩
  | 93 => ⟨S4x8192x2048, .f32⟩
  | 94 => ⟨S_, .f32⟩
  | 95 => ⟨S4x8192, .f32⟩
  | 96 => ⟨S4x8192x1, .f32⟩
  | 97 => ⟨S_, .f32⟩
  | 98 => ⟨S4x8192x1, .f32⟩
  | 99 => ⟨S4x8192x1, .f32⟩
  | 100 => ⟨S4x8192x2048, .f32⟩
  | 101 => ⟨S4x8192x2048, .f32⟩
  | 102 => ⟨S4x8192x2048, .f32⟩
  | 103 => ⟨S_, .f32⟩
  | 104 => ⟨S4x8192, .f32⟩
  | 105 => ⟨S4x8192x1, .f32⟩
  | 106 => ⟨S_, .f32⟩
  | 107 => ⟨S4x8192x1, .f32⟩
  | 108 => ⟨S4x8192x1, .f32⟩
  | 109 => ⟨S4x8192x2048, .f32⟩
  | 110 => ⟨S4x8192x2048, .f32⟩
  | 111 => ⟨S_, .f32⟩
  | 112 => ⟨S4x8192x1, .f32⟩
  | 113 => ⟨S4x8192x1, .f32⟩
  | 114 => ⟨S4x8192x1, .f32⟩
  | 115 => ⟨S4x8192x2048, .f32⟩
  | 116 => ⟨S4x8192x2048, .f32⟩
  | 117 => ⟨S1x1x2048, .f32⟩
  | 118 => ⟨S4x8192x2048, .f32⟩
  | 119 => ⟨S4x8192x2048, .f32⟩
  | 120 => ⟨S1x1x2048, .f32⟩
  | 121 => ⟨S4x8192x2048, .f32⟩
  | 122 => ⟨S4x8192x2048, .f32⟩
  | 123 => ⟨S4x64x128x16x128, .f32⟩
  | 124 => ⟨S16x4x64x128x128, .f32⟩
  | 125 => ⟨S4x64x128x16x128, .f32⟩
  | 126 => ⟨S128x16, .f32⟩
  | 127 => ⟨S1x1x128x16x1, .f32⟩
  | _ => ⟨S4x8192x1024, .bf16⟩

abbrev hbmTy0_1 (i : Nat) : BufTy := match i % 128 with
  | 0 => ⟨S4x64x128x16x128, .f32⟩
  | 1 => ⟨S4x64x128x16x128, .f32⟩
  | 2 => ⟨S4x8192x2048, .f32⟩
  | 3 => ⟨S4x8192x2048, .f32⟩
  | 4 => ⟨S4x8192x2048, .f32⟩
  | 5 => ⟨S4x8192x2048, .f32⟩
  | 6 => ⟨S_, .f32⟩
  | 7 => ⟨S4x8192x2048, .f32⟩
  | 8 => ⟨S4x8192x2048, .f32⟩
  | 9 => ⟨S_, .f32⟩
  | 10 => ⟨S4x8192x2048, .f32⟩
  | 11 => ⟨S4x8192x2048, .f32⟩
  | 12 => ⟨S4x8192x2048, .f32⟩
  | 13 => ⟨S4x8192x2048, .f32⟩
  | 14 => ⟨S4x8192x1024, .f32⟩
  | 15 => ⟨S_, .f32⟩
  | 16 => ⟨S4x8192x1024, .f32⟩
  | 17 => ⟨S4x8192x1024, .f32⟩
  | 18 => ⟨S4x1x1024, .f32⟩
  | 19 => ⟨S4x8192x1024, .f32⟩
  | 20 => ⟨S4x8192x1024, .f32⟩
  | 21 => ⟨S4x8192x1024, .f32⟩
  | 22 => ⟨S1x1024, .f32⟩
  | 23 => ⟨S1024, .f32⟩
  | 24 => ⟨S1x1024, .f32⟩
  | 25 => ⟨S1024, .f32⟩
  | 26 => ⟨S_, .f32⟩
  | 27 => ⟨S4x8192, .f32⟩
  | 28 => ⟨S4x8192x1, .f32⟩
  | 29 => ⟨S_, .f32⟩
  | 30 => ⟨S4x8192x1, .f32⟩
  | 31 => ⟨S4x8192x1, .f32⟩
  | 32 => ⟨S4x8192x1024, .f32⟩
  | 33 => ⟨S4x8192x1024, .f32⟩
  | 34 => ⟨S4x8192x1024, .f32⟩
  | 35 => ⟨S_, .f32⟩
  | 36 => ⟨S4x8192, .f32⟩
  | 37 => ⟨S4x8192x1, .f32⟩
  | 38 => ⟨S_, .f32⟩
  | 39 => ⟨S4x8192x1, .f32⟩
  | 40 => ⟨S4x8192x1, .f32⟩
  | 41 => ⟨S4x8192x1024, .f32⟩
  | 42 => ⟨S4x8192x1024, .f32⟩
  | 43 => ⟨S_, .f32⟩
  | 44 => ⟨S4x8192x1, .f32⟩
  | 45 => ⟨S4x8192x1, .f32⟩
  | 46 => ⟨S4x8192x1, .f32⟩
  | 47 => ⟨S4x8192x1024, .f32⟩
  | 48 => ⟨S4x8192x1024, .f32⟩
  | 49 => ⟨S1x1x1024, .f32⟩
  | 50 => ⟨S4x8192x1024, .f32⟩
  | 51 => ⟨S4x8192x1024, .f32⟩
  | 52 => ⟨S1x1x1024, .f32⟩
  | 53 => ⟨S4x8192x1024, .f32⟩
  | 54 => ⟨S4x8192x1024, .f32⟩
  | _ => ⟨S4x8192x1024, .bf16⟩

abbrev hbmTy (i : Nat) : BufTy := match i / 128 with
  | 0 => hbmTy0_0 i
  | 1 => hbmTy0_1 i
  | _ => ⟨S4x8192x1024, .bf16⟩

abbrev bufTy : (tb : Table) → Fin (tcTables nBuf tb) → BufTy
  | .hbm, ⟨i, _⟩ => hbmTy i
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_5 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_6 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_7 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_8 : Ref sig .tc := ⟨.hbm, 94, rfl⟩
abbrev main_v73 : Ref sig .tc := ⟨.hbm, 95, rfl⟩
abbrev main_v74 : Ref sig .tc := ⟨.hbm, 96, rfl⟩
abbrev main_cst_9 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_10 : Ref sig .tc := ⟨.hbm, 103, rfl⟩
abbrev main_v80 : Ref sig .tc := ⟨.hbm, 104, rfl⟩
abbrev main_v81 : Ref sig .tc := ⟨.hbm, 105, rfl⟩
abbrev main_cst_11 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_12 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_call0_v0 : Ref sig .tc := ⟨.hbm, 132, rfl⟩
abbrev main_call0_v1 : Ref sig .tc := ⟨.hbm, 133, rfl⟩
abbrev main_call0_cst : Ref sig .tc := ⟨.hbm, 134, rfl⟩
abbrev main_call0_v2 : Ref sig .tc := ⟨.hbm, 135, rfl⟩
abbrev main_call0_v3 : Ref sig .tc := ⟨.hbm, 136, rfl⟩
abbrev main_call0_cst_0 : Ref sig .tc := ⟨.hbm, 137, rfl⟩
abbrev main_call0_v4 : Ref sig .tc := ⟨.hbm, 138, rfl⟩
abbrev main_call0_v5 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_13 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_cst_14 : Ref sig .tc := ⟨.hbm, 154, rfl⟩
abbrev main_v119 : Ref sig .tc := ⟨.hbm, 155, rfl⟩
abbrev main_v120 : Ref sig .tc := ⟨.hbm, 156, rfl⟩
abbrev main_cst_15 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_cst_16 : Ref sig .tc := ⟨.hbm, 163, rfl⟩
abbrev main_v126 : Ref sig .tc := ⟨.hbm, 164, rfl⟩
abbrev main_v127 : Ref sig .tc := ⟨.hbm, 165, rfl⟩
abbrev main_cst_17 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_cst_18 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩

abbrev nD : Nat := 1
abbrev τ : Topo := Topo.v7x

variable {F : FTy → Type} [FloatOps F]
-- ==== Kernel2.lean ====
abbrev S4x8192x1024 : Shape := ⟨3, ![4, 8192, 1024]⟩
abbrev S2x4x3072 : Shape := ⟨3, ![2, 4, 3072]⟩
abbrev S1x1024x10240 : Shape := ⟨3, ![1, 1024, 10240]⟩
abbrev S1x4x1024 : Shape := ⟨3, ![1, 4, 1024]⟩
abbrev S4x1024 : Shape := ⟨2, ![4, 1024]⟩
abbrev S4x1x1024 : Shape := ⟨3, ![4, 1, 1024]⟩
abbrev S_ : Shape := ⟨0, ![]⟩
abbrev S1024x10240 : Shape := ⟨2, ![1024, 10240]⟩
abbrev S9x4x8x4x1024x256 : Shape := ⟨6, ![9, 4, 8, 4, 1024, 256]⟩
abbrev S4x8x4x1024x256 : Shape := ⟨5, ![4, 8, 4, 1024, 256]⟩
abbrev S1x1024x1024 : Shape := ⟨3, ![1, 1024, 1024]⟩
abbrev S1x1x1024 : Shape := ⟨3, ![1, 1, 1024]⟩
abbrev S3x1x1x4x1024x256 : Shape := ⟨6, ![3, 1, 1, 4, 1024, 256]⟩
abbrev S1x1x4x1024x256 : Shape := ⟨5, ![1, 1, 4, 1024, 256]⟩
abbrev S1024x1024 : Shape := ⟨2, ![1024, 1024]⟩
abbrev S8x1024x128 : Shape := ⟨3, ![8, 1024, 128]⟩
abbrev S1x1024x128 : Shape := ⟨3, ![1, 1024, 128]⟩
abbrev S1024x128 : Shape := ⟨2, ![1024, 128]⟩
abbrev S1x1x128 : Shape := ⟨3, ![1, 1, 128]⟩
abbrev S1x128 : Shape := ⟨2, ![1, 128]⟩
abbrev S1024x256 : Shape := ⟨2, ![1024, 256]⟩
abbrev S1x1x1x1x1024x256 : Shape := ⟨6, ![1, 1, 1, 1, 1024, 256]⟩
abbrev S1x1x1x1024x256 : Shape := ⟨5, ![1, 1, 1, 1024, 256]⟩
abbrev S1x256x128 : Shape := ⟨3, ![1, 256, 128]⟩
abbrev S256x128 : Shape := ⟨2, ![256, 128]⟩
abbrev S1x64x128 : Shape := ⟨3, ![1, 64, 128]⟩
abbrev S64x128 : Shape := ⟨2, ![64, 128]⟩

abbrev nBuf : Space → Nat
  | .hbm => 19
  | .vmem => 13
  | .smem => 0
  | _ => 0

abbrev bufTy : (tb : Table) → Fin (tcTables nBuf tb) → BufTy
  | .hbm, ⟨0, _⟩ => ⟨S4x8192x1024, .f32⟩
  | .hbm, ⟨1, _⟩ => ⟨S2x4x3072, .f32⟩
  | .hbm, ⟨2, _⟩ => ⟨S1x1024x10240, .f32⟩
  | .hbm, ⟨3, _⟩ => ⟨S1x4x1024, .f32⟩
  | .hbm, ⟨4, _⟩ => ⟨S4x1024, .f32⟩
  | .hbm, ⟨5, _⟩ => ⟨S4x1x1024, .f32⟩
  | .hbm, ⟨6, _⟩ => ⟨S1x4x1024, .f32⟩
  | .hbm, ⟨7, _⟩ => ⟨S4x1024, .f32⟩
  | .hbm, ⟨8, _⟩ => ⟨S4x1x1024, .f32⟩
  | .hbm, ⟨9, _⟩ => ⟨S_, .f32⟩
  | .hbm, ⟨10, _⟩ => ⟨S4x1x1024, .f32⟩
  | .hbm, ⟨11, _⟩ => ⟨S4x1x1024, .f32⟩
  | .hbm, ⟨12, _⟩ => ⟨S1x4x1024, .f32⟩
  | .hbm, ⟨13, _⟩ => ⟨S4x1024, .f32⟩
  | .hbm, ⟨14, _⟩ => ⟨S4x1x1024, .f32⟩
  | .hbm, ⟨15, _⟩ => ⟨S1024x10240, .f32⟩
  | .hbm, ⟨16, _⟩ => ⟨S1024x10240, .bf16⟩
  | .hbm, ⟨17, _⟩ => ⟨S9x4x8x4x1024x256, .bf16⟩
  | .hbm, ⟨18, _⟩ => ⟨S4x8x4x1024x256, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x10240, .bf16⟩
  | .local _ .vmem, ⟨7, _⟩ => ⟨S3x1x1x4x1024x256, .bf16⟩
  | .local _ .vmem, ⟨8, _⟩ => ⟨S3x1x1x4x1024x256, .bf16⟩
  | .local _ .vmem, ⟨9, _⟩ => ⟨S1x1x4x1024x256, .bf16⟩
  | .local _ .vmem, ⟨10, _⟩ => ⟨S1x1x4x1024x256, .bf16⟩
  | .local _ .vmem, ⟨11, _⟩ => ⟨S1024x1024, .bf16⟩
  | .local _ .vmem, ⟨12, _⟩ => ⟨S8x1024x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13_0 : Ref sig .tc := ⟨.hbm, 17, rfl⟩
abbrev main_v13_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 8, 3], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg2 : BitVec 32 := BitVec.ofNat 32 (i 2).val
  let c2_i32 : BitVec 32 := 2#32
  let v6 : BitVec 1 := Scalar.cmpi .eq arg2 c2_i32
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg2.toNat, arg0.toNat, arg1.toNat, c0_i32.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1024x10240 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S3x1x1x4x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x4x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S4x8192x1024 : Shape := ⟨3, ![4, 8192, 1024]⟩
abbrev S2x4x3072 : Shape := ⟨3, ![2, 4, 3072]⟩
abbrev S1x1024x10240 : Shape := ⟨3, ![1, 1024, 10240]⟩
abbrev S1x4x3072 : Shape := ⟨3, ![1, 4, 3072]⟩
abbrev S4x3072 : Shape := ⟨2, ![4, 3072]⟩
abbrev S4x1024 : Shape := ⟨2, ![4, 1024]⟩
abbrev S4x1x1024 : Shape := ⟨3, ![4, 1, 1024]⟩
abbrev S_ : Shape := ⟨0, ![]⟩
abbrev S1024x10240 : Shape := ⟨2, ![1024, 10240]⟩
abbrev S4x8192x10240 : Shape := ⟨3, ![4, 8192, 10240]⟩
abbrev S4x8192x3072 : Shape := ⟨3, ![4, 8192, 3072]⟩
abbrev S4x8192x3x1024 : Shape := ⟨4, ![4, 8192, 3, 1024]⟩
abbrev S4x8192x1x1024 : Shape := ⟨4, ![4, 8192, 1, 1024]⟩
abbrev S4x8x1024x1x4x256 : Shape := ⟨6, ![4, 8, 1024, 1, 4, 256]⟩
abbrev S4x8x4x1x1024x256 : Shape := ⟨6, ![4, 8, 4, 1, 1024, 256]⟩
abbrev S4x8x4x1024x256 : Shape := ⟨5, ![4, 8, 4, 1024, 256]⟩
abbrev S4x8x256x4x4x256 : Shape := ⟨6, ![4, 8, 256, 4, 4, 256]⟩
abbrev S4x8x4x4x256x256 : Shape := ⟨6, ![4, 8, 4, 4, 256, 256]⟩
abbrev S4x8x64x16x4x256 : Shape := ⟨6, ![4, 8, 64, 16, 4, 256]⟩
abbrev S4x8x4x16x64x256 : Shape := ⟨6, ![4, 8, 4, 16, 64, 256]⟩
abbrev S4x8x1024x4x256 : Shape := ⟨5, ![4, 8, 1024, 4, 256]⟩
abbrev S1x4x8x4x1024x256 : Shape := ⟨6, ![1, 4, 8, 4, 1024, 256]⟩
abbrev S9x4x8x4x1024x256 : Shape := ⟨6, ![9, 4, 8, 4, 1024, 256]⟩

abbrev nBuf : Space → Nat
  | .hbm => 103
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x4x3072, .f32⟩
  | .hbm, ⟨2, _⟩ => ⟨S1x1024x10240, .f32⟩
  | .hbm, ⟨3, _⟩ => ⟨S1x4x3072, .f32⟩
  | .hbm, ⟨4, _⟩ => ⟨S4x3072, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S4x1x1024, .f32⟩
  | .hbm, ⟨9, _⟩ => ⟨S_, .f32⟩
  | .hbm, ⟨10, _⟩ => ⟨S4x1x1024, .f32⟩
  | .hbm, ⟨11, _⟩ => ⟨S4x1x1024, .f32⟩
  | .hbm, ⟨12, _⟩ => ⟨S4x8192x1024, .f32⟩
  | .hbm, ⟨13, _⟩ => ⟨S4x8192x1024, .f32⟩
  | .hbm, ⟨14, _⟩ => ⟨S4x1x1024, .f32⟩
  | .hbm, ⟨15, _⟩ => ⟨S4x8192x1024, .f32⟩
  | .hbm, ⟨16, _⟩ => ⟨S4x8192x1024, .f32⟩
  | .hbm, ⟨17, _⟩ => ⟨S1024x10240, .f32⟩
  | .hbm, ⟨18, _⟩ => ⟨S4x8192x10240, .f32⟩
  | .hbm, ⟨19, _⟩ => ⟨S4x8192x3072, .f32⟩
  | .hbm, ⟨20, _⟩ => ⟨S4x8192x3x1024, .f32⟩
  | .hbm, ⟨21, _⟩ => ⟨S4x8192x1x1024, .f32⟩
  | .hbm, ⟨22, _⟩ => ⟨S4x8192x1024, .f32⟩
  | .hbm, ⟨23, _⟩ => ⟨S_, .f32⟩
  | .hbm, ⟨24, _⟩ => ⟨S4x8192x1024, .f32⟩
  | .hbm, ⟨25, _⟩ => ⟨S4x8192x1024, .f32⟩
  | .hbm, ⟨26, _⟩ => ⟨S4x8192x1x1024, .f32⟩
  | .hbm, ⟨27, _⟩ => ⟨S4x8192x1024, .f32⟩
  | .hbm, ⟨28, _⟩ => ⟨S4x8192x1x1024, .f32⟩
  | .hbm, ⟨29, _⟩ => ⟨S4x8192x1024, .f32⟩
  | .hbm, ⟨30, _⟩ => ⟨S4x8x1024x1x4x256, .f32⟩
  | .hbm, ⟨31, _⟩ => ⟨S4x8x4x1x1024x256, .f32⟩
  | .hbm, ⟨32, _⟩ => ⟨S4x8x4x1024x256, .f32⟩
  | .hbm, ⟨33, _⟩ => ⟨S4x8x1024x1x4x256, .f32⟩
  | .hbm, ⟨34, _⟩ => ⟨S4x8x4x1x1024x256, .f32⟩
  | .hbm, ⟨35, _⟩ => ⟨S4x8x4x1024x256, .f32⟩
  | .hbm, ⟨36, _⟩ => ⟨S4x8x1024x1x4x256, .f32⟩
  | .hbm, ⟨37, _⟩ => ⟨S4x8x4x1x1024x256, .f32⟩
  | .hbm, ⟨38, _⟩ => ⟨S4x8x4x1024x256, .f32⟩
  | .hbm, ⟨39, _⟩ => ⟨S4x8192x3072, .f32⟩
  | .hbm, ⟨40, _⟩ => ⟨S4x8192x3x1024, .f32⟩
  | .hbm, ⟨41, _⟩ => ⟨S4x8192x1x1024, .f32⟩
  | .hbm, ⟨42, _⟩ => ⟨S4x8192x1024, .f32⟩
  | .hbm, ⟨43, _⟩ => ⟨S_, .f32⟩
  | .hbm, ⟨44, _⟩ => ⟨S4x8192x1024, .f32⟩
  | .hbm, ⟨45, _⟩ => ⟨S4x8192x1024, .f32⟩
  | .hbm, ⟨46, _⟩ => ⟨S4x8192x1x1024, .f32⟩
  | .hbm, ⟨47, _⟩ => ⟨S4x8192x1024, .f32⟩
  | .hbm, ⟨48, _⟩ => ⟨S4x8192x1x1024, .f32⟩
  | .hbm, ⟨49, _⟩ => ⟨S4x8192x1024, .f32⟩
  | .hbm, ⟨50, _⟩ => ⟨S4x8x256x4x4x256, .f32⟩
  | .hbm, ⟨51, _⟩ => ⟨S4x8x4x4x256x256, .f32⟩
  | .hbm, ⟨52, _⟩ => ⟨S4x8x4x1024x256, .f32⟩
  | .hbm, ⟨53, _⟩ => ⟨S4x8x256x4x4x256, .f32⟩
  | .hbm, ⟨54, _⟩ => ⟨S4x8x4x4x256x256, .f32⟩
  | .hbm, ⟨55, _⟩ => ⟨S4x8x4x1024x256, .f32⟩
  | .hbm, ⟨56, _⟩ => ⟨S4x8x256x4x4x256, .f32⟩
  | .hbm, ⟨57, _⟩ => ⟨S4x8x4x4x256x256, .f32⟩
  | .hbm, ⟨58, _⟩ => ⟨S4x8x4x1024x256, .f32⟩
  | .hbm, ⟨59, _⟩ => ⟨S4x8192x3072, .f32⟩
  | .hbm, ⟨60, _⟩ => ⟨S4x8192x3x1024, .f32⟩
  | .hbm, ⟨61, _⟩ => ⟨S4x8192x1x1024, .f32⟩
  | .hbm, ⟨62, _⟩ => ⟨S4x8192x1024, .f32⟩
  | .hbm, ⟨63, _⟩ => ⟨S_, .f32⟩
  | .hbm, ⟨64, _⟩ => ⟨S4x8192x1024, .f32⟩
  | .hbm, ⟨65, _⟩ => ⟨S4x8192x1024, .f32⟩
  | .hbm, ⟨66, _⟩ => ⟨S4x8192x1x1024, .f32⟩
  | .hbm, ⟨67, _⟩ => ⟨S4x8192x1024, .f32⟩
  | .hbm, ⟨68, _⟩ => ⟨S4x8192x1x1024, .f32⟩
  | .hbm, ⟨69, _⟩ => ⟨S4x8192x1024, .f32⟩
  | .hbm, ⟨70, _⟩ => ⟨S4x8x64x16x4x256, .f32⟩
  | .hbm, ⟨71, _⟩ => ⟨S4x8x4x16x64x256, .f32⟩
  | .hbm, ⟨72, _⟩ => ⟨S4x8x4x1024x256, .f32⟩
  | .hbm, ⟨73, _⟩ => ⟨S4x8x64x16x4x256, .f32⟩
  | .hbm, ⟨74, _⟩ => ⟨S4x8x4x16x64x256, .f32⟩
  | .hbm, ⟨75, _⟩ => ⟨S4x8x4x1024x256, .f32⟩
  | .hbm, ⟨76, _⟩ => ⟨S4x8x64x16x4x256, .f32⟩
  | .hbm, ⟨77, _⟩ => ⟨S4x8x4x16x64x256, .f32⟩
  | .hbm, ⟨78, _⟩ => ⟨S4x8x4x1024x256, .f32⟩
  | .hbm, ⟨79, _⟩ => ⟨S4x8192x1024, .f32⟩
  | .hbm, ⟨80, _⟩ => ⟨S4x8192x1024, .f32⟩
  | .hbm, ⟨81, _⟩ => ⟨S4x8192x1024, .f32⟩
  | .hbm, ⟨82, _⟩ => ⟨S_, .f32⟩
  | .hbm, ⟨83, _⟩ => ⟨S4x8192x1024, .f32⟩
  | .hbm, ⟨84, _⟩ => ⟨S4x8192x1024, .f32⟩
  | .hbm, ⟨85, _⟩ => ⟨S_, .f32⟩
  | .hbm, ⟨86, _⟩ => ⟨S4x8192x1024, .f32⟩
  | .hbm, ⟨87, _⟩ => ⟨S4x8192x1024, .f32⟩
  | .hbm, ⟨88, _⟩ => ⟨S4x8192x1024, .f32⟩
  | .hbm, ⟨89, _⟩ => ⟨S4x8x1024x4x256, .f32⟩
  | .hbm, ⟨90, _⟩ => ⟨S1x4x8x4x1024x256, .f32⟩
  | .hbm, ⟨91, _⟩ => ⟨S1x4x8x4x1024x256, .f32⟩
  | .hbm, ⟨92, _⟩ => ⟨S1x4x8x4x1024x256, .f32⟩
  | .hbm, ⟨93, _⟩ => ⟨S1x4x8x4x1024x256, .f32⟩
  | .hbm, ⟨94, _⟩ => ⟨S1x4x8x4x1024x256, .f32⟩
  | .hbm, ⟨95, _⟩ => ⟨S1x4x8x4x1024x256, .f32⟩
  | .hbm, ⟨96, _⟩ => ⟨S1x4x8x4x1024x256, .f32⟩
  | .hbm, ⟨97, _⟩ => ⟨S1x4x8x4x1024x256, .f32⟩
  | .hbm, ⟨98, _⟩ => ⟨S1x4x8x4x1024x256, .f32⟩
  | .hbm, ⟨99, _⟩ => ⟨S9x4x8x4x1024x256, .f32⟩
  | .hbm, ⟨100, _⟩ => ⟨S9x4x8x4x1024x256, .bf16⟩
  | .hbm, ⟨101, _⟩ => ⟨S4x8x4x1024x256, .f32⟩
  | .hbm, ⟨102, _⟩ => ⟨S4x8x4x1024x256, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_1 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_cst_2 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_call0_v0 : Ref sig .tc := ⟨.hbm, 80, rfl⟩
abbrev main_call0_v1 : Ref sig .tc := ⟨.hbm, 81, rfl⟩
abbrev main_call0_cst : Ref sig .tc := ⟨.hbm, 82, rfl⟩
abbrev main_call0_v2 : Ref sig .tc := ⟨.hbm, 83, rfl⟩
abbrev main_call0_v3 : Ref sig .tc := ⟨.hbm, 84, rfl⟩
abbrev main_call0_cst_0 : Ref sig .tc := ⟨.hbm, 85, rfl⟩
abbrev main_call0_v4 : Ref sig .tc := ⟨.hbm, 86, rfl⟩
abbrev main_call0_v5 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩

abbrev nD : Nat := 1
abbrev τ : Topo := Topo.v7x

variable {F : FTy → Type} [FloatOps F]
-- ==== Kernel3.lean ====
abbrev S4x1024 : Shape := ⟨2, ![4, 1024]⟩
abbrev S2x1024x3072 : Shape := ⟨3, ![2, 1024, 3072]⟩
abbrev S2x3072 : Shape := ⟨2, ![2, 3072]⟩
abbrev S1024x4 : Shape := ⟨2, ![1024, 4]⟩
abbrev S2x1x3072 : Shape := ⟨3, ![2, 1, 3072]⟩
abbrev S2x4x3072 : Shape := ⟨3, ![2, 4, 3072]⟩
abbrev S1x1024x1024 : Shape := ⟨3, ![1, 1024, 1024]⟩
abbrev S1x1x1024 : Shape := ⟨3, ![1, 1, 1024]⟩
abbrev S1x4x1024 : Shape := ⟨3, ![1, 4, 1024]⟩
abbrev S1024x1024 : Shape := ⟨2, ![1024, 1024]⟩
abbrev S1024x1 : Shape := ⟨2, ![1024, 1]⟩
abbrev S1024 : Shape := ⟨1, ![1024]⟩
abbrev S1x1024 : Shape := ⟨2, ![1, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S2x1024x3072, .f32⟩
  | .hbm, ⟨2, _⟩ => ⟨S2x3072, .f32⟩
  | .hbm, ⟨3, _⟩ => ⟨S1024x4, .f32⟩
  | .hbm, ⟨4, _⟩ => ⟨S2x1x3072, .f32⟩
  | .hbm, ⟨5, _⟩ => ⟨S2x4x3072, .f32⟩
  | .local _ .vmem, ⟨0, _⟩ => ⟨S1024x4, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x4x1024, .f32⟩
  | .local _ .vmem, ⟨6, _⟩ => ⟨S1x4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1024x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S4x1024 : Shape := ⟨2, ![4, 1024]⟩
abbrev S2x1024x3072 : Shape := ⟨3, ![2, 1024, 3072]⟩
abbrev S2x3072 : Shape := ⟨2, ![2, 3072]⟩
abbrev S_ : Shape := ⟨0, ![]⟩
abbrev S1x1024x3072 : Shape := ⟨3, ![1, 1024, 3072]⟩
abbrev S1024x3072 : Shape := ⟨2, ![1024, 3072]⟩
abbrev S4x3072 : Shape := ⟨2, ![4, 3072]⟩
abbrev S1x3072 : Shape := ⟨2, ![1, 3072]⟩
abbrev S3072 : Shape := ⟨1, ![3072]⟩
abbrev S1x4x3072 : Shape := ⟨3, ![1, 4, 3072]⟩
abbrev S2x4x3072 : Shape := ⟨3, ![2, 4, 3072]⟩

abbrev nBuf : Space → Nat
  | .hbm => 31
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S2x1024x3072, .f32⟩
  | .hbm, ⟨2, _⟩ => ⟨S2x3072, .f32⟩
  | .hbm, ⟨3, _⟩ => ⟨S4x1024, .f32⟩
  | .hbm, ⟨4, _⟩ => ⟨S4x1024, .f32⟩
  | .hbm, ⟨5, _⟩ => ⟨S_, .f32⟩
  | .hbm, ⟨6, _⟩ => ⟨S4x1024, .f32⟩
  | .hbm, ⟨7, _⟩ => ⟨S4x1024, .f32⟩
  | .hbm, ⟨8, _⟩ => ⟨S_, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S1x1024x3072, .f32⟩
  | .hbm, ⟨13, _⟩ => ⟨S1024x3072, .f32⟩
  | .hbm, ⟨14, _⟩ => ⟨S4x3072, .f32⟩
  | .hbm, ⟨15, _⟩ => ⟨S1x3072, .f32⟩
  | .hbm, ⟨16, _⟩ => ⟨S3072, .f32⟩
  | .hbm, ⟨17, _⟩ => ⟨S1x3072, .f32⟩
  | .hbm, ⟨18, _⟩ => ⟨S4x3072, .f32⟩
  | .hbm, ⟨19, _⟩ => ⟨S4x3072, .f32⟩
  | .hbm, ⟨20, _⟩ => ⟨S1x1024x3072, .f32⟩
  | .hbm, ⟨21, _⟩ => ⟨S1024x3072, .f32⟩
  | .hbm, ⟨22, _⟩ => ⟨S4x3072, .f32⟩
  | .hbm, ⟨23, _⟩ => ⟨S1x3072, .f32⟩
  | .hbm, ⟨24, _⟩ => ⟨S3072, .f32⟩
  | .hbm, ⟨25, _⟩ => ⟨S1x3072, .f32⟩
  | .hbm, ⟨26, _⟩ => ⟨S4x3072, .f32⟩
  | .hbm, ⟨27, _⟩ => ⟨S4x3072, .f32⟩
  | .hbm, ⟨28, _⟩ => ⟨S1x4x3072, .f32⟩
  | .hbm, ⟨29, _⟩ => ⟨S1x4x3072, .f32⟩
  | .hbm, ⟨30, _⟩ => ⟨S2x4x3072, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel4.lean ====
abbrev S9x4x8x4x1024x256 : Shape := ⟨6, ![9, 4, 8, 4, 1024, 256]⟩
abbrev S4x8x4x1024x256 : Shape := ⟨5, ![4, 8, 4, 1024, 256]⟩
abbrev S48 : Shape := ⟨1, ![48]⟩
abbrev S_ : Shape := ⟨0, ![]⟩
abbrev S9x4x8x4x1x1024x256 : Shape := ⟨7, ![9, 4, 8, 4, 1, 1024, 256]⟩
abbrev S9x4x8x4x1x16x64x256 : Shape := ⟨8, ![9, 4, 8, 4, 1, 16, 64, 256]⟩
abbrev S9x4x8x4x4x256x256 : Shape := ⟨7, ![9, 4, 8, 4, 4, 256, 256]⟩
abbrev S9x4x8x4x4x4x64x256 : Shape := ⟨8, ![9, 4, 8, 4, 4, 4, 64, 256]⟩
abbrev S9x4x8x4x16x64x256 : Shape := ⟨7, ![9, 4, 8, 4, 16, 64, 256]⟩
abbrev S9x4x8x4x16x1x64x256 : Shape := ⟨8, ![9, 4, 8, 4, 16, 1, 64, 256]⟩
abbrev S4x8192x1024 : Shape := ⟨3, ![4, 8192, 1024]⟩
abbrev S1x1x1x1x1x1024x256 : Shape := ⟨7, ![1, 1, 1, 1, 1, 1024, 256]⟩
abbrev S1x1x1x1x1x1x64x256 : Shape := ⟨8, ![1, 1, 1, 1, 1, 1, 64, 256]⟩
abbrev S1x1x1x1x4x256x256 : Shape := ⟨7, ![1, 1, 1, 1, 4, 256, 256]⟩
abbrev S1x1x1x1x4x1x64x256 : Shape := ⟨8, ![1, 1, 1, 1, 4, 1, 64, 256]⟩
abbrev S1x1x1x1x16x64x256 : Shape := ⟨7, ![1, 1, 1, 1, 16, 64, 256]⟩
abbrev S1x1x1x1x16x1x64x256 : Shape := ⟨8, ![1, 1, 1, 1, 16, 1, 64, 256]⟩
abbrev S1x1x1x1024x256 : Shape := ⟨5, ![1, 1, 1, 1024, 256]⟩
abbrev S1x1024x256 : Shape := ⟨3, ![1, 1024, 256]⟩
abbrev S3x3x192x256 : Shape := ⟨4, ![3, 3, 192, 256]⟩
abbrev S2x2x192x256 : Shape := ⟨4, ![2, 2, 192, 256]⟩
abbrev S2x2x256x256 : Shape := ⟨4, ![2, 2, 256, 256]⟩
abbrev S3x2x1024x128 : Shape := ⟨4, ![3, 2, 1024, 128]⟩
abbrev S1x256 : Shape := ⟨2, ![1, 256]⟩
abbrev S192x256 : Shape := ⟨2, ![192, 256]⟩
abbrev S1x128 : Shape := ⟨2, ![1, 128]⟩
abbrev S64x128 : Shape := ⟨2, ![64, 128]⟩
abbrev S64x256 : Shape := ⟨2, ![64, 256]⟩
abbrev S2x2x64x256 : Shape := ⟨4, ![2, 2, 64, 256]⟩
abbrev S1 : Shape := ⟨1, ![1]⟩
abbrev S1x1x192x256 : Shape := ⟨4, ![1, 1, 192, 256]⟩
abbrev S1x1x1x1x1x64x256 : Shape := ⟨7, ![1, 1, 1, 1, 1, 64, 256]⟩
abbrev S256x256 : Shape := ⟨2, ![256, 256]⟩
abbrev S1x1x1x1x1x192x256 : Shape := ⟨7, ![1, 1, 1, 1, 1, 192, 256]⟩
abbrev S256 : Shape := ⟨1, ![256]⟩
abbrev S1x1x256x256 : Shape := ⟨4, ![1, 1, 256, 256]⟩
abbrev S13x256 : Shape := ⟨2, ![13, 256]⟩
abbrev S16x256 : Shape := ⟨2, ![16, 256]⟩
abbrev S1x1x16x256 : Shape := ⟨4, ![1, 1, 16, 256]⟩
abbrev S192x128 : Shape := ⟨2, ![192, 128]⟩
abbrev S256x128 : Shape := ⟨2, ![256, 128]⟩
abbrev S128x256 : Shape := ⟨2, ![128, 256]⟩
abbrev S1x1x64x128 : Shape := ⟨4, ![1, 1, 64, 128]⟩
abbrev S1x1x128x128 : Shape := ⟨4, ![1, 1, 128, 128]⟩
abbrev S128x128 : Shape := ⟨2, ![128, 128]⟩
abbrev S1x1x1x128x128 : Shape := ⟨5, ![1, 1, 1, 128, 128]⟩
abbrev S1x128x128 : Shape := ⟨3, ![1, 128, 128]⟩

abbrev nBuf : Space → Nat
  | .hbm => 22
  | .vmem => 51
  | .smem => 1
  | _ => 0

abbrev bufTy : (tb : Table) → Fin (tcTables nBuf tb) → BufTy
  | .hbm, ⟨0, _⟩ => ⟨S9x4x8x4x1024x256, .bf16⟩
  | .hbm, ⟨1, _⟩ => ⟨S4x8x4x1024x256, .bf16⟩
  | .hbm, ⟨2, _⟩ => ⟨S48, .f32⟩
  | .hbm, ⟨3, _⟩ => ⟨S_, .f32⟩
  | .hbm, ⟨4, _⟩ => ⟨S48, .f32⟩
  | .hbm, ⟨5, _⟩ => ⟨S48, .f32⟩
  | .hbm, ⟨6, _⟩ => ⟨S_, .f32⟩
  | .hbm, ⟨7, _⟩ => ⟨S48, .f32⟩
  | .hbm, ⟨8, _⟩ => ⟨S48, .f32⟩
  | .hbm, ⟨9, _⟩ => ⟨S_, .f32⟩
  | .hbm, ⟨10, _⟩ => ⟨S48, .f32⟩
  | .hbm, ⟨11, _⟩ => ⟨S48, .f32⟩
  | .hbm, ⟨12, _⟩ => ⟨S_, .f32⟩
  | .hbm, ⟨13, _⟩ => ⟨S48, .f32⟩
  | .hbm, ⟨14, _⟩ => ⟨S48, .f32⟩
  | .hbm, ⟨15, _⟩ => ⟨S9x4x8x4x1x1024x256, .bf16⟩
  | .hbm, ⟨16, _⟩ => ⟨S9x4x8x4x1x16x64x256, .bf16⟩
  | .hbm, ⟨17, _⟩ => ⟨S9x4x8x4x4x256x256, .bf16⟩
  | .hbm, ⟨18, _⟩ => ⟨S9x4x8x4x4x4x64x256, .bf16⟩
  | .hbm, ⟨19, _⟩ => ⟨S9x4x8x4x16x64x256, .bf16⟩
  | .hbm, ⟨20, _⟩ => ⟨S9x4x8x4x16x1x64x256, .bf16⟩
  | .hbm, ⟨21, _⟩ => ⟨S4x8192x1024, .bf16⟩
  | .local _ .vmem, ⟨0, _⟩ => ⟨S1x1x1x1x1x1024x256, .bf16⟩
  | .local _ .vmem, ⟨1, _⟩ => ⟨S1x1x1x1x1x1024x256, .bf16⟩
  | .local _ .vmem, ⟨2, _⟩ => ⟨S1x1x1x1x1x1024x256, .bf16⟩
  | .local _ .vmem, ⟨3, _⟩ => ⟨S1x1x1x1x1x1024x256, .bf16⟩
  | .local _ .vmem, ⟨4, _⟩ => ⟨S1x1x1x1x1x1024x256, .bf16⟩
  | .local _ .vmem, ⟨5, _⟩ => ⟨S1x1x1x1x1x1024x256, .bf16⟩
  | .local _ .vmem, ⟨6, _⟩ => ⟨S1x1x1x1x1x1x64x256, .bf16⟩
  | .local _ .vmem, ⟨7, _⟩ => ⟨S1x1x1x1x1x1x64x256, .bf16⟩
  | .local _ .vmem, ⟨8, _⟩ => ⟨S1x1x1x1x1x1x64x256, .bf16⟩
  | .local _ .vmem, ⟨9, _⟩ => ⟨S1x1x1x1x1x1x64x256, .bf16⟩
  | .local _ .vmem, ⟨10, _⟩ => ⟨S1x1x1x1x1x1x64x256, .bf16⟩
  | .local _ .vmem, ⟨11, _⟩ => ⟨S1x1x1x1x1x1x64x256, .bf16⟩
  | .local _ .vmem, ⟨12, _⟩ => ⟨S1x1x1x1x1x1x64x256, .bf16⟩
  | .local _ .vmem, ⟨13, _⟩ => ⟨S1x1x1x1x1x1x64x256, .bf16⟩
  | .local _ .vmem, ⟨14, _⟩ => ⟨S1x1x1x1x4x256x256, .bf16⟩
  | .local _ .vmem, ⟨15, _⟩ => ⟨S1x1x1x1x4x256x256, .bf16⟩
  | .local _ .vmem, ⟨16, _⟩ => ⟨S1x1x1x1x4x256x256, .bf16⟩
  | .local _ .vmem, ⟨17, _⟩ => ⟨S1x1x1x1x4x256x256, .bf16⟩
  | .local _ .vmem, ⟨18, _⟩ => ⟨S1x1x1x1x4x256x256, .bf16⟩
  | .local _ .vmem, ⟨19, _⟩ => ⟨S1x1x1x1x4x256x256, .bf16⟩
  | .local _ .vmem, ⟨20, _⟩ => ⟨S1x1x1x1x4x1x64x256, .bf16⟩
  | .local _ .vmem, ⟨21, _⟩ => ⟨S1x1x1x1x4x1x64x256, .bf16⟩
  | .local _ .vmem, ⟨22, _⟩ => ⟨S1x1x1x1x4x1x64x256, .bf16⟩
  | .local _ .vmem, ⟨23, _⟩ => ⟨S1x1x1x1x4x1x64x256, .bf16⟩
  | .local _ .vmem, ⟨24, _⟩ => ⟨S1x1x1x1x4x1x64x256, .bf16⟩
  | .local _ .vmem, ⟨25, _⟩ => ⟨S1x1x1x1x4x1x64x256, .bf16⟩
  | .local _ .vmem, ⟨26, _⟩ => ⟨S1x1x1x1x4x1x64x256, .bf16⟩
  | .local _ .vmem, ⟨27, _⟩ => ⟨S1x1x1x1x4x1x64x256, .bf16⟩
  | .local _ .vmem, ⟨28, _⟩ => ⟨S1x1x1x1x16x64x256, .bf16⟩
  | .local _ .vmem, ⟨29, _⟩ => ⟨S1x1x1x1x16x64x256, .bf16⟩
  | .local _ .vmem, ⟨30, _⟩ => ⟨S1x1x1x1x16x64x256, .bf16⟩
  | .local _ .vmem, ⟨31, _⟩ => ⟨S1x1x1x1x16x64x256, .bf16⟩
  | .local _ .vmem, ⟨32, _⟩ => ⟨S1x1x1x1x16x64x256, .bf16⟩
  | .local _ .vmem, ⟨33, _⟩ => ⟨S1x1x1x1x16x64x256, .bf16⟩
  | .local _ .vmem, ⟨34, _⟩ => ⟨S1x1x1x1x16x1x64x256, .bf16⟩
  | .local _ .vmem, ⟨35, _⟩ => ⟨S1x1x1x1x16x1x64x256, .bf16⟩
  | .local _ .vmem, ⟨36, _⟩ => ⟨S1x1x1x1x16x1x64x256, .bf16⟩
  | .local _ .vmem, ⟨37, _⟩ => ⟨S1x1x1x1x16x1x64x256, .bf16⟩
  | .local _ .vmem, ⟨38, _⟩ => ⟨S1x1x1x1x16x1x64x256, .bf16⟩
  | .local _ .vmem, ⟨39, _⟩ => ⟨S1x1x1x1x16x1x64x256, .bf16⟩
  | .local _ .vmem, ⟨40, _⟩ => ⟨S1x1x1x1x16x1x64x256, .bf16⟩
  | .local _ .vmem, ⟨41, _⟩ => ⟨S1x1x1x1x16x1x64x256, .bf16⟩
  | .local _ .vmem, ⟨42, _⟩ => ⟨S1x1x1x1024x256, .bf16⟩
  | .local _ .vmem, ⟨43, _⟩ => ⟨S1x1x1x1024x256, .bf16⟩
  | .local _ .vmem, ⟨44, _⟩ => ⟨S1x1024x256, .bf16⟩
  | .local _ .vmem, ⟨45, _⟩ => ⟨S1x1024x256, .bf16⟩
  | .local _ .vmem, ⟨46, _⟩ => ⟨S3x3x192x256, .f32⟩
  | .local _ .vmem, ⟨47, _⟩ => ⟨S2x2x192x256, .f32⟩
  | .local _ .vmem, ⟨48, _⟩ => ⟨S2x2x256x256, .bf16⟩
  | .local _ .vmem, ⟨49, _⟩ => ⟨S3x2x1024x128, .f32⟩
  | .local _ .vmem, ⟨50, _⟩ => ⟨S3x2x1024x128, .f32⟩
  | .local _ .smem, ⟨0, _⟩ => ⟨S48, .f32⟩
  | _, _ => ⟨S9x4x8x4x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .smem, ⟨0, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_stg21_0 : Ref sig .tc := ⟨.vmem, 40, rfl⟩
abbrev cc0_stg21_1 : Ref sig .tc := ⟨.vmem, 41, rfl⟩
abbrev cc0_stg22_0 : Ref sig .tc := ⟨.vmem, 42, rfl⟩
abbrev cc0_stg22_1 : Ref sig .tc := ⟨.vmem, 43, rfl⟩
abbrev cc0_stg23_0 : Ref sig .tc := ⟨.vmem, 44, rfl⟩
abbrev cc0_stg23_1 : Ref sig .tc := ⟨.vmem, 45, rfl⟩
abbrev cc0_scratch0 : Ref sig .tc := ⟨.vmem, 46, rfl⟩
abbrev cc0_scratch1 : Ref sig .tc := ⟨.vmem, 47, rfl⟩
abbrev cc0_scratch2 : Ref sig .tc := ⟨.vmem, 48, rfl⟩
abbrev cc0_scratch3 : Ref sig .tc := ⟨.vmem, 49, rfl⟩
abbrev cc0_scratch4 : Ref sig .tc := ⟨.vmem, 50, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40
abbrev cc0_sem21_0 : DmaSem sig := 41
abbrev cc0_sem21_1 : DmaSem sig := 42
abbrev cc0_sem22_0 : DmaSem sig := 43
abbrev cc0_sem22_1 : DmaSem sig := 44
abbrev cc0_sem23_0 : DmaSem sig := 45
abbrev cc0_sem23_1 : DmaSem sig := 46

abbrev nD : Nat := 1
abbrev τ : Topo := Topo.v7x

variable {F : FTy → Type} [FloatOps F]

abbrev grid0 : Pipeline.Grid := ⟨3, ![4, 8, 4], ![false, false, false]⟩

def k0_off1 (i : grid0.Coords) (c0_i32_25 : BitVec 32) (c0_i32_26 : BitVec 32) : Fin 1 → Nat :=
  let arg2 : BitVec 32 := BitVec.ofNat 32 (i 2).val
  let c4_i32 : BitVec 32 := 4#32
  let v76 : BitVec 32 := Scalar.muli arg2 c4_i32
  let v77 : BitVec 32 := Scalar.addi c0_i32_25 v76
  let v78 : BitVec 32 := Scalar.addi v77 c0_i32_26
  let v79 : Index := Scalar.indexCast v78
  ![v79.toNat]
def k0_off2 (i : grid0.Coords) (v_true : BitVec 1) (v_false : BitVec 1) : Fin 4 → Nat :=
  let c1_142 : Index := 1#32
  let arg1 : BitVec 32 := BitVec.ofNat 32 (i 1).val
  let c0_i32_137 : BitVec 32 := 0#32
  let v245 : BitVec 1 := Scalar.cmpi .eq arg1 c0_i32_137
  let v246 : BitVec 1 := Scalar.andi v245 v_true
  let c1_i32_140 : BitVec 32 := 1#32
  let c7_i32 : BitVec 32 := 7#32
  let v247 : BitVec 1 := Scalar.cmpi .eq arg1 c7_i32
  let v248 : BitVec 1 := Scalar.andi v247 v_false
  let c2_i32_138 : BitVec 32 := 2#32
  let c0_i32_139 : BitVec 32 := 0#32
  let v249 : BitVec 32 := Scalar.select v248 c2_i32_138 c0_i32_139
  let v250 : BitVec 32 := Scalar.select v246 c1_i32_140 v249
  let v252 : Index := Scalar.indexCast v250
  let c0_143 : Index := 0#32
  let c0_144 : Index := 0#32
  ![1, v252.toNat, 0, 0]
def k0_off2_at (r : Fin 3) : BitVec 1 × BitVec 1 :=
  if r.val < 1 then
    (1#1, 0#1)
  else
    if r.val < 2 then
      (0#1, 0#1)
    else
      (0#1, 1#1)
def k0_off3 (i : grid0.Coords) : Fin 4 → Nat :=
  let c2_1638 : Index := 2#32
  let arg1 : BitVec 32 := BitVec.ofNat 32 (i 1).val
  let c0_i32_1630 : BitVec 32 := 0#32
  let v2052 : BitVec 1 := Scalar.cmpi .eq arg1 c0_i32_1630
  let true_1631 : BitVec 1 := 1#1
  let v2053 : BitVec 1 := Scalar.andi v2052 true_1631
  let c1_i32_1636 : BitVec 32 := 1#32
  let c7_i32_1632 : BitVec 32 := 7#32
  let v2054 : BitVec 1 := Scalar.cmpi .eq arg1 c7_i32_1632
  let true_1633 : BitVec 1 := 1#1
  let v2055 : BitVec 1 := Scalar.andi v2054 true_1633
  let c2_i32_1634 : BitVec 32 := 2#32
  let c0_i32_1635 : BitVec 32 := 0#32
  let v2056 : BitVec 32 := Scalar.select v2055 c2_i32_1634 c0_i32_1635
  let v2057 : BitVec 32 := Scalar.select v2053 c1_i32_1636 v2056
  let v2059 : Index := Scalar.indexCast v2057
  let c0_1639 : Index := 0#32
  let c0_1640 : Index := 0#32
  ![2, v2059.toNat, 0, 0]
def k0_off4 (i : grid0.Coords) (true_3534 : BitVec 1) (false_3536 : BitVec 1) : Fin 4 → Nat :=
  let c0_3541 : Index := 0#32
  let arg1 : BitVec 32 := BitVec.ofNat 32 (i 1).val
  let c0_i32_3533 : BitVec 32 := 0#32
  let v4170 : BitVec 1 := Scalar.cmpi .eq arg1 c0_i32_3533
  let v4171 : BitVec 1 := Scalar.andi v4170 true_3534
  let c1_i32_3539 : BitVec 32 := 1#32
  let c7_i32_3535 : BitVec 32 := 7#32
  let v4172 : BitVec 1 := Scalar.cmpi .eq arg1 c7_i32_3535
  let v4173 : BitVec 1 := Scalar.andi v4172 false_3536
  let c2_i32_3537 : BitVec 32 := 2#32
  let c0_i32_3538 : BitVec 32 := 0#32
  let v4174 : BitVec 32 := Scalar.select v4173 c2_i32_3537 c0_i32_3538
  let v4175 : BitVec 32 := Scalar.select v4171 c1_i32_3539 v4174
  let v4177 : Index := Scalar.indexCast v4175
  let c0_3542 : Index := 0#32
  let c0_3543 : Index := 0#32
  ![0, v4177.toNat, 0, 0]
def k0_off4_at (r : Fin 3) : BitVec 1 × BitVec 1 :=
  if r.val < 1 then
    (1#1, 0#1)
  else
    if r.val < 2 then
      (0#1, 0#1)
    else
      (0#1, 1#1)
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 7 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, arg1.toNat, arg2.toNat, c0_i32_0.toNat, c0_i32_1.toNat, c0_i32_2.toNat]

def cc0_transform_2 (i : grid0.Coords) : Fin 7 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, arg1.toNat, arg2.toNat, c0_i32.toNat, c0_i32_0.toNat, c0_i32_1.toNat]

def cc0_transform_3 (i : grid0.Coords) : Fin 7 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  let c0_i32_2 : BitVec 32 := 0#32
  ![c2_i32.toNat, arg0.toNat, arg1.toNat, arg2.toNat, c0_i32.toNat, c0_i32_0.toNat, c0_i32_1.toNat]

def cc0_transform_4 (i : grid0.Coords) : Fin 8 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let c0_i32_1 : BitVec 32 := 0#32
  let c15_i32 : BitVec 32 := 15#32
  let c0_i32_2 : BitVec 32 := 0#32
  let c0_i32_3 : BitVec 32 := 0#32
  let c0_i32_4 : BitVec 32 := 0#32
  ![c1_i32_0.toNat, arg0.toNat, v1.toNat, arg2.toNat, c0_i32_1.toNat, c15_i32.toNat, c0_i32_2.toNat, c0_i32_3.toNat]

def cc0_transform_5 (i : grid0.Coords) : Fin 8 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c7_i32 : BitVec 32 := 7#32
  let v1 : BitVec 32 := Scalar.minsi v0 c7_i32
  let c1_i32_0 : BitVec 32 := 1#32
  let c0_i32 : BitVec 32 := 0#32
  let c0_i32_1 : BitVec 32 := 0#32
  let c0_i32_2 : BitVec 32 := 0#32
  let c0_i32_3 : BitVec 32 := 0#32
  let c0_i32_4 : BitVec 32 := 0#32
  ![c1_i32_0.toNat, arg0.toNat, v1.toNat, arg2.toNat, c0_i32.toNat, c0_i32_1.toNat, c0_i32_2.toNat, c0_i32_3.toNat]

def cc0_transform_6 (i : grid0.Coords) : Fin 8 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let c0_i32_0 : BitVec 32 := 0#32
  let c15_i32 : BitVec 32 := 15#32
  let c0_i32_1 : BitVec 32 := 0#32
  let c0_i32_2 : BitVec 32 := 0#32
  let c0_i32_3 : BitVec 32 := 0#32
  ![c2_i32.toNat, arg0.toNat, v1.toNat, arg2.toNat, c0_i32_0.toNat, c15_i32.toNat, c0_i32_1.toNat, c0_i32_2.toNat]

def cc0_transform_7 (i : grid0.Coords) : Fin 8 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c7_i32 : BitVec 32 := 7#32
  let v1 : BitVec 32 := Scalar.minsi v0 c7_i32
  let c2_i32 : BitVec 32 := 2#32
  let c0_i32 : BitVec 32 := 0#32
  let c0_i32_0 : BitVec 32 := 0#32
  let c0_i32_1 : BitVec 32 := 0#32
  let c0_i32_2 : BitVec 32 := 0#32
  let c0_i32_3 : BitVec 32 := 0#32
  ![c2_i32.toNat, arg0.toNat, v1.toNat, arg2.toNat, c0_i32.toNat, c0_i32_0.toNat, c0_i32_1.toNat, c0_i32_2.toNat]

def cc0_transform_8 (i : grid0.Coords) : Fin 7 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, arg0.toNat, arg1.toNat, arg2.toNat, c0_i32.toNat, c0_i32_0.toNat, c0_i32_1.toNat]

def cc0_transform_9 (i : grid0.Coords) : Fin 7 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let c0_i32_0 : BitVec 32 := 0#32
  let c0_i32_1 : BitVec 32 := 0#32
  let c0_i32_2 : BitVec 32 := 0#32
  ![c4_i32.toNat, arg0.toNat, arg1.toNat, arg2.toNat, c0_i32.toNat, c0_i32_0.toNat, c0_i32_1.toNat]

def cc0_transform_10 (i : grid0.Coords) : Fin 7 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let c0_i32 : BitVec 32 := 0#32
  let c0_i32_0 : BitVec 32 := 0#32
  let c0_i32_1 : BitVec 32 := 0#32
  let c0_i32_2 : BitVec 32 := 0#32
  ![c5_i32.toNat, arg0.toNat, arg1.toNat, arg2.toNat, c0_i32.toNat, c0_i32_0.toNat, c0_i32_1.toNat]

def cc0_transform_11 (i : grid0.Coords) : Fin 8 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let c0_i32_0 : BitVec 32 := 0#32
  let c3_i32 : BitVec 32 := 3#32
  let c0_i32_1 : BitVec 32 := 0#32
  let c0_i32_2 : BitVec 32 := 0#32
  let c0_i32_3 : BitVec 32 := 0#32
  ![c4_i32.toNat, arg0.toNat, v1.toNat, arg2.toNat, c0_i32_0.toNat, c3_i32.toNat, c0_i32_1.toNat, c0_i32_2.toNat]

def cc0_transform_12 (i : grid0.Coords) : Fin 8 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c7_i32 : BitVec 32 := 7#32
  let v1 : BitVec 32 := Scalar.minsi v0 c7_i32
  let c4_i32 : BitVec 32 := 4#32
  let c0_i32 : BitVec 32 := 0#32
  let c0_i32_0 : BitVec 32 := 0#32
  let c0_i32_1 : BitVec 32 := 0#32
  let c0_i32_2 : BitVec 32 := 0#32
  let c0_i32_3 : BitVec 32 := 0#32
  ![c4_i32.toNat, arg0.toNat, v1.toNat, arg2.toNat, c0_i32.toNat, c0_i32_0.toNat, c0_i32_1.toNat, c0_i32_2.toNat]

def cc0_transform_13 (i : grid0.Coords) : Fin 8 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c5_i32 : BitVec 32 := 5#32
  let c0_i32_0 : BitVec 32 := 0#32
  let c3_i32 : BitVec 32 := 3#32
  let c0_i32_1 : BitVec 32 := 0#32
  let c0_i32_2 : BitVec 32 := 0#32
  let c0_i32_3 : BitVec 32 := 0#32
  ![c5_i32.toNat, arg0.toNat, v1.toNat, arg2.toNat, c0_i32_0.toNat, c3_i32.toNat, c0_i32_1.toNat, c0_i32_2.toNat]

def cc0_transform_14 (i : grid0.Coords) : Fin 8 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c7_i32 : BitVec 32 := 7#32
  let v1 : BitVec 32 := Scalar.minsi v0 c7_i32
  let c5_i32 : BitVec 32 := 5#32
  let c0_i32 : BitVec 32 := 0#32
  let c0_i32_0 : BitVec 32 := 0#32
  let c0_i32_1 : BitVec 32 := 0#32
  let c0_i32_2 : BitVec 32 := 0#32
  let c0_i32_3 : BitVec 32 := 0#32
  ![c5_i32.toNat, arg0.toNat, v1.toNat, arg2.toNat, c0_i32.toNat, c0_i32_0.toNat, c0_i32_1.toNat, c0_i32_2.toNat]

def cc0_transform_15 (i : grid0.Coords) : Fin 7 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let c0_i32 : BitVec 32 := 0#32
  let c0_i32_0 : BitVec 32 := 0#32
  let c0_i32_1 : BitVec 32 := 0#32
  let c0_i32_2 : BitVec 32 := 0#32
  ![c6_i32.toNat, arg0.toNat, arg1.toNat, arg2.toNat, c0_i32.toNat, c0_i32_0.toNat, c0_i32_1.toNat]

def cc0_transform_16 (i : grid0.Coords) : Fin 7 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let c0_i32 : BitVec 32 := 0#32
  let c0_i32_0 : BitVec 32 := 0#32
  let c0_i32_1 : BitVec 32 := 0#32
  let c0_i32_2 : BitVec 32 := 0#32
  ![c7_i32.toNat, arg0.toNat, arg1.toNat, arg2.toNat, c0_i32.toNat, c0_i32_0.toNat, c0_i32_1.toNat]

def cc0_transform_17 (i : grid0.Coords) : Fin 7 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let c0_i32 : BitVec 32 := 0#32
  let c0_i32_0 : BitVec 32 := 0#32
  let c0_i32_1 : BitVec 32 := 0#32
  let c0_i32_2 : BitVec 32 := 0#32
  ![c8_i32.toNat, arg0.toNat, arg1.toNat, arg2.toNat, c0_i32.toNat, c0_i32_0.toNat, c0_i32_1.toNat]

def cc0_transform_18 (i : grid0.Coords) : Fin 8 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c7_i32 : BitVec 32 := 7#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c7_i32.toNat, arg0.toNat, v1.toNat, arg2.toNat, c0_i32_0.toNat, c0_i32_1.toNat, c0_i32_2.toNat, c0_i32_3.toNat]

def cc0_transform_19 (i : grid0.Coords) : Fin 8 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c7_i32 : BitVec 32 := 7#32
  let v1 : BitVec 32 := Scalar.minsi v0 c7_i32
  let c7_i32_0 : BitVec 32 := 7#32
  let c0_i32 : BitVec 32 := 0#32
  let c0_i32_1 : BitVec 32 := 0#32
  let c0_i32_2 : BitVec 32 := 0#32
  let c0_i32_3 : BitVec 32 := 0#32
  let c0_i32_4 : BitVec 32 := 0#32
  ![c7_i32_0.toNat, arg0.toNat, v1.toNat, arg2.toNat, c0_i32.toNat, c0_i32_1.toNat, c0_i32_2.toNat, c0_i32_3.toNat]

def cc0_transform_20 (i : grid0.Coords) : Fin 8 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c8_i32 : BitVec 32 := 8#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c8_i32.toNat, arg0.toNat, v1.toNat, arg2.toNat, c0_i32_0.toNat, c0_i32_1.toNat, c0_i32_2.toNat, c0_i32_3.toNat]

def cc0_transform_21 (i : grid0.Coords) : Fin 8 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c7_i32 : BitVec 32 := 7#32
  let v1 : BitVec 32 := Scalar.minsi v0 c7_i32
  let c8_i32 : BitVec 32 := 8#32
  let c0_i32 : BitVec 32 := 0#32
  let c0_i32_0 : BitVec 32 := 0#32
  let c0_i32_1 : BitVec 32 := 0#32
  let c0_i32_2 : BitVec 32 := 0#32
  let c0_i32_3 : BitVec 32 := 0#32
  ![c8_i32.toNat, arg0.toNat, v1.toNat, arg2.toNat, c0_i32.toNat, c0_i32_0.toNat, c0_i32_1.toNat, c0_i32_2.toNat]

def cc0_transform_22 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_23 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .smem S48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x1x1x1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1x1x1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1x1x1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1x1x1x1x64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1x1x1x1x64x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1x1x1x1x64x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x1x1x1x1x64x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x1x1x4x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x1x1x4x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x1x1x4x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x1x1x4x1x64x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x1x1x1x4x1x64x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x1x1x1x4x1x64x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x1x1x1x4x1x64x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x1x1x1x16x64x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S1x1x1x1x16x64x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S1x1x1x1x16x64x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, true]

abbrev stage0_18 : Fin 2 → Memref sig .tc .vmem S1x1x1x1x16x1x64x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, true]

abbrev stage0_19 : Fin 2 → Memref sig .tc .vmem S1x1x1x1x16x1x64x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true, true]

abbrev stage0_20 : Fin 2 → Memref sig .tc .vmem S1x1x1x1x16x1x64x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true, true]

abbrev stage0_21 : Fin 2 → Memref sig .tc .vmem S1x1x1x1x16x1x64x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true, true]

abbrev stage0_22 : Fin 2 → Memref sig .tc .vmem S1x1x1x1024x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true, true]

abbrev stage0_23 : Fin 2 → Memref sig .tc .vmem S1x1024x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true, true]
-- ==== Proof.SguSpec.lean ====
/-
  What the layer computes, one chunk of 128 tokens at a time, over the extended reals: the mixer's output projection with its
  residual and layer norm, then the gated MLP with the spatial gate mixing the 128 tokens of the chunk, then the second
  residual and layer norm. The kernel's blocks and the reference's rows are both read as these functions.
-/
module

public import Idealize.ShloMosaic.Lib.Pointwise

@[expose] public section

noncomputable section

namespace Sgu

open Idealize.ShloMosaic

/-- The layer norm of one row `r` of `n` entries (`N` is `n` as a float), with gain `g` and bias `b`. -/
def lnRow {n : Nat} (N : EReal) (r g b : Fin n → EReal) (j : Fin n) : EReal :=
  (r j - Ideal.div (∑ k, r k) N)
      * Ideal.rsqrt (Ideal.div (∑ k, (r k - Ideal.div (∑ l, r l) N) * (r k - Ideal.div (∑ l, r l) N)) N + Ideal.ofBits FTy.f32 925353388#32)
      * g j + b j

/-- The exact gelu, in the error function. -/
def gelu (z : EReal) : EReal :=
  (Ideal.ofBits FTy.f32 1056964608#32 * z) * (1 + Ideal.erf (z * Ideal.ofBits FTy.f32 1060439283#32))

/-- `z` times its logistic. -/
def silu (z : EReal) : EReal := z * Ideal.logistic z

/-- The weights and the modulation one batch entry is computed with. -/
structure Par where
  ga : Fin 1024 → EReal
  wa : Fin 1024 → Fin 1024 → EReal
  lg : Fin 1024 → EReal
  lb : Fin 1024 → EReal
  sc : Fin 1024 → EReal
  sh : Fin 1024 → EReal
  gc : Fin 1024 → EReal
  win : Fin 1024 → Fin 6144 → EReal
  lng : Fin 2048 → EReal
  lnb : Fin 2048 → EReal
  ws : Fin 16 → Fin 128 → Fin 128 → EReal
  bs : Fin 16 → Fin 128 → EReal
  wout : Fin 2048 → Fin 1024 → EReal
  plg : Fin 1024 → EReal
  plb : Fin 1024 → EReal

variable (p : Par)

/-- The first residual of one token: the scaled input plus the gated projection of the mixer's output. -/
def res1 (y x : Fin 1024 → EReal) (j : Fin 1024) : EReal :=
  Ideal.ofBits FTy.f32 1068827891#32 * x j + p.ga j * ∑ k, y k * p.wa k j

/-- The first layer's output at one token. -/
def x1 (y x : Fin 1024 → EReal) : Fin 1024 → EReal :=
  lnRow (Ideal.ofBits FTy.f32 1149239296#32) (res1 p y x) p.lg p.lb

/-- The modulated input of the second layer at one token. -/
def h (y x : Fin 1024 → EReal) (j : Fin 1024) : EReal := x1 p y x j * p.sc j + p.sh j

/-- The in-projection at one token. -/
def z (y x : Fin 1024 → EReal) (c : Fin 6144) : EReal := ∑ k, h p y x k * p.win k c

/-- The gate path's normalized row at one token. -/
def v (y x : Fin 1024 → EReal) : Fin 2048 → EReal :=
  lnRow (Ideal.ofBits FTy.f32 1157627904#32) (fun e => gelu (z p y x ⟨2048 + e, by omega⟩)) p.lng p.lnb

/-- The gated activation of token `t` of a chunk at channel `e`: the spatial gate is the group's 128 × 128 matrix over the chunk. -/
def act (y x : Fin 128 → Fin 1024 → EReal) (t : Fin 128) (e : Fin 2048) : EReal :=
  gelu (z p (y t) (x t) ⟨e, by omega⟩) * silu (z p (y t) (x t) ⟨4096 + e, by omega⟩)
    * (∑ s, p.ws ⟨e / 128, by omega⟩ t s * v p (y s) (x s) e + p.bs ⟨e / 128, by omega⟩ t)

/-- The second residual. -/
def res2 (y x : Fin 128 → Fin 1024 → EReal) (t : Fin 128) (j : Fin 1024) : EReal :=
  Ideal.ofBits FTy.f32 1068827891#32 * x1 p (y t) (x t) j + p.gc j * ∑ e, act p y x t e * p.wout e j

/-- The result at token `t` of the chunk. -/
def out (y x : Fin 128 → Fin 1024 → EReal) (t : Fin 128) : Fin 1024 → EReal :=
  lnRow (Ideal.ofBits FTy.f32 1149239296#32) (res2 p y x t) p.plg p.plb

end Sgu

end
-- ==== Proof.SguBlock.lean ====
/-
  What one block of the gated-MLP kernel computes: the contents of its four scratch buffers and its result, as the functions of
  `SguSpec`, in the blocks its windows bring.
-/
module
public import proofs.«01_k».proof.Proof.Gen.KernelIdeal.Frame
public import proofs.«01_k».proof.Proof.SguSpec
public import Idealize.ShloMosaic.Lib.Pipeline.Value
public import Idealize.ShloMosaic.Lib.Pointwise
public import Idealize.ShloMosaic.Lib.Pipeline.ValueKit.Tiles
@[expose] public section
noncomputable section
namespace Cert.KernelIdeal.SguBlock
open Cert.KernelIdeal Cert.KernelIdeal.Gen Idealize.ShloMosaic Idealize.ShloMosaic.TcCoe Idealize.SL.Sem Idealize.ShloMosaic.Tactic
open Idealize.ShloMosaic.Pipeline (Dat)

/-- An index whose coordinates are given. -/
theorem eq_ix2_of {n0 n1 : Nat} {y : (⟨2, ![n0, n1]⟩ : Shape).Idx} {a b : Nat} (ha : a < n0) (hb : b < n1)
    (h0 : (y 0).val = a) (h1 : (y 1).val = b) : y = ix2 ⟨a, ha⟩ ⟨b, hb⟩ := by
  subst h0; subst h1; exact eq_ix2 y

/-- A covered read through a rectangle is the load of what the pieces hold. -/
theorem readCov_ld {sig : RefSig} {k : Kind} {sp : Space} {S : Shape} {e : EltTy} (v : View sig k sp S e) (L : List (View.Piece (Elt Ideal) S e)) (r : Rect S) :
    v.readCov L r.toLoadRect = View.ld (View.canon L) r := View.readCov_eq_canon' v L _

/-- The parameters a block's windows bring. -/
def par (x2 : Vec Ideal S1x1x1024 .f32) (x3 : Vec Ideal S1024x1024 .bf16) (x4 x5 : Vec Ideal S1x1024 .f32) (x6 x7 x8 : Vec Ideal S1x1x1024 .f32)
    (x9 : Vec Ideal S1024x6144 .bf16) (x10 x11 : Vec Ideal S1x2048 .f32) (x12 : Vec Ideal S16x128x128 .bf16) (x13 : Vec Ideal S128x16 .f32)
    (x14 : Vec Ideal S2048x1024 .bf16) (x15 x16 : Vec Ideal S1x1024 .f32) : Sgu.Par where
  ga j := x2 (ix3 0 0 j)
  wa k j := x3 (ix2 k j)
  lg j := x4 (ix2 0 j)
  lb j := x5 (ix2 0 j)
  sc j := x6 (ix3 0 0 j)
  sh j := x7 (ix3 0 0 j)
  gc j := x8 (ix3 0 0 j)
  win k j := x9 (ix2 k j)
  lng j := x10 (ix2 0 j)
  lnb j := x11 (ix2 0 j)
  ws g t s := x12 (ix3 g t s)
  bs g t := x13 (ix2 t g)
  wout k j := x14 (ix2 k j)
  plg j := x15 (ix2 0 j)
  plb j := x16 (ix2 0 j)

/-- Row `r` of the block of the mixer's output, and of the layer's input. -/
def yrow (x0 : Vec Ideal S1x512x1024 .bf16) (r : Fin 512) (k : Fin 1024) : EReal := x0 (ix3 0 r k)
def xrow (x1 : Vec Ideal S1x512x1024 .f32) (r : Fin 512) (k : Fin 1024) : EReal := x1 (ix3 0 r k)

variable (c : Dev nD) (i : grid0.Coords) (arg2 : Memref sig .tc .vmem S1x512x1024 .bf16) (harg2 : arg2.IsWhole) (arg3 : Memref sig .tc .vmem S1x512x1024 .f32) (harg3 : arg3.IsWhole) (arg4 : Memref sig .tc .vmem S1x1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1024x6144 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S16x128x128 .bf16) (harg14 : arg14.IsWhole) (arg15 : Memref sig .tc .vmem S128x16 .f32) (harg15 : arg15.IsWhole) (arg16 : Memref sig .tc .vmem S2048x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x512x1024 .f32) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S512x2048 .bf16) (harg22 : arg22.IsWhole) (arg23 : Memref sig .tc .vmem S512x2048 .bf16) (harg23 : arg23.IsWhole)
    (x0 : Vec Ideal S1x512x1024 .bf16) (x1 : Vec Ideal S1x512x1024 .f32) (x2 : Vec Ideal S1x1x1024 .f32) (x3 : Vec Ideal S1024x1024 .bf16) (x4 : Vec Ideal S1x1024 .f32) (x5 : Vec Ideal S1x1024 .f32) (x6 : Vec Ideal S1x1x1024 .f32) (x7 : Vec Ideal S1x1x1024 .f32) (x8 : Vec Ideal S1x1x1024 .f32) (x9 : Vec Ideal S1024x6144 .bf16) (x10 : Vec Ideal S1x2048 .f32) (x11 : Vec Ideal S1x2048 .f32) (x12 : Vec Ideal S16x128x128 .bf16) (x13 : Vec Ideal S128x16 .f32) (x14 : Vec Ideal S2048x1024 .bf16) (x15 : Vec Ideal S1x1024 .f32) (x16 : Vec Ideal S1x1024 .f32)

/-- The first layer's output, as the scratch buffer holds it. -/
def X1 : Vec Ideal S512x1024 .f32 := fun z => Sgu.x1 (par x2 x3 x4 x5 x6 x7 x8 x9 x10 x11 x12 x13 x14 x15 x16) (yrow x0 (z 0)) (xrow x1 (z 0)) (z 1)
/-- The modulated input of the second layer, as the scratch buffer holds it. -/
def H : Vec Ideal S512x1024 .bf16 := fun z => Sgu.h (par x2 x3 x4 x5 x6 x7 x8 x9 x10 x11 x12 x13 x14 x15 x16) (yrow x0 (z 0)) (xrow x1 (z 0)) (z 1)
/-- The gate path, as the scratch buffer holds it. -/
def VG : Vec Ideal S512x2048 .bf16 := fun z => Sgu.v (par x2 x3 x4 x5 x6 x7 x8 x9 x10 x11 x12 x13 x14 x15 x16) (yrow x0 (z 0)) (xrow x1 (z 0)) (z 1)

theorem canon_HS0_2 : View.canon (kernelRun0_A.sl.HS0_2 (F := Ideal) c arg2 harg2 arg3 harg3 arg4 harg4 arg5 harg5 arg6 harg6 arg7 harg7 x0 x1 x2 x3 x4 x5) = X1 x0 x1 x2 x3 x4 x5 x6 x7 x8 x9 x10 x11 x12 x13 x14 x15 x16 := by
  funext y
  unfold kernelRun0_A.sl.HS0_2
  refine View.canon_eq_of_allAt _ _ _ (View.cover_of_tiled_head _ _ _ (by rfl) y) ?_
  refine View.allAt_cons_unit _ _ _ _ _ ?_ (View.allAt_cons_unit _ _ _ _ _ ?_ (View.allAt_nil _ _))
  · intro x hx
    obtain ⟨r, j, rfl⟩ : ∃ (r : Fin 256) (j : Fin 1024), x = ix2 r j := ⟨x 0, x 1, eq_ix2 x⟩
    obtain rfl := eq_ix2_of (y := y) (a := 256 + r.val) (b := 0 + j.val) (by omega) (by omega) (by simpa using hx 0) (by simpa using hx 1)
    simp only [kernelRun0_A.sl.r, kernelRun0_A.sl.r_1, kernelRun0_A.sl.r_2, kernelRun0_A.sl.r_3, View.readAt_eq_ld, harg2.read_unread, harg3.read_unread, harg4.read_unread, harg5.read_unread, harg6.read_unread, harg7.read_unread]
    unfold_payloads
    pointwise
    rfl
  · intro x hx
    obtain ⟨r, j, rfl⟩ : ∃ (r : Fin 256) (j : Fin 1024), x = ix2 r j := ⟨x 0, x 1, eq_ix2 x⟩
    obtain rfl := eq_ix2_of (y := y) (a := 0 + r.val) (b := 0 + j.val) (by omega) (by omega) (by simpa using hx 0) (by simpa using hx 1)
    simp only [kernelRun0_A.sl.r, kernelRun0_A.sl.r_1, kernelRun0_A.sl.r_2, kernelRun0_A.sl.r_3, View.readAt_eq_ld, harg2.read_unread, harg3.read_unread, harg4.read_unread, harg5.read_unread, harg6.read_unread, harg7.read_unread]
    unfold_payloads
    pointwise
    rfl

theorem canon_HS1_2 : View.canon (kernelRun0_A.sl.HS1_2 (F := Ideal) c arg2 harg2 arg3 harg3 arg4 harg4 arg5 harg5 arg6 harg6 arg7 harg7 arg8 harg8 arg9 harg9 x0 x1 x2 x3 x4 x5 x6 x7) = H x0 x1 x2 x3 x4 x5 x6 x7 x8 x9 x10 x11 x12 x13 x14 x15 x16 := by
  funext y
  unfold kernelRun0_A.sl.HS1_2
  refine View.canon_eq_of_allAt _ _ _ (View.cover_of_tiled_head _ _ _ (by rfl) y) ?_
  refine View.allAt_cons_unit _ _ _ _ _ ?_ (View.allAt_cons_unit _ _ _ _ _ ?_ (View.allAt_nil _ _))
  · intro x hx
    obtain ⟨r, j, rfl⟩ : ∃ (r : Fin 256) (j : Fin 1024), x = ix2 r j := ⟨x 0, x 1, eq_ix2 x⟩
    obtain rfl := eq_ix2_of (y := y) (a := 256 + r.val) (b := 0 + j.val) (by omega) (by omega) (by simpa using hx 0) (by simpa using hx 1)
    simp only [kernelRun0_A.sl.r, kernelRun0_A.sl.r_1, kernelRun0_A.sl.r_2, kernelRun0_A.sl.r_3, View.readAt_eq_ld, harg2.read_unread, harg3.read_unread, harg4.read_unread, harg5.read_unread, harg6.read_unread, harg7.read_unread, harg8.read_unread, harg9.read_unread]
    unfold_payloads
    pointwise
    rfl
  · intro x hx
    obtain ⟨r, j, rfl⟩ : ∃ (r : Fin 256) (j : Fin 1024), x = ix2 r j := ⟨x 0, x 1, eq_ix2 x⟩
    obtain rfl := eq_ix2_of (y := y) (a := 0 + r.val) (b := 0 + j.val) (by omega) (by omega) (by simpa using hx 0) (by simpa using hx 1)
    simp only [kernelRun0_A.sl.r, kernelRun0_A.sl.r_1, kernelRun0_A.sl.r_2, kernelRun0_A.sl.r_3, View.readAt_eq_ld, harg2.read_unread, harg3.read_unread, harg4.read_unread, harg5.read_unread, harg6.read_unread, harg7.read_unread, harg8.read_unread, harg9.read_unread]
    unfold_payloads
    pointwise
    rfl

set_option maxHeartbeats 2000000 in
theorem canon_HS2_2 : View.canon (kernelRun0_A.sl.HS2_2 (F := Ideal) c arg2 harg2 arg3 harg3 arg4 harg4 arg5 harg5 arg6 harg6 arg7 harg7 arg8 harg8 arg9 harg9 arg11 harg11 arg12 harg12 arg13 harg13 arg21 x0 x1 x2 x3 x4 x5 x6 x7 x9 x10 x11) = VG x0 x1 x2 x3 x4 x5 x6 x7 x8 x9 x10 x11 x12 x13 x14 x15 x16 := by
  funext y
  unfold kernelRun0_A.sl.HS2_2
  refine View.canon_eq_of_allAt _ _ _ (View.cover_of_tiled_head _ _ _ (by rfl) y) ?_
  refine View.allAt_cons_unit _ _ _ _ _ ?_ (View.allAt_cons_unit _ _ _ _ _ ?_ (View.allAt_nil _ _))
  · intro x hx
    obtain ⟨r, j, rfl⟩ : ∃ (r : Fin 256) (j : Fin 2048), x = ix2 r j := ⟨x 0, x 1, eq_ix2 x⟩
    obtain rfl := eq_ix2_of (y := y) (a := 256 + r.val) (b := 0 + j.val) (by omega) (by omega) (by simpa using hx 0) (by simpa using hx 1)
    simp only [kernelRun0_A.sl.r, kernelRun0_A.sl.r_1, kernelRun0_A.sl.r_2, kernelRun0_A.sl.r_3, kernelRun0_A.sl.v106, kernelRun0_A.sl.v146, View.readAt_eq_ld, harg2.read_unread, harg3.read_unread, harg4.read_unread, harg5.read_unread, harg6.read_unread, harg7.read_unread, harg8.read_unread, harg9.read_unread, harg11.read_unread, harg12.read_unread, harg13.read_unread, readCov_ld, (canon_HS1_2 c arg2 harg2 arg3 harg3 arg4 harg4 arg5 harg5 arg6 harg6 arg7 harg7 arg8 harg8 arg9 harg9 x0 x1 x2 x3 x4 x5 x6 x7 x8 x9 x10 x11 x12 x13 x14 x15 x16)]
    unfold_payloads
    pointwise
    rfl
  · intro x hx
    obtain ⟨r, j, rfl⟩ : ∃ (r : Fin 256) (j : Fin 2048), x = ix2 r j := ⟨x 0, x 1, eq_ix2 x⟩
    obtain rfl := eq_ix2_of (y := y) (a := 0 + r.val) (b := 0 + j.val) (by omega) (by omega) (by simpa using hx 0) (by simpa using hx 1)
    simp only [kernelRun0_A.sl.r, kernelRun0_A.sl.r_1, kernelRun0_A.sl.r_2, kernelRun0_A.sl.r_3, kernelRun0_A.sl.v106, kernelRun0_A.sl.v146, View.readAt_eq_ld, harg2.read_unread, harg3.read_unread, harg4.read_unread, harg5.read_unread, harg6.read_unread, harg7.read_unread, harg8.read_unread, harg9.read_unread, harg11.read_unread, harg12.read_unread, harg13.read_unread, readCov_ld, (canon_HS1_2 c arg2 harg2 arg3 harg3 arg4 harg4 arg5 harg5 arg6 harg6 arg7 harg7 arg8 harg8 arg9 harg9 x0 x1 x2 x3 x4 x5 x6 x7 x8 x9 x10 x11 x12 x13 x14 x15 x16)]
    unfold_payloads
    pointwise
    rfl

end Cert.KernelIdeal.SguBlock
-- ==== Proof.SguTiles.lean ====
/-
  The gated activations one block of the gated-MLP kernel stores: 64 tiles of 128 tokens by 128 channels.
-/
module
public import proofs.«01_k».proof.Proof.SguBlock
public import proofs.«01_k».proof.Proof.SguSpec
public import Idealize.ShloMosaic.Lib.Pipeline.Value
public import Idealize.ShloMosaic.Lib.Pointwise
public import Idealize.ShloMosaic.Lib.Pipeline.ValueKit.Tiles
@[expose] public section
noncomputable section
namespace Cert.KernelIdeal.SguBlock
open Cert.KernelIdeal Cert.KernelIdeal.Gen Idealize.ShloMosaic Idealize.ShloMosaic.TcCoe Idealize.SL.Sem Idealize.ShloMosaic.Tactic
open Idealize.ShloMosaic.Pipeline (Dat)

variable (c : Dev nD) (i : grid0.Coords) (arg2 : Memref sig .tc .vmem S1x512x1024 .bf16) (harg2 : arg2.IsWhole) (arg3 : Memref sig .tc .vmem S1x512x1024 .f32) (harg3 : arg3.IsWhole) (arg4 : Memref sig .tc .vmem S1x1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1024x6144 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S16x128x128 .bf16) (harg14 : arg14.IsWhole) (arg15 : Memref sig .tc .vmem S128x16 .f32) (harg15 : arg15.IsWhole) (arg16 : Memref sig .tc .vmem S2048x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x512x1024 .f32) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S512x2048 .bf16) (harg22 : arg22.IsWhole) (arg23 : Memref sig .tc .vmem S512x2048 .bf16) (harg23 : arg23.IsWhole)
    (x0 : Vec Ideal S1x512x1024 .bf16) (x1 : Vec Ideal S1x512x1024 .f32) (x2 : Vec Ideal S1x1x1024 .f32) (x3 : Vec Ideal S1024x1024 .bf16) (x4 : Vec Ideal S1x1024 .f32) (x5 : Vec Ideal S1x1024 .f32) (x6 : Vec Ideal S1x1x1024 .f32) (x7 : Vec Ideal S1x1x1024 .f32) (x8 : Vec Ideal S1x1x1024 .f32) (x9 : Vec Ideal S1024x6144 .bf16) (x10 : Vec Ideal S1x2048 .f32) (x11 : Vec Ideal S1x2048 .f32) (x12 : Vec Ideal S16x128x128 .bf16) (x13 : Vec Ideal S128x16 .f32) (x14 : Vec Ideal S2048x1024 .bf16) (x15 : Vec Ideal S1x1024 .f32) (x16 : Vec Ideal S1x1024 .f32)

/-- The gated activations, as the scratch buffer holds them: row `r` is token `r % 128` of chunk `r / 128`. -/
def Y : Vec Ideal S512x2048 .bf16 := fun z =>
  Sgu.act (par x2 x3 x4 x5 x6 x7 x8 x9 x10 x11 x12 x13 x14 x15 x16) (fun t => yrow x0 ⟨128 * ((z 0).val / 128) + t.val, by have : (z 0).val < 512 := (z 0).isLt; omega⟩)
    (fun t => xrow x1 ⟨128 * ((z 0).val / 128) + t.val, by have : (z 0).val < 512 := (z 0).isLt; omega⟩) ⟨(z 0).val % 128, by omega⟩ (z 1)

theorem Y_at (q : Fin 4) (g : Fin 16) (r j : Fin 128) (a b : Nat) (ha : a < 512) (hb : b < 2048) (hq : a = 128 * q.val + r.val) (hg : b = 128 * g.val + j.val) :
    Y x0 x1 x2 x3 x4 x5 x6 x7 x8 x9 x10 x11 x12 x13 x14 x15 x16 (ix2 ⟨a, ha⟩ ⟨b, hb⟩)
      = Sgu.gelu (∑ k : Fin 1024, H x0 x1 x2 x3 x4 x5 x6 x7 x8 x9 x10 x11 x12 x13 x14 x15 x16 (ix2 ⟨a, ha⟩ k) * x9 (ix2 k ⟨b, by omega⟩))
          * Sgu.silu (∑ k : Fin 1024, H x0 x1 x2 x3 x4 x5 x6 x7 x8 x9 x10 x11 x12 x13 x14 x15 x16 (ix2 ⟨a, ha⟩ k) * x9 (ix2 k ⟨4096 + b, by omega⟩))
          * (∑ s : Fin 128, x12 (ix3 g r s) * VG x0 x1 x2 x3 x4 x5 x6 x7 x8 x9 x10 x11 x12 x13 x14 x15 x16 (ix2 ⟨128 * q.val + s.val, by omega⟩ ⟨b, hb⟩) + x13 (ix2 r g)) := by
  have e1 : a / 128 = q.val := by omega
  have e2 : a % 128 = r.val := by omega
  have e3 : b / 128 = g.val := by omega
  have e4 : 128 * q.val + r.val = a := by omega
  simp only [Y, ix2_0, ix2_1, Sgu.act, e1, e2, e3, e4, Fin.eta]
  rfl

set_option maxHeartbeats 40000000 in
theorem canon_HS3_64 : View.canon (kernelRun0_A.sl.HS3_64 (F := Ideal) c arg2 harg2 arg3 harg3 arg4 harg4 arg5 harg5 arg6 harg6 arg7 harg7 arg8 harg8 arg9 harg9 arg11 harg11 arg12 harg12 arg13 harg13 arg14 harg14 arg15 harg15 arg21 arg22 x0 x1 x2 x3 x4 x5 x6 x7 x9 x10 x11 x12 x13) = Y x0 x1 x2 x3 x4 x5 x6 x7 x8 x9 x10 x11 x12 x13 x14 x15 x16 := by
  funext y
  unfold kernelRun0_A.sl.HS3_64
  refine View.canon_eq_of_allAt _ _ _ (View.cover_of_tiled_head _ _ _ (by rfl) y) ?_
  simp only [kernelRun0_A.sl.r_47, kernelRun0_A.sl.v871, kernelRun0_A.sl.r_27, kernelRun0_A.sl.v638, kernelRun0_A.sl.v488, kernelRun0_A.sl.v467, kernelRun0_A.sl.r_49, kernelRun0_A.sl.r_11, kernelRun0_A.sl.r_4, kernelRun0_A.sl.v1023, kernelRun0_A.sl.v959, kernelRun0_A.sl.r_68, kernelRun0_A.sl.v209, kernelRun0_A.sl.v702, kernelRun0_A.sl.r_45, kernelRun0_A.sl.v337, kernelRun0_A.sl.v896, kernelRun0_A.sl.r_17, kernelRun0_A.sl.v380, kernelRun0_A.sl.v958, kernelRun0_A.sl.v530, kernelRun0_A.sl.r_39, kernelRun0_A.sl.r_36, kernelRun0_A.sl.v423, kernelRun0_A.sl.v444, kernelRun0_A.sl.v381, kernelRun0_A.sl.r_61, kernelRun0_A.sl.r_19, kernelRun0_A.sl.v872, kernelRun0_A.sl.v682, kernelRun0_A.sl.r_2, kernelRun0_A.sl.r_16, kernelRun0_A.sl.v210, kernelRun0_A.sl.r_50, kernelRun0_A.sl.v637, kernelRun0_A.sl.v253, kernelRun0_A.sl.v317, kernelRun0_A.sl.r_38, kernelRun0_A.sl.v468, kernelRun0_A.sl.r_64, kernelRun0_A.sl.r_21, kernelRun0_A.sl.v851, kernelRun0_A.sl.v1085, kernelRun0_A.sl.v595, kernelRun0_A.sl.r_37, kernelRun0_A.sl.v274, kernelRun0_A.sl.r_9, kernelRun0_A.sl.r_53, kernelRun0_A.sl.v1003, kernelRun0_A.sl.v915, kernelRun0_A.sl.v336, kernelRun0_A.sl.v895, kernelRun0_A.sl.v788, kernelRun0_A.sl.v273, kernelRun0_A.sl.v978, kernelRun0_A.sl.v916, kernelRun0_A.sl.r_67, kernelRun0_A.sl.r_32, kernelRun0_A.sl.r_35, kernelRun0_A.sl.r_1, kernelRun0_A.sl.v658, kernelRun0_A.sl.r_23, kernelRun0_A.sl.r_42, kernelRun0_A.sl.v254, kernelRun0_A.sl.r_56, kernelRun0_A.sl.r_31, kernelRun0_A.sl.r_57, kernelRun0_A.sl.r_24, kernelRun0_A.sl.r_40, kernelRun0_A.sl.v551, kernelRun0_A.sl.v765, kernelRun0_A.sl.v808, kernelRun0_A.sl.r_51, kernelRun0_A.sl.r_55, kernelRun0_A.sl.v1081, kernelRun0_A.sl.r_20, kernelRun0_A.sl.r_29, kernelRun0_A.sl.r_8, kernelRun0_A.sl.v575, kernelRun0_A.sl.r_5, kernelRun0_A.sl.v574, kernelRun0_A.sl.v361, kernelRun0_A.sl.r_10, kernelRun0_A.sl.r_58, kernelRun0_A.sl.r_7, kernelRun0_A.sl.r_12, kernelRun0_A.sl.r_13, kernelRun0_A.sl.r_63, kernelRun0_A.sl.r, kernelRun0_A.sl.v657, kernelRun0_A.sl.r_30, kernelRun0_A.sl.r_43, kernelRun0_A.sl.r_14, kernelRun0_A.sl.v745, kernelRun0_A.sl.r_44, kernelRun0_A.sl.v186, kernelRun0_A.sl.v1042, kernelRun0_A.sl.v316, kernelRun0_A.sl.v594, kernelRun0_A.sl.r_46, kernelRun0_A.sl.r_60, kernelRun0_A.sl.v1002, kernelRun0_A.sl.v1022, kernelRun0_A.sl.v701, kernelRun0_A.sl.r_54, kernelRun0_A.sl.v744, kernelRun0_A.sl.r_62, kernelRun0_A.sl.v1046, kernelRun0_A.sl.r_22, kernelRun0_A.sl.v229, kernelRun0_A.sl.r_48, kernelRun0_A.sl.r_66, kernelRun0_A.sl.v550, kernelRun0_A.sl.r_59, kernelRun0_A.sl.r_41, kernelRun0_A.sl.r_25, kernelRun0_A.sl.v106, kernelRun0_A.sl.r_28, kernelRun0_A.sl.v360, kernelRun0_A.sl.r_34, kernelRun0_A.sl.v764, kernelRun0_A.sl.v146, kernelRun0_A.sl.v531, kernelRun0_A.sl.v443, kernelRun0_A.sl.v809, kernelRun0_A.sl.r_6, kernelRun0_A.sl.r_18, kernelRun0_A.sl.v424, kernelRun0_A.sl.v979, kernelRun0_A.sl.r_3, kernelRun0_A.sl.v789, kernelRun0_A.sl.v852, kernelRun0_A.sl.v487, kernelRun0_A.sl.v230, kernelRun0_A.sl.r_65, kernelRun0_A.sl.v681, kernelRun0_A.sl.r_33, kernelRun0_A.sl.r_15, kernelRun0_A.sl.r_52, kernelRun0_A.sl.r_26, View.readAt_eq_ld, harg2.read_unread, harg3.read_unread, harg4.read_unread, harg5.read_unread, harg6.read_unread, harg7.read_unread, harg8.read_unread, harg9.read_unread, harg11.read_unread, harg12.read_unread, harg13.read_unread, harg14.read_unread, harg15.read_unread, readCov_ld, (canon_HS1_2 c arg2 harg2 arg3 harg3 arg4 harg4 arg5 harg5 arg6 harg6 arg7 harg7 arg8 harg8 arg9 harg9 x0 x1 x2 x3 x4 x5 x6 x7 x8 x9 x10 x11 x12 x13 x14 x15 x16), (canon_HS2_2 c arg2 harg2 arg3 harg3 arg4 harg4 arg5 harg5 arg6 harg6 arg7 harg7 arg8 harg8 arg9 harg9 arg11 harg11 arg12 harg12 arg13 harg13 arg21 x0 x1 x2 x3 x4 x5 x6 x7 x8 x9 x10 x11 x12 x13 x14 x15 x16)]
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 384 + r.val) (b := 1920 + j.val) (by omega) (by omega) (by simpa using hx 0) (by simpa using hx 1)
    rw [Y_at (q := 3) (g := 15) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 256 + r.val) (b := 1920 + j.val) (by omega) (by omega) (by simpa using hx 0) (by simpa using hx 1)
    rw [Y_at (q := 2) (g := 15) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 128 + r.val) (b := 1920 + j.val) (by omega) (by omega) (by simpa using hx 0) (by simpa using hx 1)
    rw [Y_at (q := 1) (g := 15) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 0 + r.val) (b := 1920 + j.val) (by omega) (by omega) (by simpa using hx 0) (by simpa using hx 1)
    rw [Y_at (q := 0) (g := 15) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 384 + r.val) (b := 1792 + j.val) (by omega) (by omega) (by simpa using hx 0) (by simpa using hx 1)
    rw [Y_at (q := 3) (g := 14) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 256 + r.val) (b := 1792 + j.val) (by omega) (by omega) (by simpa using hx 0) (by simpa using hx 1)
    rw [Y_at (q := 2) (g := 14) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 128 + r.val) (b := 1792 + j.val) (by omega) (by omega) (by simpa using hx 0) (by simpa using hx 1)
    rw [Y_at (q := 1) (g := 14) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 0 + r.val) (b := 1792 + j.val) (by omega) (by omega) (by simpa using hx 0) (by simpa using hx 1)
    rw [Y_at (q := 0) (g := 14) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 384 + r.val) (b := 1664 + j.val) (by omega) (by omega) (by simpa using hx 0) (by simpa using hx 1)
    rw [Y_at (q := 3) (g := 13) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 256 + r.val) (b := 1664 + j.val) (by omega) (by omega) (by simpa using hx 0) (by simpa using hx 1)
    rw [Y_at (q := 2) (g := 13) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 128 + r.val) (b := 1664 + j.val) (by omega) (by omega) (by simpa using hx 0) (by simpa using hx 1)
    rw [Y_at (q := 1) (g := 13) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 0 + r.val) (b := 1664 + j.val) (by omega) (by omega) (by simpa using hx 0) (by simpa using hx 1)
    rw [Y_at (q := 0) (g := 13) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 384 + r.val) (b := 1536 + j.val) (by omega) (by omega) (by simpa using hx 0) (by simpa using hx 1)
    rw [Y_at (q := 3) (g := 12) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 256 + r.val) (b := 1536 + j.val) (by omega) (by omega) (by simpa using hx 0) (by simpa using hx 1)
    rw [Y_at (q := 2) (g := 12) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 128 + r.val) (b := 1536 + j.val) (by omega) (by omega) (by simpa using hx 0) (by simpa using hx 1)
    rw [Y_at (q := 1) (g := 12) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 0 + r.val) (b := 1536 + j.val) (by omega) (by omega) (by simpa using hx 0) (by simpa using hx 1)
    rw [Y_at (q := 0) (g := 12) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 384 + r.val) (b := 1408 + j.val) (by omega) (by omega) (by simpa using hx 0) (by simpa using hx 1)
    rw [Y_at (q := 3) (g := 11) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 256 + r.val) (b := 1408 + j.val) (by omega) (by omega) (by simpa using hx 0) (by simpa using hx 1)
    rw [Y_at (q := 2) (g := 11) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 128 + r.val) (b := 1408 + j.val) (by omega) (by omega) (by simpa using hx 0) (by simpa using hx 1)
    rw [Y_at (q := 1) (g := 11) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 0 + r.val) (b := 1408 + j.val) (by omega) (by omega) (by simpa using hx 0) (by simpa using hx 1)
    rw [Y_at (q := 0) (g := 11) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 384 + r.val) (b := 1280 + j.val) (by omega) (by omega) (by simpa using hx 0) (by simpa using hx 1)
    rw [Y_at (q := 3) (g := 10) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 256 + r.val) (b := 1280 + j.val) (by omega) (by omega) (by simpa using hx 0) (by simpa using hx 1)
    rw [Y_at (q := 2) (g := 10) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 128 + r.val) (b := 1280 + j.val) (by omega) (by omega) (by simpa using hx 0) (by simpa using hx 1)
    rw [Y_at (q := 1) (g := 10) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 0 + r.val) (b := 1280 + j.val) (by omega) (by omega) (by simpa using hx 0) (by simpa using hx 1)
    rw [Y_at (q := 0) (g := 10) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 384 + r.val) (b := 1152 + j.val) (by omega) (by omega) (by simpa using hx 0) (by simpa using hx 1)
    rw [Y_at (q := 3) (g := 9) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 256 + r.val) (b := 1152 + j.val) (by omega) (by omega) (by simpa using hx 0) (by simpa using hx 1)
    rw [Y_at (q := 2) (g := 9) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 128 + r.val) (b := 1152 + j.val) (by omega) (by omega) (by simpa using hx 0) (by simpa using hx 1)
    rw [Y_at (q := 1) (g := 9) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 0 + r.val) (b := 1152 + j.val) (by omega) (by omega) (by simpa using hx 0) (by simpa using hx 1)
    rw [Y_at (q := 0) (g := 9) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 384 + r.val) (b := 1024 + j.val) (by omega) (by omega) (by simpa using hx 0) (by simpa using hx 1)
    rw [Y_at (q := 3) (g := 8) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 256 + r.val) (b := 1024 + j.val) (by omega) (by omega) (by simpa using hx 0) (by simpa using hx 1)
    rw [Y_at (q := 2) (g := 8) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 128 + r.val) (b := 1024 + j.val) (by omega) (by omega) (by simpa using hx 0) (by simpa using hx 1)
    rw [Y_at (q := 1) (g := 8) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 0 + r.val) (b := 1024 + j.val) (by omega) (by omega) (by simpa using hx 0) (by simpa using hx 1)
    rw [Y_at (q := 0) (g := 8) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 384 + r.val) (b := 896 + j.val) (by omega) (by omega) (by simpa using hx 0) (by simpa using hx 1)
    rw [Y_at (q := 3) (g := 7) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 256 + r.val) (b := 896 + j.val) (by omega) (by omega) (by simpa using hx 0) (by simpa using hx 1)
    rw [Y_at (q := 2) (g := 7) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 128 + r.val) (b := 896 + j.val) (by omega) (by omega) (by simpa using hx 0) (by simpa using hx 1)
    rw [Y_at (q := 1) (g := 7) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 0 + r.val) (b := 896 + j.val) (by omega) (by omega) (by simpa using hx 0) (by simpa using hx 1)
    rw [Y_at (q := 0) (g := 7) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 384 + r.val) (b := 768 + j.val) (by omega) (by omega) (by simpa using hx 0) (by simpa using hx 1)
    rw [Y_at (q := 3) (g := 6) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 256 + r.val) (b := 768 + j.val) (by omega) (by omega) (by simpa using hx 0) (by simpa using hx 1)
    rw [Y_at (q := 2) (g := 6) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 128 + r.val) (b := 768 + j.val) (by omega) (by omega) (by simpa using hx 0) (by simpa using hx 1)
    rw [Y_at (q := 1) (g := 6) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 0 + r.val) (b := 768 + j.val) (by omega) (by omega) (by simpa using hx 0) (by simpa using hx 1)
    rw [Y_at (q := 0) (g := 6) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 384 + r.val) (b := 640 + j.val) (by omega) (by omega) (by simpa using hx 0) (by simpa using hx 1)
    rw [Y_at (q := 3) (g := 5) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 256 + r.val) (b := 640 + j.val) (by omega) (by omega) (by simpa using hx 0) (by simpa using hx 1)
    rw [Y_at (q := 2) (g := 5) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 128 + r.val) (b := 640 + j.val) (by omega) (by omega) (by simpa using hx 0) (by simpa using hx 1)
    rw [Y_at (q := 1) (g := 5) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 0 + r.val) (b := 640 + j.val) (by omega) (by omega) (by simpa using hx 0) (by simpa using hx 1)
    rw [Y_at (q := 0) (g := 5) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 384 + r.val) (b := 512 + j.val) (by omega) (by omega) (by simpa using hx 0) (by simpa using hx 1)
    rw [Y_at (q := 3) (g := 4) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 256 + r.val) (b := 512 + j.val) (by omega) (by omega) (by simpa using hx 0) (by simpa using hx 1)
    rw [Y_at (q := 2) (g := 4) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 128 + r.val) (b := 512 + j.val) (by omega) (by omega) (by simpa using hx 0) (by simpa using hx 1)
    rw [Y_at (q := 1) (g := 4) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 0 + r.val) (b := 512 + j.val) (by omega) (by omega) (by simpa using hx 0) (by simpa using hx 1)
    rw [Y_at (q := 0) (g := 4) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 384 + r.val) (b := 384 + j.val) (by omega) (by omega) (by simpa using hx 0) (by simpa using hx 1)
    rw [Y_at (q := 3) (g := 3) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 256 + r.val) (b := 384 + j.val) (by omega) (by omega) (by simpa using hx 0) (by simpa using hx 1)
    rw [Y_at (q := 2) (g := 3) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 128 + r.val) (b := 384 + j.val) (by omega) (by omega) (by simpa using hx 0) (by simpa using hx 1)
    rw [Y_at (q := 1) (g := 3) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 0 + r.val) (b := 384 + j.val) (by omega) (by omega) (by simpa using hx 0) (by simpa using hx 1)
    rw [Y_at (q := 0) (g := 3) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 384 + r.val) (b := 256 + j.val) (by omega) (by omega) (by simpa using hx 0) (by simpa using hx 1)
    rw [Y_at (q := 3) (g := 2) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 256 + r.val) (b := 256 + j.val) (by omega) (by omega) (by simpa using hx 0) (by simpa using hx 1)
    rw [Y_at (q := 2) (g := 2) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 128 + r.val) (b := 256 + j.val) (by omega) (by omega) (by simpa using hx 0) (by simpa using hx 1)
    rw [Y_at (q := 1) (g := 2) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 0 + r.val) (b := 256 + j.val) (by omega) (by omega) (by simpa using hx 0) (by simpa using hx 1)
    rw [Y_at (q := 0) (g := 2) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 384 + r.val) (b := 128 + j.val) (by omega) (by omega) (by simpa using hx 0) (by simpa using hx 1)
    rw [Y_at (q := 3) (g := 1) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 256 + r.val) (b := 128 + j.val) (by omega) (by omega) (by simpa using hx 0) (by simpa using hx 1)
    rw [Y_at (q := 2) (g := 1) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 128 + r.val) (b := 128 + j.val) (by omega) (by omega) (by simpa using hx 0) (by simpa using hx 1)
    rw [Y_at (q := 1) (g := 1) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 0 + r.val) (b := 128 + j.val) (by omega) (by omega) (by simpa using hx 0) (by simpa using hx 1)
    rw [Y_at (q := 0) (g := 1) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 384 + r.val) (b := 0 + j.val) (by omega) (by omega) (by simpa using hx 0) (by simpa using hx 1)
    rw [Y_at (q := 3) (g := 0) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 256 + r.val) (b := 0 + j.val) (by omega) (by omega) (by simpa using hx 0) (by simpa using hx 1)
    rw [Y_at (q := 2) (g := 0) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 128 + r.val) (b := 0 + j.val) (by omega) (by omega) (by simpa using hx 0) (by simpa using hx 1)
    rw [Y_at (q := 1) (g := 0) (r := r) (j := j) (hq := by simp; try omega) (hg := by simp; try omega)]
    unfold_payloads
    pointwise
    try simp only [← Nat.add_assoc, Nat.reduceAdd]
    rfl
  refine View.allAt_cons_unit _ _ _ _ _ ?_ ?_
  · intro x hx
    obtain ⟨r, j, rfl⟩ : ∃ (r : Fin 128) (j : Fin 128), x = ix2 r j := ⟨x 0, x 1, eq_ix2 x⟩
    obtain rfl := eq_ix2_of (y := y) (a := 0 + r.val) (b := 0 + j.val) (by omega) (by omega) (by simpa using hx 0) (by simpa using hx 1)
    rw [Y_at (q := 0) (g := 0) (r := r) (j := j) (hq := by simp; try omega) (hg := by simp; try omega)]
    unfold_payloads
    pointwise
    try simp only [← Nat.add_assoc, Nat.reduceAdd]
    rfl
  exact View.allAt_nil _ _

end Cert.KernelIdeal.SguBlock
-- ==== Proof.SguOut.lean ====
/-
  The block of the result one grid step of the gated-MLP kernel computes.
-/
module
public import proofs.«01_k».proof.Proof.SguTiles
public import proofs.«01_k».proof.Proof.SguSpec
public import Idealize.ShloMosaic.Lib.Pipeline.Value
public import Idealize.ShloMosaic.Lib.Pointwise
public import Idealize.ShloMosaic.Lib.Pipeline.ValueKit.Tiles
@[expose] public section
noncomputable section
namespace Cert.KernelIdeal.SguBlock
open Cert.KernelIdeal Cert.KernelIdeal.Gen Idealize.ShloMosaic Idealize.ShloMosaic.TcCoe Idealize.SL.Sem Idealize.ShloMosaic.Tactic
open Idealize.ShloMosaic.Pipeline (Dat)

variable (c : Dev nD) (i : grid0.Coords) (arg2 : Memref sig .tc .vmem S1x512x1024 .bf16) (harg2 : arg2.IsWhole) (arg3 : Memref sig .tc .vmem S1x512x1024 .f32) (harg3 : arg3.IsWhole) (arg4 : Memref sig .tc .vmem S1x1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1024x6144 .bf16) (harg11 : arg11.IsWhole) (arg12 : Memref sig .tc .vmem S1x2048 .f32) (harg12 : arg12.IsWhole) (arg13 : Memref sig .tc .vmem S1x2048 .f32) (harg13 : arg13.IsWhole) (arg14 : Memref sig .tc .vmem S16x128x128 .bf16) (harg14 : arg14.IsWhole) (arg15 : Memref sig .tc .vmem S128x16 .f32) (harg15 : arg15.IsWhole) (arg16 : Memref sig .tc .vmem S2048x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x512x1024 .f32) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S512x2048 .bf16) (harg22 : arg22.IsWhole) (arg23 : Memref sig .tc .vmem S512x2048 .bf16) (harg23 : arg23.IsWhole)
    (x0 : Vec Ideal S1x512x1024 .bf16) (x1 : Vec Ideal S1x512x1024 .f32) (x2 : Vec Ideal S1x1x1024 .f32) (x3 : Vec Ideal S1024x1024 .bf16) (x4 : Vec Ideal S1x1024 .f32) (x5 : Vec Ideal S1x1024 .f32) (x6 : Vec Ideal S1x1x1024 .f32) (x7 : Vec Ideal S1x1x1024 .f32) (x8 : Vec Ideal S1x1x1024 .f32) (x9 : Vec Ideal S1024x6144 .bf16) (x10 : Vec Ideal S1x2048 .f32) (x11 : Vec Ideal S1x2048 .f32) (x12 : Vec Ideal S16x128x128 .bf16) (x13 : Vec Ideal S128x16 .f32) (x14 : Vec Ideal S2048x1024 .bf16) (x15 : Vec Ideal S1x1024 .f32) (x16 : Vec Ideal S1x1024 .f32)

/-- The result block, row by row. -/
def O : Vec Ideal S1x512x1024 .f32 := fun z =>
  Sgu.out (par x2 x3 x4 x5 x6 x7 x8 x9 x10 x11 x12 x13 x14 x15 x16) (fun t => yrow x0 ⟨128 * ((z 1).val / 128) + t.val, by have : (z 1).val < 512 := (z 1).isLt; omega⟩)
    (fun t => xrow x1 ⟨128 * ((z 1).val / 128) + t.val, by have : (z 1).val < 512 := (z 1).isLt; omega⟩) ⟨(z 1).val % 128, by omega⟩ (z 2)

/-- The second residual of row `a`, from the two scratch buffers. -/
def R2 (a : Fin 512) (j : Fin 1024) : EReal :=
  Ideal.ofBits FTy.f32 1068827891#32 * X1 x0 x1 x2 x3 x4 x5 x6 x7 x8 x9 x10 x11 x12 x13 x14 x15 x16 (ix2 a j) + x8 (ix3 0 0 j) * ∑ e : Fin 2048, Y x0 x1 x2 x3 x4 x5 x6 x7 x8 x9 x10 x11 x12 x13 x14 x15 x16 (ix2 a e) * x14 (ix2 e j)

theorem O_at (a : Fin 512) (j : Fin 1024) :
    O x0 x1 x2 x3 x4 x5 x6 x7 x8 x9 x10 x11 x12 x13 x14 x15 x16 (ix3 0 a j) = Sgu.lnRow (Ideal.ofBits FTy.f32 1149239296#32) (R2 x0 x1 x2 x3 x4 x5 x6 x7 x8 x9 x10 x11 x12 x13 x14 x15 x16 a) (fun j => x15 (ix2 0 j)) (fun j => x16 (ix2 0 j)) j := by
  have e : (⟨128 * (a.val / 128) + a.val % 128, by omega⟩ : Fin 512) = a := Fin.ext (by simp; omega)
  have hR : R2 x0 x1 x2 x3 x4 x5 x6 x7 x8 x9 x10 x11 x12 x13 x14 x15 x16 a = Sgu.res2 (par x2 x3 x4 x5 x6 x7 x8 x9 x10 x11 x12 x13 x14 x15 x16) (fun t => yrow x0 ⟨128 * (a.val / 128) + t.val, by omega⟩)
      (fun t => xrow x1 ⟨128 * (a.val / 128) + t.val, by omega⟩) ⟨a.val % 128, by omega⟩ := by
    funext j
    simp only [R2, Sgu.res2, X1, Y, ix2_0, ix2_1, e]
    rfl
  rw [hR]
  rfl

set_option maxHeartbeats 8000000 in
theorem out0 : out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 = O x0 x1 x2 x3 x4 x5 x6 x7 x8 x9 x10 x11 x12 x13 x14 x15 x16 := by
  unfold out0_A_17
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16)]
  unfold kernelRun0_A
  dsimp only
  funext y
  refine View.canon_eq_of_allAt _ _ _ (View.cover_of_tiled_head _ _ _ (by rfl) y) ?_
  simp only [kernelRun0_A.sl.r_62, kernelRun0_A.sl.r_63, kernelRun0_A.sl.r_64, kernelRun0_A.sl.r_65, kernelRun0_A.sl.r_66, kernelRun0_A.sl.r_67, kernelRun0_A.sl.r_68, kernelRun0_A.sl.v1042, kernelRun0_A.sl.v1046, kernelRun0_A.sl.v1081, kernelRun0_A.sl.v1085, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, readCov_ld, (canon_HS0_2 c arg2 harg2 arg3 harg3 arg4 harg4 arg5 harg5 arg6 harg6 arg7 harg7 x0 x1 x2 x3 x4 x5 x6 x7 x8 x9 x10 x11 x12 x13 x14 x15 x16), (canon_HS3_64 c arg2 harg2 arg3 harg3 arg4 harg4 arg5 harg5 arg6 harg6 arg7 harg7 arg8 harg8 arg9 harg9 arg11 harg11 arg12 harg12 arg13 harg13 arg14 harg14 arg15 harg15 arg21 arg22 x0 x1 x2 x3 x4 x5 x6 x7 x8 x9 x10 x11 x12 x13 x14 x15 x16)]
  refine View.allAt_cons_unit _ _ _ _ _ ?_ ?_
  · intro x hx
    obtain ⟨u, r, j, rfl⟩ : ∃ (u : Fin 1) (r : Fin 256) (j : Fin 1024), x = ix3 u r j := ⟨x 0, x 1, x 2, eq_ix3 x⟩
    obtain rfl : u = 0 := Subsingleton.elim _ _
    obtain rfl : y = ix3 0 ⟨256 + r.val, by omega⟩ j := by
      rw [eq_ix3 y]
      have h0 := hx 0
      have h1 := hx 1
      have h2 := hx 2
      congr 1 <;> apply Fin.ext
      · simpa using h0
      · simpa using h1
      · simpa using h2
    rw [O_at]
    unfold_payloads
    pointwise
    rfl
  refine View.allAt_cons_unit _ _ _ _ _ ?_ ?_
  · intro x hx
    obtain ⟨u, r, j, rfl⟩ : ∃ (u : Fin 1) (r : Fin 256) (j : Fin 1024), x = ix3 u r j := ⟨x 0, x 1, x 2, eq_ix3 x⟩
    obtain rfl : u = 0 := Subsingleton.elim _ _
    obtain rfl : y = ix3 0 ⟨0 + r.val, by omega⟩ j := by
      rw [eq_ix3 y]
      have h0 := hx 0
      have h1 := hx 1
      have h2 := hx 2
      congr 1 <;> apply Fin.ext
      · simpa using h0
      · simpa using h1
      · simpa using h2
    rw [O_at]
    unfold_payloads
    pointwise
    rfl
  exact View.allAt_nil _ _

end Cert.KernelIdeal.SguBlock
-- ==== Proof.SguArray.lean ====
/-
  The result array of the gated-MLP kernel, at every index: the windows' blocks read from the arguments, the block each grid
  point writes, and the 64 blocks put together.
-/
module
public import proofs.«01_k».proof.Proof.SguOut
public import proofs.«01_k».proof.Proof.Gen.KernelIdeal.Value
@[expose] public section
noncomputable section
namespace Cert.KernelIdeal.SguArray
open Cert.KernelIdeal Cert.KernelIdeal.Gen Cert.KernelIdeal.SguBlock Idealize.ShloMosaic Idealize.ShloMosaic.TcCoe Idealize.SL.Sem Idealize.ShloMosaic.Tactic
open Idealize.ShloMosaic.Pipeline (Dat)
variable (m : (ℓ : Loc nD τ sig) → Buf (Elt Ideal) ℓ) (c : Dev nD)

/-- The batch entry and the row block of a grid point. -/
def tb (t : Fin cfg0.N) : Fin 4 := ⟨t.val / 16, by have := t.isLt; have : cfg0.N = 64 := rfl; omega⟩
def ti (t : Fin cfg0.N) : Fin 16 := ⟨t.val % 16, by omega⟩

theorem V_v10 (b : Fin 4) (j : Fin 1024) : (V m c main_v10 : Vec Ideal _ _) (ix3 b 0 j) = (m ((c : Thread nD τ).loc main_arg2) (ix3 0 b ⟨2048 + j.val, by omega⟩) : EReal) := by
  dsimp only [V, hostOps0]
  after_results
  pointwise

theorem V_v23 (k j : Fin 1024) : (V m c main_v23 : Vec Ideal _ _) (ix2 k j) = (m ((c : Thread nD τ).loc main_arg5) (ix3 0 k j) : EReal) := by
  dsimp only [V, hostOps0]
  after_results
  pointwise

theorem V_v26 (j : Fin 1024) : (V m c main_v26 : Vec Ideal _ _) (ix2 0 j) = (m ((c : Thread nD τ).loc main_arg3) (ix2 0 j) : EReal) := by
  dsimp only [V, hostOps0]
  after_results
  pointwise

theorem V_v29 (j : Fin 1024) : (V m c main_v29 : Vec Ideal _ _) (ix2 0 j) = (m ((c : Thread nD τ).loc main_arg4) (ix2 0 j) : EReal) := by
  dsimp only [V, hostOps0]
  after_results
  pointwise

theorem V_v18 (b : Fin 4) (j : Fin 1024) : (V m c main_v18 : Vec Ideal _ _) (ix3 b 0 j) = (1 + m ((c : Thread nD τ).loc main_arg2) (ix3 1 b ⟨1024 + j.val, by omega⟩) : EReal) := by
  dsimp only [V, hostOps0]
  after_results
  pointwise

theorem V_v13 (b : Fin 4) (j : Fin 1024) : (V m c main_v13 : Vec Ideal _ _) (ix3 b 0 j) = (m ((c : Thread nD τ).loc main_arg2) (ix3 1 b ⟨j.val, by omega⟩) : EReal) := by
  dsimp only [V, hostOps0]
  after_results
  pointwise

theorem V_v21 (b : Fin 4) (j : Fin 1024) : (V m c main_v21 : Vec Ideal _ _) (ix3 b 0 j) = (m ((c : Thread nD τ).loc main_arg2) (ix3 1 b ⟨2048 + j.val, by omega⟩) : EReal) := by
  dsimp only [V, hostOps0]
  after_results
  pointwise

theorem V_v31 (k : Fin 1024) (j : Fin 6144) : (V m c main_v31 : Vec Ideal _ _) (ix2 k j) = (m ((c : Thread nD τ).loc main_arg6) (ix3 0 k j) : EReal) := by
  dsimp only [V, hostOps0]
  after_results
  pointwise

theorem V_v33 (j : Fin 2048) : (V m c main_v33 : Vec Ideal _ _) (ix2 0 j) = (m ((c : Thread nD τ).loc main_arg7) (ix2 0 j) : EReal) := by
  dsimp only [V, hostOps0]
  after_results
  pointwise

theorem V_v35 (j : Fin 2048) : (V m c main_v35 : Vec Ideal _ _) (ix2 0 j) = (m ((c : Thread nD τ).loc main_arg8) (ix2 0 j) : EReal) := by
  dsimp only [V, hostOps0]
  after_results
  pointwise

theorem V_v37 (g : Fin 16) (t s : Fin 128) : (V m c main_v37 : Vec Ideal _ _) (ix3 g t s) = (m ((c : Thread nD τ).loc main_arg9) (ix4 0 g t s) : EReal) := by
  dsimp only [V, hostOps0]
  after_results
  pointwise

theorem V_v39 (t : Fin 128) (g : Fin 16) : (V m c main_v39 : Vec Ideal _ _) (ix2 t g) = (m ((c : Thread nD τ).loc main_arg10) (ix3 0 g t) : EReal) := by
  dsimp only [V, hostOps0]
  after_results
  pointwise

theorem V_v41 (k : Fin 2048) (j : Fin 1024) : (V m c main_v41 : Vec Ideal _ _) (ix2 k j) = (m ((c : Thread nD τ).loc main_arg11) (ix3 0 k j) : EReal) := by
  dsimp only [V, hostOps0]
  after_results
  pointwise

theorem V_v44 (j : Fin 1024) : (V m c main_v44 : Vec Ideal _ _) (ix2 0 j) = (m ((c : Thread nD τ).loc main_arg3) (ix2 1 j) : EReal) := by
  dsimp only [V, hostOps0]
  after_results
  pointwise

theorem V_v47 (j : Fin 1024) : (V m c main_v47 : Vec Ideal _ _) (ix2 0 j) = (m ((c : Thread nD τ).loc main_arg4) (ix2 1 j) : EReal) := by
  dsimp only [V, hostOps0]
  after_results
  pointwise

theorem idx0 : ∀ t : Fin cfg0.N, win0_0.index t = ![t.val / 16, t.val % 16, 0] :=
  (by decide +kernel : ∀ t : Fin grid0.N, win0_0.index t = ![t.val / 16, t.val % 16, 0])

theorem iblk0 (t : Fin cfg0.N) (r : Fin 512) (k : Fin 1024) : (iblk m c 0 t : Vec Ideal _ _) (ix3 0 r k) = (V m c main_arg0 : Vec Ideal _ _) (ix3 (tb t) ⟨512 * (t.val % 16) + r.val, by omega⟩ k) := by
  have h := idx0 t
  show (V m c main_arg0 : Vec Ideal _ _) (((cfg0.win 0).blk t).view.emb (ix3 0 r k)) = _
  refine congrArg (V m c main_arg0 : Vec Ideal _ _) ?_
  have e : ∀ a, ((((cfg0.win 0).blk t).view.emb (ix3 0 r k)) a : Nat) = win0_0.index t a * (![1, 512, 1024] : Fin 3 → Nat) a + 1 * ((ix3 0 r k : (⟨3, ![1, 512, 1024]⟩ : Shape).Idx) a : Nat) := fun a => rfl
  funext a
  apply Fin.ext
  rw [e, h]
  fin_cases a <;> simp [tb] <;> omega

theorem idx1 : ∀ t : Fin cfg0.N, win0_1.index t = ![t.val / 16, t.val % 16, 0] :=
  (by decide +kernel : ∀ t : Fin grid0.N, win0_1.index t = ![t.val / 16, t.val % 16, 0])

theorem iblk1 (t : Fin cfg0.N) (r : Fin 512) (k : Fin 1024) : (iblk m c 1 t : Vec Ideal _ _) (ix3 0 r k) = (V m c main_arg1 : Vec Ideal _ _) (ix3 (tb t) ⟨512 * (t.val % 16) + r.val, by omega⟩ k) := by
  have h := idx1 t
  show (V m c main_arg1 : Vec Ideal _ _) (((cfg0.win 1).blk t).view.emb (ix3 0 r k)) = _
  refine congrArg (V m c main_arg1 : Vec Ideal _ _) ?_
  have e : ∀ a, ((((cfg0.win 1).blk t).view.emb (ix3 0 r k)) a : Nat) = win0_1.index t a * (![1, 512, 1024] : Fin 3 → Nat) a + 1 * ((ix3 0 r k : (⟨3, ![1, 512, 1024]⟩ : Shape).Idx) a : Nat) := fun a => rfl
  funext a
  apply Fin.ext
  rw [e, h]
  fin_cases a <;> simp [tb] <;> omega

theorem idx2 : ∀ t : Fin cfg0.N, win0_2.index t = ![t.val / 16, 0, 0] :=
  (by decide +kernel : ∀ t : Fin grid0.N, win0_2.index t = ![t.val / 16, 0, 0])

theorem iblk2 (t : Fin cfg0.N) (j : Fin 1024) : (iblk m c 2 t : Vec Ideal _ _) (ix3 0 0 j) = (V m c main_v10 : Vec Ideal _ _) (ix3 (tb t) 0 j) := by
  have h := idx2 t
  show (V m c main_v10 : Vec Ideal _ _) (((cfg0.win 2).blk t).view.emb (ix3 0 0 j)) = _
  refine congrArg (V m c main_v10 : Vec Ideal _ _) ?_
  have e : ∀ a, ((((cfg0.win 2).blk t).view.emb (ix3 0 0 j)) a : Nat) = win0_2.index t a * (![1, 1, 1024] : Fin 3 → Nat) a + 1 * ((ix3 0 0 j : (⟨3, ![1, 1, 1024]⟩ : Shape).Idx) a : Nat) := fun a => rfl
  funext a
  apply Fin.ext
  rw [e, h]
  fin_cases a <;> simp [tb] <;> omega

theorem idx3 : ∀ t : Fin cfg0.N, win0_3.index t = fun _ => 0 :=
  (by decide +kernel : ∀ t : Fin grid0.N, win0_3.index t = fun _ => 0)

theorem iblk3 (t : Fin cfg0.N) (k j : Fin 1024) : (iblk m c 3 t : Vec Ideal _ _) (ix2 k j) = (V m c main_v23 : Vec Ideal _ _) (ix2 k j) := by
  have h := idx3 t
  show (V m c main_v23 : Vec Ideal _ _) (((cfg0.win 3).blk t).view.emb (ix2 k j)) = _
  refine congrArg (V m c main_v23 : Vec Ideal _ _) ?_
  have e : ∀ a, ((((cfg0.win 3).blk t).view.emb (ix2 k j)) a : Nat) = win0_3.index t a * (![1024, 1024] : Fin 2 → Nat) a + 1 * ((ix2 k j : (⟨2, ![1024, 1024]⟩ : Shape).Idx) a : Nat) := fun a => rfl
  funext a
  apply Fin.ext
  rw [e, h]
  fin_cases a <;> simp [tb] <;> omega

theorem idx4 : ∀ t : Fin cfg0.N, win0_4.index t = fun _ => 0 :=
  (by decide +kernel : ∀ t : Fin grid0.N, win0_4.index t = fun _ => 0)

theorem iblk4 (t : Fin cfg0.N) (j : Fin 1024) : (iblk m c 4 t : Vec Ideal _ _) (ix2 0 j) = (V m c main_v26 : Vec Ideal _ _) (ix2 0 j) := by
  have h := idx4 t
  show (V m c main_v26 : Vec Ideal _ _) (((cfg0.win 4).blk t).view.emb (ix2 0 j)) = _
  refine congrArg (V m c main_v26 : Vec Ideal _ _) ?_
  have e : ∀ a, ((((cfg0.win 4).blk t).view.emb (ix2 0 j)) a : Nat) = win0_4.index t a * (![1, 1024] : Fin 2 → Nat) a + 1 * ((ix2 0 j : (⟨2, ![1, 1024]⟩ : Shape).Idx) a : Nat) := fun a => rfl
  funext a
  apply Fin.ext
  rw [e, h]
  fin_cases a <;> simp [tb] <;> omega

theorem idx5 : ∀ t : Fin cfg0.N, win0_5.index t = fun _ => 0 :=
  (by decide +kernel : ∀ t : Fin grid0.N, win0_5.index t = fun _ => 0)

theorem iblk5 (t : Fin cfg0.N) (j : Fin 1024) : (iblk m c 5 t : Vec Ideal _ _) (ix2 0 j) = (V m c main_v29 : Vec Ideal _ _) (ix2 0 j) := by
  have h := idx5 t
  show (V m c main_v29 : Vec Ideal _ _) (((cfg0.win 5).blk t).view.emb (ix2 0 j)) = _
  refine congrArg (V m c main_v29 : Vec Ideal _ _) ?_
  have e : ∀ a, ((((cfg0.win 5).blk t).view.emb (ix2 0 j)) a : Nat) = win0_5.index t a * (![1, 1024] : Fin 2 → Nat) a + 1 * ((ix2 0 j : (⟨2, ![1, 1024]⟩ : Shape).Idx) a : Nat) := fun a => rfl
  funext a
  apply Fin.ext
  rw [e, h]
  fin_cases a <;> simp [tb] <;> omega

theorem idx6 : ∀ t : Fin cfg0.N, win0_6.index t = ![t.val / 16, 0, 0] :=
  (by decide +kernel : ∀ t : Fin grid0.N, win0_6.index t = ![t.val / 16, 0, 0])

theorem iblk6 (t : Fin cfg0.N) (j : Fin 1024) : (iblk m c 6 t : Vec Ideal _ _) (ix3 0 0 j) = (V m c main_v18 : Vec Ideal _ _) (ix3 (tb t) 0 j) := by
  have h := idx6 t
  show (V m c main_v18 : Vec Ideal _ _) (((cfg0.win 6).blk t).view.emb (ix3 0 0 j)) = _
  refine congrArg (V m c main_v18 : Vec Ideal _ _) ?_
  have e : ∀ a, ((((cfg0.win 6).blk t).view.emb (ix3 0 0 j)) a : Nat) = win0_6.index t a * (![1, 1, 1024] : Fin 3 → Nat) a + 1 * ((ix3 0 0 j : (⟨3, ![1, 1, 1024]⟩ : Shape).Idx) a : Nat) := fun a => rfl
  funext a
  apply Fin.ext
  rw [e, h]
  fin_cases a <;> simp [tb] <;> omega

theorem idx7 : ∀ t : Fin cfg0.N, win0_7.index t = ![t.val / 16, 0, 0] :=
  (by decide +kernel : ∀ t : Fin grid0.N, win0_7.index t = ![t.val / 16, 0, 0])

theorem iblk7 (t : Fin cfg0.N) (j : Fin 1024) : (iblk m c 7 t : Vec Ideal _ _) (ix3 0 0 j) = (V m c main_v13 : Vec Ideal _ _) (ix3 (tb t) 0 j) := by
  have h := idx7 t
  show (V m c main_v13 : Vec Ideal _ _) (((cfg0.win 7).blk t).view.emb (ix3 0 0 j)) = _
  refine congrArg (V m c main_v13 : Vec Ideal _ _) ?_
  have e : ∀ a, ((((cfg0.win 7).blk t).view.emb (ix3 0 0 j)) a : Nat) = win0_7.index t a * (![1, 1, 1024] : Fin 3 → Nat) a + 1 * ((ix3 0 0 j : (⟨3, ![1, 1, 1024]⟩ : Shape).Idx) a : Nat) := fun a => rfl
  funext a
  apply Fin.ext
  rw [e, h]
  fin_cases a <;> simp [tb] <;> omega

theorem idx8 : ∀ t : Fin cfg0.N, win0_8.index t = ![t.val / 16, 0, 0] :=
  (by decide +kernel : ∀ t : Fin grid0.N, win0_8.index t = ![t.val / 16, 0, 0])

theorem iblk8 (t : Fin cfg0.N) (j : Fin 1024) : (iblk m c 8 t : Vec Ideal _ _) (ix3 0 0 j) = (V m c main_v21 : Vec Ideal _ _) (ix3 (tb t) 0 j) := by
  have h := idx8 t
  show (V m c main_v21 : Vec Ideal _ _) (((cfg0.win 8).blk t).view.emb (ix3 0 0 j)) = _
  refine congrArg (V m c main_v21 : Vec Ideal _ _) ?_
  have e : ∀ a, ((((cfg0.win 8).blk t).view.emb (ix3 0 0 j)) a : Nat) = win0_8.index t a * (![1, 1, 1024] : Fin 3 → Nat) a + 1 * ((ix3 0 0 j : (⟨3, ![1, 1, 1024]⟩ : Shape).Idx) a : Nat) := fun a => rfl
  funext a
  apply Fin.ext
  rw [e, h]
  fin_cases a <;> simp [tb] <;> omega

theorem idx9 : ∀ t : Fin cfg0.N, win0_9.index t = fun _ => 0 :=
  (by decide +kernel : ∀ t : Fin grid0.N, win0_9.index t = fun _ => 0)

theorem iblk9 (t : Fin cfg0.N) (k : Fin 1024) (j : Fin 6144) : (iblk m c 9 t : Vec Ideal _ _) (ix2 k j) = (V m c main_v31 : Vec Ideal _ _) (ix2 k j) := by
  have h := idx9 t
  show (V m c main_v31 : Vec Ideal _ _) (((cfg0.win 9).blk t).view.emb (ix2 k j)) = _
  refine congrArg (V m c main_v31 : Vec Ideal _ _) ?_
  have e : ∀ a, ((((cfg0.win 9).blk t).view.emb (ix2 k j)) a : Nat) = win0_9.index t a * (![1024, 6144] : Fin 2 → Nat) a + 1 * ((ix2 k j : (⟨2, ![1024, 6144]⟩ : Shape).Idx) a : Nat) := fun a => rfl
  funext a
  apply Fin.ext
  rw [e, h]
  fin_cases a <;> simp [tb] <;> omega

theorem idx10 : ∀ t : Fin cfg0.N, win0_10.index t = fun _ => 0 :=
  (by decide +kernel : ∀ t : Fin grid0.N, win0_10.index t = fun _ => 0)

theorem iblk10 (t : Fin cfg0.N) (j : Fin 2048) : (iblk m c 10 t : Vec Ideal _ _) (ix2 0 j) = (V m c main_v33 : Vec Ideal _ _) (ix2 0 j) := by
  have h := idx10 t
  show (V m c main_v33 : Vec Ideal _ _) (((cfg0.win 10).blk t).view.emb (ix2 0 j)) = _
  refine congrArg (V m c main_v33 : Vec Ideal _ _) ?_
  have e : ∀ a, ((((cfg0.win 10).blk t).view.emb (ix2 0 j)) a : Nat) = win0_10.index t a * (![1, 2048] : Fin 2 → Nat) a + 1 * ((ix2 0 j : (⟨2, ![1, 2048]⟩ : Shape).Idx) a : Nat) := fun a => rfl
  funext a
  apply Fin.ext
  rw [e, h]
  fin_cases a <;> simp [tb] <;> omega

theorem idx11 : ∀ t : Fin cfg0.N, win0_11.index t = fun _ => 0 :=
  (by decide +kernel : ∀ t : Fin grid0.N, win0_11.index t = fun _ => 0)

theorem iblk11 (t : Fin cfg0.N) (j : Fin 2048) : (iblk m c 11 t : Vec Ideal _ _) (ix2 0 j) = (V m c main_v35 : Vec Ideal _ _) (ix2 0 j) := by
  have h := idx11 t
  show (V m c main_v35 : Vec Ideal _ _) (((cfg0.win 11).blk t).view.emb (ix2 0 j)) = _
  refine congrArg (V m c main_v35 : Vec Ideal _ _) ?_
  have e : ∀ a, ((((cfg0.win 11).blk t).view.emb (ix2 0 j)) a : Nat) = win0_11.index t a * (![1, 2048] : Fin 2 → Nat) a + 1 * ((ix2 0 j : (⟨2, ![1, 2048]⟩ : Shape).Idx) a : Nat) := fun a => rfl
  funext a
  apply Fin.ext
  rw [e, h]
  fin_cases a <;> simp [tb] <;> omega

theorem idx12 : ∀ t : Fin cfg0.N, win0_12.index t = fun _ => 0 :=
  (by decide +kernel : ∀ t : Fin grid0.N, win0_12.index t = fun _ => 0)

theorem iblk12 (t : Fin cfg0.N) (g : Fin 16) (u s : Fin 128) : (iblk m c 12 t : Vec Ideal _ _) (ix3 g u s) = (V m c main_v37 : Vec Ideal _ _) (ix3 g u s) := by
  have h := idx12 t
  show (V m c main_v37 : Vec Ideal _ _) (((cfg0.win 12).blk t).view.emb (ix3 g u s)) = _
  refine congrArg (V m c main_v37 : Vec Ideal _ _) ?_
  have e : ∀ a, ((((cfg0.win 12).blk t).view.emb (ix3 g u s)) a : Nat) = win0_12.index t a * (![16, 128, 128] : Fin 3 → Nat) a + 1 * ((ix3 g u s : (⟨3, ![16, 128, 128]⟩ : Shape).Idx) a : Nat) := fun a => rfl
  funext a
  apply Fin.ext
  rw [e, h]
  fin_cases a <;> simp [tb] <;> omega

theorem idx13 : ∀ t : Fin cfg0.N, win0_13.index t = fun _ => 0 :=
  (by decide +kernel : ∀ t : Fin grid0.N, win0_13.index t = fun _ => 0)

theorem iblk13 (t : Fin cfg0.N) (u : Fin 128) (g : Fin 16) : (iblk m c 13 t : Vec Ideal _ _) (ix2 u g) = (V m c main_v39 : Vec Ideal _ _) (ix2 u g) := by
  have h := idx13 t
  show (V m c main_v39 : Vec Ideal _ _) (((cfg0.win 13).blk t).view.emb (ix2 u g)) = _
  refine congrArg (V m c main_v39 : Vec Ideal _ _) ?_
  have e : ∀ a, ((((cfg0.win 13).blk t).view.emb (ix2 u g)) a : Nat) = win0_13.index t a * (![128, 16] : Fin 2 → Nat) a + 1 * ((ix2 u g : (⟨2, ![128, 16]⟩ : Shape).Idx) a : Nat) := fun a => rfl
  funext a
  apply Fin.ext
  rw [e, h]
  fin_cases a <;> simp [tb] <;> omega

theorem idx14 : ∀ t : Fin cfg0.N, win0_14.index t = fun _ => 0 :=
  (by decide +kernel : ∀ t : Fin grid0.N, win0_14.index t = fun _ => 0)

theorem iblk14 (t : Fin cfg0.N) (k : Fin 2048) (j : Fin 1024) : (iblk m c 14 t : Vec Ideal _ _) (ix2 k j) = (V m c main_v41 : Vec Ideal _ _) (ix2 k j) := by
  have h := idx14 t
  show (V m c main_v41 : Vec Ideal _ _) (((cfg0.win 14).blk t).view.emb (ix2 k j)) = _
  refine congrArg (V m c main_v41 : Vec Ideal _ _) ?_
  have e : ∀ a, ((((cfg0.win 14).blk t).view.emb (ix2 k j)) a : Nat) = win0_14.index t a * (![2048, 1024] : Fin 2 → Nat) a + 1 * ((ix2 k j : (⟨2, ![2048, 1024]⟩ : Shape).Idx) a : Nat) := fun a => rfl
  funext a
  apply Fin.ext
  rw [e, h]
  fin_cases a <;> simp [tb] <;> omega

theorem idx15 : ∀ t : Fin cfg0.N, win0_15.index t = fun _ => 0 :=
  (by decide +kernel : ∀ t : Fin grid0.N, win0_15.index t = fun _ => 0)

theorem iblk15 (t : Fin cfg0.N) (j : Fin 1024) : (iblk m c 15 t : Vec Ideal _ _) (ix2 0 j) = (V m c main_v44 : Vec Ideal _ _) (ix2 0 j) := by
  have h := idx15 t
  show (V m c main_v44 : Vec Ideal _ _) (((cfg0.win 15).blk t).view.emb (ix2 0 j)) = _
  refine congrArg (V m c main_v44 : Vec Ideal _ _) ?_
  have e : ∀ a, ((((cfg0.win 15).blk t).view.emb (ix2 0 j)) a : Nat) = win0_15.index t a * (![1, 1024] : Fin 2 → Nat) a + 1 * ((ix2 0 j : (⟨2, ![1, 1024]⟩ : Shape).Idx) a : Nat) := fun a => rfl
  funext a
  apply Fin.ext
  rw [e, h]
  fin_cases a <;> simp [tb] <;> omega

theorem idx16 : ∀ t : Fin cfg0.N, win0_16.index t = fun _ => 0 :=
  (by decide +kernel : ∀ t : Fin grid0.N, win0_16.index t = fun _ => 0)

theorem iblk16 (t : Fin cfg0.N) (j : Fin 1024) : (iblk m c 16 t : Vec Ideal _ _) (ix2 0 j) = (V m c main_v47 : Vec Ideal _ _) (ix2 0 j) := by
  have h := idx16 t
  show (V m c main_v47 : Vec Ideal _ _) (((cfg0.win 16).blk t).view.emb (ix2 0 j)) = _
  refine congrArg (V m c main_v47 : Vec Ideal _ _) ?_
  have e : ∀ a, ((((cfg0.win 16).blk t).view.emb (ix2 0 j)) a : Nat) = win0_16.index t a * (![1, 1024] : Fin 2 → Nat) a + 1 * ((ix2 0 j : (⟨2, ![1, 1024]⟩ : Shape).Idx) a : Nat) := fun a => rfl
  funext a
  apply Fin.ext
  rw [e, h]
  fin_cases a <;> simp [tb] <;> omega

end Cert.KernelIdeal.SguArray
-- ==== Proof.SguRef.lean ====
/-
  The reference's result, read at an index, is the layer's function of the token's chunk.
-/
module

public import proofs.«01_k».proof.Proof.Gen.ReferenceIdeal.Read
public import proofs.«01_k».proof.Proof.SguSpec

@[expose] public section

noncomputable section

namespace Cert.ReferenceIdeal.Sgu

open Cert.ReferenceIdeal Cert.ReferenceIdeal.Gen Cert.ReferenceIdeal.Read Idealize.ShloMosaic Idealize.ShloMosaic.TcCoe

variable (x0 : (⟨S4x8192x1024, .bf16⟩ : BufTy).Contents (Elt Ideal)) (x1 : (⟨S4x8192x1024, .f32⟩ : BufTy).Contents (Elt Ideal))
  (x2 : (⟨S2x4x3072, .f32⟩ : BufTy).Contents (Elt Ideal)) (x3 x4 : (⟨S2x1024, .f32⟩ : BufTy).Contents (Elt Ideal))
  (x5 : (⟨S1x1024x1024, .f32⟩ : BufTy).Contents (Elt Ideal)) (x6 : (⟨S1x1024x6144, .f32⟩ : BufTy).Contents (Elt Ideal))
  (x7 x8 : (⟨S1x2048, .f32⟩ : BufTy).Contents (Elt Ideal)) (x9 : (⟨S1x16x128x128, .f32⟩ : BufTy).Contents (Elt Ideal))
  (x10 : (⟨S1x16x128, .f32⟩ : BufTy).Contents (Elt Ideal)) (x11 : (⟨S1x2048x1024, .f32⟩ : BufTy).Contents (Elt Ideal))

/-- The weights and the modulation of batch entry `b`, read from the arguments. -/
def par (b : Fin 4) : _root_.Sgu.Par where
  ga j := x2 (ix3 0 b ⟨2048 + j, by omega⟩)
  wa k j := x5 (ix3 0 k j)
  lg j := x3 (ix2 0 j)
  lb j := x4 (ix2 0 j)
  sc j := 1 + x2 (ix3 1 b ⟨1024 + j, by omega⟩)
  sh j := x2 (ix3 1 b ⟨j, by omega⟩)
  gc j := x2 (ix3 1 b ⟨2048 + j, by omega⟩)
  win k c := x6 (ix3 0 k c)
  lng e := x7 (ix2 0 e)
  lnb e := x8 (ix2 0 e)
  ws g t s := x9 (ix4 0 g t s)
  bs g t := x10 (ix3 0 g t)
  wout e j := x11 (ix3 0 e j)
  plg j := x3 (ix2 1 j)
  plb j := x4 (ix2 1 j)

local notation "P" => par x2 x3 x4 x5 x6 x7 x8 x9 x10 x11

/-- The mixer's output at token `s` of batch entry `b`, as a row. -/
def yrow (b : Fin 4) (s : Fin 8192) (k : Fin 1024) : EReal := x0 (ix3 b s k)
/-- The input at token `s` of batch entry `b`, as a row. -/
def xrow (b : Fin 4) (s : Fin 8192) (k : Fin 1024) : EReal := x1 (ix3 b s k)

theorem res1_apply (b : Fin 4) (s : Fin 8192) (j : Fin 1024) :
    val_main_v13 (F := Ideal) x0 x1 x2 x5 (ix3 b s j) = _root_.Sgu.res1 (P b) (yrow x0 b s) (xrow x1 b s) j := by
  pointwise [val_main_v13, val_main_v12, val_main_v11, val_main_v10, val_main_v9, val_main_v8, val_main_cst, val_main_v7, val_main_v6, val_main_v5, val_main_v4, val_main_v1, val_main_v0]
  rfl

theorem x1_apply (b : Fin 4) (s : Fin 8192) (j : Fin 1024) :
    val_main_v41 (F := Ideal) x0 x1 x2 x3 x4 x5 (ix3 b s j) = _root_.Sgu.x1 (P b) (yrow x0 b s) (xrow x1 b s) j := by
  pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_cst_0, val_main_cst_1, val_main_cst_2, val_main_cst_3, val_main_cst_4, res1_apply x0 x1 x2 x3 x4 x5 x6 x7 x8 x9 x10 x11]
  rfl

theorem h_apply (b : Fin 4) (s : Fin 8192) (j : Fin 1024) :
    val_main_v54 (F := Ideal) x0 x1 x2 x3 x4 x5 (ix3 b s j) = _root_.Sgu.h (P b) (yrow x0 b s) (xrow x1 b s) j := by
  pointwise [val_main_v54, val_main_v53, val_main_v52, val_main_v51, val_main_v50, val_main_v49, val_main_v48, val_main_v47, val_main_v45, val_main_v44, val_main_v43, val_main_v42, val_main_cst_5, x1_apply x0 x1 x2 x3 x4 x5 x6 x7 x8 x9 x10 x11]
  rfl

theorem z_apply (b : Fin 4) (s : Fin 8192) (c : Fin 6144) :
    val_main_v61 (F := Ideal) x0 x1 x2 x3 x4 x5 x6 (ix3 b s c) = _root_.Sgu.z (P b) (yrow x0 b s) (xrow x1 b s) c := by
  pointwise [val_main_v61, val_main_v55, h_apply x0 x1 x2 x3 x4 x5 x6 x7 x8 x9 x10 x11]
  rfl

theorem gelu_apply (b : Fin 4) (s : Fin 8192) (c : Fin 4096) :
    val_main_v69 (F := Ideal) x0 x1 x2 x3 x4 x5 x6 (ix3 b s c) = _root_.Sgu.gelu (_root_.Sgu.z (P b) (yrow x0 b s) (xrow x1 b s) ⟨c, by omega⟩) := by
  pointwise [val_main_v69, val_main_v68, val_main_v67, val_main_v66, val_main_v65, val_main_v64, val_main_v63, val_main_v62, val_main_cst_6, val_main_cst_7, z_apply x0 x1 x2 x3 x4 x5 x6 x7 x8 x9 x10 x11]
  unfold _root_.Sgu.gelu
  rw [neg_mul, Ideal.erfc_neg]

theorem v_apply (b : Fin 4) (s : Fin 8192) (e : Fin 2048) :
    val_main_v96 (F := Ideal) x0 x1 x2 x3 x4 x5 x6 x7 x8 (ix3 b s e) = _root_.Sgu.v (P b) (yrow x0 b s) (xrow x1 b s) e := by
  pointwise [val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v56, val_main_v57, val_main_cst_8, val_main_cst_9, val_main_cst_10, val_main_cst_11, val_main_cst_12, gelu_apply x0 x1 x2 x3 x4 x5 x6 x7 x8 x9 x10 x11]
  rfl

/-- Token `t` of the chunk that token `s` is in. -/
def tok (s : Fin 8192) (t : Fin 128) : Fin 8192 := ⟨s.val / 128 * 128 + t.val, by omega⟩

/-- A token is a token of its own chunk. -/
theorem tok_self (s : Fin 8192) : tok s ⟨s.val % 128, by omega⟩ = s := Fin.ext (by show s.val / 128 * 128 + s.val % 128 = s.val; omega)

theorem act_apply (b : Fin 4) (s : Fin 8192) (e : Fin 2048) :
    val_main_v107 (F := Ideal) x0 x1 x2 x3 x4 x5 x6 x7 x8 x9 x10 (ix3 b s e)
      = _root_.Sgu.act (P b) (fun t => yrow x0 b (tok s t)) (fun t => xrow x1 b (tok s t)) ⟨s.val % 128, by omega⟩ e := by
  pointwise [val_main_v107, val_main_v106, val_main_call0_v5, val_main_call0_v4, val_main_call0_v3, val_main_call0_v2, val_main_call0_v1, val_main_call0_v0, val_main_call0_cst, val_main_call0_cst_0, val_main_v105, val_main_v104, val_main_v103, val_main_v102, val_main_v101, val_main_v100, val_main_v99, val_main_v98, val_main_v97, val_main_v71, val_main_v70, val_main_v58, val_main_v59, v_apply x0 x1 x2 x3 x4 x5 x6 x7 x8 x9 x10 x11, gelu_apply x0 x1 x2 x3 x4 x5 x6 x7 x8 x9 x10 x11, z_apply x0 x1 x2 x3 x4 x5 x6 x7 x8 x9 x10 x11]
  unfold _root_.Sgu.act
  simp only [tok_self]
  rw [mul_right_comm]
  refine congrArg₂ (· * ·) rfl (congrArg₂ (· + ·) (Finset.sum_congr rfl fun t _ => mul_comm _ _) rfl)

theorem out_apply (b : Fin 4) (s : Fin 8192) (j : Fin 1024) :
    val_main_v142 (F := Ideal) x0 x1 x2 x3 x4 x5 x6 x7 x8 x9 x10 x11 (ix3 b s j)
      = _root_.Sgu.out (P b) (fun t => yrow x0 b (tok s t)) (fun t => xrow x1 b (tok s t)) ⟨s.val % 128, by omega⟩ j := by
  pointwise [val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v60, val_main_v46, val_main_v43, val_main_v42, val_main_cst_13, val_main_cst_14, val_main_cst_15, val_main_cst_16, val_main_cst_17, val_main_cst_18, x1_apply x0 x1 x2 x3 x4 x5 x6 x7 x8 x9 x10 x11, act_apply x0 x1 x2 x3 x4 x5 x6 x7 x8 x9 x10 x11]
  unfold _root_.Sgu.out _root_.Sgu.lnRow _root_.Sgu.res2
  simp only [tok_self]
  rfl

end Cert.ReferenceIdeal.Sgu

end
-- ==== Proof.SguFinal.lean ====
/-
  The result array of the gated-MLP kernel is the layer's function of each token's chunk, in the arguments.
-/
module
public import proofs.«01_k».proof.Proof.SguArray
public import proofs.«01_k».proof.Proof.SguRef
@[expose] public section
noncomputable section
namespace Cert.KernelIdeal.SguArray
open Cert.KernelIdeal Cert.KernelIdeal.Gen Cert.KernelIdeal.SguBlock Idealize.ShloMosaic Idealize.ShloMosaic.TcCoe Idealize.SL.Sem Idealize.ShloMosaic.Tactic
open Idealize.ShloMosaic.Pipeline (Dat)
variable (m : (ℓ : Loc nD τ sig) → Buf (Elt Ideal) ℓ) (c : Dev nD)

/-- The parameters the windows bring at a grid point are those of its batch entry. -/
theorem par_eq (t : Fin cfg0.N) :
    SguBlock.par (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
      = Cert.ReferenceIdeal.Sgu.par (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (tb t) := by
  unfold SguBlock.par Cert.ReferenceIdeal.Sgu.par
  congr 1
  · funext j; exact (iblk2 m c t j).trans (V_v10 m c (tb t) j)
  · funext k j; exact (iblk3 m c t k j).trans (V_v23 m c k j)
  · funext j; exact (iblk4 m c t j).trans (V_v26 m c j)
  · funext j; exact (iblk5 m c t j).trans (V_v29 m c j)
  · funext j; exact (iblk6 m c t j).trans (V_v18 m c (tb t) j)
  · funext j; exact (iblk7 m c t j).trans (V_v13 m c (tb t) j)
  · funext j; exact (iblk8 m c t j).trans (V_v21 m c (tb t) j)
  · funext k j; exact (iblk9 m c t k j).trans (V_v31 m c k j)
  · funext j; exact (iblk10 m c t j).trans (V_v33 m c j)
  · funext j; exact (iblk11 m c t j).trans (V_v35 m c j)
  · funext g s u; exact (iblk12 m c t g s u).trans (V_v37 m c g s u)
  · funext g u; exact (iblk13 m c t u g).trans (V_v39 m c u g)
  · funext k j; exact (iblk14 m c t k j).trans (V_v41 m c k j)
  · funext j; exact (iblk15 m c t j).trans (V_v44 m c j)
  · funext j; exact (iblk16 m c t j).trans (V_v47 m c j)

theorem yrow_eq (t : Fin cfg0.N) (r : Fin 512) :
    yrow (iblk m c 0 t) r = Cert.ReferenceIdeal.Sgu.yrow (m ((c : Thread nD τ).loc main_arg0)) (tb t) ⟨512 * (t.val % 16) + r.val, by omega⟩ := by
  funext k; exact (iblk0 m c t r k).trans (congrFun (V_main_arg0 m c) _)

theorem xrow_eq (t : Fin cfg0.N) (r : Fin 512) :
    xrow (iblk m c 1 t) r = Cert.ReferenceIdeal.Sgu.xrow (m ((c : Thread nD τ).loc main_arg1)) (tb t) ⟨512 * (t.val % 16) + r.val, by omega⟩ := by
  funext k; exact (iblk1 m c t r k).trans (congrFun (V_main_arg1 m c) _)

theorem idx17 : ∀ t : Fin cfg0.N, win0_17.index t = ![t.val / 16, t.val % 16, 0] :=
  (by decide +kernel : ∀ t : Fin grid0.N, win0_17.index t = ![t.val / 16, t.val % 16, 0])

theorem flush17 : ∀ t : Fin cfg0.N, (cfg0.win 17).flush t = true :=
  (by decide +kernel : ∀ t : Fin grid0.N, win0_17.flush t = true)

/-- The result array at row `r` of the block of grid point `t`. -/
theorem arr_at (t : Fin cfg0.N) (r : Fin 512) (j : Fin 1024) :
    ((dats m 0 c).arrAt 17 cfg0.N : Vec Ideal S4x8192x1024 .f32) (ix3 (tb t) ⟨512 * (t.val % 16) + r.val, by omega⟩ j)
      = SguBlock.O (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix3 0 r j) := by
  have h := idx17 t
  have hb := Cert.KernelIdeal.Value.blocks17 m c t (flush17 t)
  rw [Cert.KernelIdeal.Value.flushed17_A, SguBlock.out0] at hb
  have hx := congrFun hb (ix3 0 r j)
  refine Eq.trans ?_ hx
  show _ = ((dats m 0 c).arrAt 17 cfg0.N : Vec Ideal S4x8192x1024 .f32) (((cfg0.win 17).blk t).view.emb (ix3 0 r j))
  refine congrArg ((dats m 0 c).arrAt 17 cfg0.N : Vec Ideal S4x8192x1024 .f32) ?_
  have e : ∀ a, ((((cfg0.win 17).blk t).view.emb (ix3 0 r j)) a : Nat) = win0_17.index t a * (![1, 512, 1024] : Fin 3 → Nat) a + 1 * ((ix3 0 r j : (⟨3, ![1, 512, 1024]⟩ : Shape).Idx) a : Nat) := fun a => rfl
  funext a
  apply Fin.ext
  rw [e, h]
  fin_cases a <;> simp [tb] <;> omega

/-- The result array is what the reference computes of the arguments. -/
theorem arr_eq :
    ((dats m 0 c).arrAt 17 cfg0.N : Vec Ideal S4x8192x1024 .f32)
      = Cert.ReferenceIdeal.Read.val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  funext z
  obtain ⟨b, s, j, rfl⟩ : ∃ (b : Fin 4) (s : Fin 8192) (j : Fin 1024), z = ix3 b s j := ⟨z 0, z 1, z 2, eq_ix3 z⟩
  rw [Cert.ReferenceIdeal.Sgu.out_apply]
  have hN : cfg0.N = 64 := rfl
  obtain ⟨t, ht⟩ : ∃ t : Fin cfg0.N, t.val = b.val * 16 + s.val / 512 := ⟨⟨b.val * 16 + s.val / 512, by omega⟩, rfl⟩
  have htb : tb t = b := Fin.ext (by simp only [tb]; omega)
  obtain ⟨r, hr⟩ : ∃ r : Fin 512, r.val = s.val % 512 := ⟨⟨s.val % 512, by omega⟩, rfl⟩
  have hs : (⟨512 * (t.val % 16) + r.val, by omega⟩ : Fin 8192) = s := Fin.ext (by simp only; omega)
  have h := arr_at m c t r j
  rw [htb, hs] at h
  rw [h]
  have hy : (fun u : Fin 128 => yrow (iblk m c 0 t) ⟨128 * (r.val / 128) + u.val, by omega⟩)
      = fun u => Cert.ReferenceIdeal.Sgu.yrow (m ((c : Thread nD τ).loc main_arg0)) b (Cert.ReferenceIdeal.Sgu.tok s u) := by
    funext u
    rw [yrow_eq, htb]
    congr 1
    exact Fin.ext (by simp only [Cert.ReferenceIdeal.Sgu.tok]; omega)
  have hx : (fun u : Fin 128 => xrow (iblk m c 1 t) ⟨128 * (r.val / 128) + u.val, by omega⟩)
      = fun u => Cert.ReferenceIdeal.Sgu.xrow (m ((c : Thread nD τ).loc main_arg1)) b (Cert.ReferenceIdeal.Sgu.tok s u) := by
    funext u
    rw [xrow_eq, htb]
    congr 1
    exact Fin.ext (by simp only [Cert.ReferenceIdeal.Sgu.tok]; omega)
  have hm : (⟨r.val % 128, by omega⟩ : Fin 128) = ⟨s.val % 128, by omega⟩ := Fin.ext (by simp only; omega)
  have hp := par_eq m c t
  rw [htb] at hp
  rw [← hp, ← hy, ← hx, ← hm]
  rfl

end Cert.KernelIdeal.SguArray
-- ==== Proof.SguClaim.lean ====
/-
  The claims about the gated-MLP kernel, assembled: the reference's frame from its run, and the equality of the two results.
-/
module
public import proofs.«01_k».proof.Defs
public import proofs.«01_k».proof.Proof.SguFinal
public import proofs.«01_k».proof.Proof.Gen.ReferenceIdeal.Run
@[expose] public section
noncomputable section
namespace Cert.SguClaim
open Idealize.ShloMosaic Idealize.SL.Sem

/-- The reference leaves its arguments as they were and every counter at zero. -/
theorem frame_reference : Cert.quiescent_ReferenceIdeal (hReferenceIdeal := Cert.ReferenceIdeal.Gen.facts) := by
  intro m ρ _
  exact (θ_run _ _ _).mono (fun r h => ⟨fun c => (h c).2, sem_eq_zero_of_no_sems (by decide) r.2⟩) (Cert.ReferenceIdeal.Value.run (F := Ideal) m ρ)

/-- The kernel's result is the reference's, over the extended reals. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => Cert.ReferenceIdeal.Read.val_main_v142 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run _ _ _).mono (fun r h c => ⟨(h c).1.trans (Cert.KernelIdeal.SguArray.arr_eq m c), (h c).2⟩) (Cert.KernelIdeal.Value.run_blocks (F := Ideal) m g)
  · refine (θ_run _ _ _).mono (fun r h c => ⟨((h c).1.trans (Cert.ReferenceIdeal.Read.val_main_v142_eq (F := Ideal) _)).trans ?_, (h c).2⟩) (Cert.ReferenceIdeal.Value.run (F := Ideal) m' g')
    obtain ⟨e0, e1, e2, e3, e4, e5, e6, e7, e8, e9, e10, e11⟩ := hagree c
    show Cert.ReferenceIdeal.Read.val_main_v142 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = _
    rw [e0, e1, e2, e3, e4, e5, e6, e7, e8, e9, e10, e11]

end Cert.SguClaim
-- ==== Proof.InprojRunA.lean ====
/-
The input projection's kernel at one grid point, over any float values. A block of rows takes three grid points, one for
each group of heads; this module says at which points each branch of the body runs, and runs the first branch.
-/
module

public import proofs.«01_k».proof.Proof.Gen.Kernel2Ideal.Frame
public import proofs.«01_k».proof.Proof.Gen.Kernel2Ideal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel2Ideal.Inproj

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Branch 0 of the body is taken at the points ≡ 0 (mod 3). -/
abbrev cond0_0 (i : grid0.Coords) : Prop := k0_cond1 i = 1#1
theorem hcond0_0 : ∀ t : Fin cfg0.N, cond0_0 (grid0.coords t) ↔ t.val % 3 = 0 :=
  (fun t => by
    have ht : t.val < 96 := Nat.lt_of_lt_of_eq t.isLt N_0
    have e0 : (grid0.coords t 0).val = t.val / 24 % 4 := Pipeline.Grid.coords_val t 0 (by decide) rfl
    have e1 : (grid0.coords t 1).val = t.val / 3 % 8 := Pipeline.Grid.coords_val t 1 (by decide) rfl
    have e2 : (grid0.coords t 2).val = t.val / 1 % 3 := Pipeline.Grid.coords_val t 2 (by decide) rfl
    simp only [cond0_0, k0_cond1, e0, e1, e2]
    word_cmp
   : ∀ t : Fin grid0.N, cond0_0 (grid0.coords t) ↔ t.val % 3 = 0)

/-- Branch 1 of the body is taken at the points ≡ 1 (mod 3). -/
abbrev cond0_1 (i : grid0.Coords) : Prop := k0_cond2 i = 1#1
theorem hcond0_1 : ∀ t : Fin cfg0.N, cond0_1 (grid0.coords t) ↔ t.val % 3 = 1 :=
  (fun t => by
    have ht : t.val < 96 := Nat.lt_of_lt_of_eq t.isLt N_0
    have e0 : (grid0.coords t 0).val = t.val / 24 % 4 := Pipeline.Grid.coords_val t 0 (by decide) rfl
    have e1 : (grid0.coords t 1).val = t.val / 3 % 8 := Pipeline.Grid.coords_val t 1 (by decide) rfl
    have e2 : (grid0.coords t 2).val = t.val / 1 % 3 := Pipeline.Grid.coords_val t 2 (by decide) rfl
    simp only [cond0_1, k0_cond2, e0, e1, e2]
    word_cmp
   : ∀ t : Fin grid0.N, cond0_1 (grid0.coords t) ↔ t.val % 3 = 1)

/-- Branch 2 of the body is taken at the points ≡ 2 (mod 3). -/
abbrev cond0_2 (i : grid0.Coords) : Prop := k0_cond3 i = 1#1
theorem hcond0_2 : ∀ t : Fin cfg0.N, cond0_2 (grid0.coords t) ↔ t.val % 3 = 2 :=
  (fun t => by
    have ht : t.val < 96 := Nat.lt_of_lt_of_eq t.isLt N_0
    have e0 : (grid0.coords t 0).val = t.val / 24 % 4 := Pipeline.Grid.coords_val t 0 (by decide) rfl
    have e1 : (grid0.coords t 1).val = t.val / 3 % 8 := Pipeline.Grid.coords_val t 1 (by decide) rfl
    have e2 : (grid0.coords t 2).val = t.val / 1 % 3 := Pipeline.Grid.coords_val t 2 (by decide) rfl
    simp only [cond0_2, k0_cond3, e0, e1, e2]
    word_cmp
   : ∀ t : Fin grid0.N, cond0_2 (grid0.coords t) ↔ t.val % 3 = 2)

/-- The first of a block's three steps: the block's rows modulated into the row scratch and the strip scratch, the three
    products of group 0 and the gate stored. -/
noncomputable def runA (c : Dev nD) (i : grid0.Coords) (arg3 : Memref sig .tc .vmem S1x1024x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x10240 .bf16) (harg6 : arg6.IsWhole) (arg7 : Memref sig .tc .vmem S3x1x1x4x1024x256 .bf16) (harg7 : arg7.IsWhole) (arg8 : Memref sig .tc .vmem S1x1x4x1024x256 .bf16) (harg8 : arg8.IsWhole) (arg9 : Memref sig .tc .vmem S1024x1024 .bf16) (harg9 : arg9.IsWhole) (arg10 : Memref sig .tc .vmem S8x1024x128 .f32) (harg10 : arg10.IsWhole) (hc0 : cond0_0 i) (hc1 : ¬cond0_1 i) (hc2 : ¬cond0_2 i)
    (x0 : Vec F S1x1024x1024 .f32) (x1 : Vec F S1x1x1024 .f32) (x2 : Vec F S1x1x1024 .f32) (x3 : Vec F S1024x10240 .bf16) :
    Σ' (L4 : List (View.Piece (Elt F) S3x1x1x4x1024x256 .bf16)), Σ' (L5 : List (View.Piece (Elt F) S1x1x4x1024x256 .bf16)), Σ' (LX : List (View.Piece (Elt F) S8x1024x128 .f32)), { LH : List (View.Piece (Elt F) S1024x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LH) ∗ (∃ f, arg10.view.loc (c : Thread nD τ) ↦[arg10.view.set]{fullShare} arg10.view.writes (Elt F) f LX)) -∗ K ⟨⟩))
          ⊢ wp frame (wpE (defs₀ (F := F)) Variants.none c none) E (cc0_attn_inproj i arg3 harg3 arg4 harg4 arg5 harg5 arg6 harg6 arg7 harg7 arg8 harg8 arg9 harg9 arg10 harg10) K } := by
  refine ⟨?_, ?_, ?_, ?_, fun E K => ?run⟩
  case run =>
    simp only [cc0_attn_inproj_eq_skeleton]; unfold cc0_attn_inproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [HS0]; · iexists _; iexact HS0
    iexists _; iexact HS1

end Cert.Kernel2Ideal.Inproj

end
-- ==== Proof.InprojRunB.lean ====
/-
The second branch of the input projection's kernel, at one grid point.
-/
module

public import proofs.«01_k».proof.Proof.InprojRunA

@[expose] public section

set_option maxRecDepth 16384

noncomputable section

namespace Cert.Kernel2Ideal.Inproj

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The second step: the rows of group 1 gathered with their stride out of the strip scratch, the three products stored;
    the gate's buffer and the strip scratch stay as they are. -/
noncomputable def runB (c : Dev nD) (i : grid0.Coords) (arg3 : Memref sig .tc .vmem S1x1024x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x10240 .bf16) (harg6 : arg6.IsWhole) (arg7 : Memref sig .tc .vmem S3x1x1x4x1024x256 .bf16) (harg7 : arg7.IsWhole) (arg8 : Memref sig .tc .vmem S1x1x4x1024x256 .bf16) (harg8 : arg8.IsWhole) (arg9 : Memref sig .tc .vmem S1024x1024 .bf16) (harg9 : arg9.IsWhole) (arg10 : Memref sig .tc .vmem S8x1024x128 .f32) (harg10 : arg10.IsWhole) (hc0 : ¬cond0_0 i) (hc1 : cond0_1 i) (hc2 : ¬cond0_2 i)
    (x0 : Vec F S1x1024x1024 .f32) (x1 : Vec F S1x1x1024 .f32) (x2 : Vec F S1x1x1024 .f32) (x3 : Vec F S1024x10240 .bf16) (xg : Vec F S1x1x4x1024x256 .bf16) (xs : Vec F S8x1024x128 .f32) :
    Σ' (L4 : List (View.Piece (Elt F) S3x1x1x4x1024x256 .bf16)), { LH : List (View.Piece (Elt F) S1024x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xg ∗ (∃ d, owns (c : Thread nD τ) arg9 fullShare d) ∗ owns (c : Thread nD τ) arg10 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ owns (c : Thread nD τ) arg8 fullShare xg ∗ (∃ f, arg9.view.loc (c : Thread nD τ) ↦[arg9.view.set]{fullShare} arg9.view.writes (Elt F) f LH) ∗ owns (c : Thread nD τ) arg10 fullShare xs) -∗ K ⟨⟩))
          ⊢ wp frame (wpE (defs₀ (F := F)) Variants.none c none) E (cc0_attn_inproj i arg3 harg3 arg4 harg4 arg5 harg5 arg6 harg6 arg7 harg7 arg8 harg8 arg9 harg9 arg10 harg10) K } := by
  refine ⟨?_, ?_, fun E K => ?run⟩
  case run =>
    simp only [cc0_attn_inproj_eq_skeleton]; unfold cc0_attn_inproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg8.eq_unread hf5; obtain rfl := harg10.eq_unread hfs1
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]
    · iexists _; isplitr; · ipureintro; exact harg8.read_unread _
      iexact H5
    isplitl [HS0]; · iexists _; iexact HS0
    iexists _; isplitr; · ipureintro; exact harg10.read_unread _
    iexact HS1

end Cert.Kernel2Ideal.Inproj

end
-- ==== Proof.InprojRunC.lean ====
/-
The third branch of the input projection's kernel, at one grid point.
-/
module

public import proofs.«01_k».proof.Proof.InprojRunB

@[expose] public section

set_option maxRecDepth 16384

noncomputable section

namespace Cert.Kernel2Ideal.Inproj

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The third step, as the second with group 2's stride. -/
noncomputable def runC (c : Dev nD) (i : grid0.Coords) (arg3 : Memref sig .tc .vmem S1x1024x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x10240 .bf16) (harg6 : arg6.IsWhole) (arg7 : Memref sig .tc .vmem S3x1x1x4x1024x256 .bf16) (harg7 : arg7.IsWhole) (arg8 : Memref sig .tc .vmem S1x1x4x1024x256 .bf16) (harg8 : arg8.IsWhole) (arg9 : Memref sig .tc .vmem S1024x1024 .bf16) (harg9 : arg9.IsWhole) (arg10 : Memref sig .tc .vmem S8x1024x128 .f32) (harg10 : arg10.IsWhole) (hc0 : ¬cond0_0 i) (hc1 : ¬cond0_1 i) (hc2 : cond0_2 i)
    (x0 : Vec F S1x1024x1024 .f32) (x1 : Vec F S1x1x1024 .f32) (x2 : Vec F S1x1x1024 .f32) (x3 : Vec F S1024x10240 .bf16) (xg : Vec F S1x1x4x1024x256 .bf16) (xs : Vec F S8x1024x128 .f32) :
    Σ' (L4 : List (View.Piece (Elt F) S3x1x1x4x1024x256 .bf16)), { LH : List (View.Piece (Elt F) S1024x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xg ∗ (∃ d, owns (c : Thread nD τ) arg9 fullShare d) ∗ owns (c : Thread nD τ) arg10 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ owns (c : Thread nD τ) arg8 fullShare xg ∗ (∃ f, arg9.view.loc (c : Thread nD τ) ↦[arg9.view.set]{fullShare} arg9.view.writes (Elt F) f LH) ∗ owns (c : Thread nD τ) arg10 fullShare xs) -∗ K ⟨⟩))
          ⊢ wp frame (wpE (defs₀ (F := F)) Variants.none c none) E (cc0_attn_inproj i arg3 harg3 arg4 harg4 arg5 harg5 arg6 harg6 arg7 harg7 arg8 harg8 arg9 harg9 arg10 harg10) K } := by
  refine ⟨?_, ?_, fun E K => ?run⟩
  case run =>
    simp only [cc0_attn_inproj_eq_skeleton]; unfold cc0_attn_inproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg8.eq_unread hf5; obtain rfl := harg10.eq_unread hfs1
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]
    · iexists _; isplitr; · ipureintro; exact harg8.read_unread _
      iexact H5
    isplitl [HS0]; · iexists _; iexact HS0
    iexists _; isplitr; · ipureintro; exact harg10.read_unread _
    iexact HS1

end Cert.Kernel2Ideal.Inproj

end
-- ==== Proof.InprojFrame.lean ====
/-
The input projection's kernel over the whole grid: what each grid point leaves in the staging buffers and the scratch, the
run of @main, and its frame. A block of rows takes three grid points; the gate is stored at the first of them only and
written back at the third, so its contents are carried through the other two.
-/
module

public import proofs.«01_k».proof.Proof.InprojRunC
public import proofs.«01_k».proof.Proof.Gen.Kernel2Ideal.Frame
public import Idealize.ShloMosaic.Lib.Claim

@[expose] public section

set_option maxRecDepth 16384

noncomputable section

namespace Cert.Kernel2Ideal.Inproj

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first step's twelve stores cover the block of q, k and v. -/
theorem coverZA (c : Dev nD) (i : grid0.Coords) (arg3 : Memref sig .tc .vmem S1x1024x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x10240 .bf16) (harg6 : arg6.IsWhole) (arg7 : Memref sig .tc .vmem S3x1x1x4x1024x256 .bf16) (harg7 : arg7.IsWhole) (arg8 : Memref sig .tc .vmem S1x1x4x1024x256 .bf16) (harg8 : arg8.IsWhole) (arg9 : Memref sig .tc .vmem S1024x1024 .bf16) (harg9 : arg9.IsWhole) (arg10 : Memref sig .tc .vmem S8x1024x128 .f32) (harg10 : arg10.IsWhole) (hc0 : cond0_0 i) (hc1 : ¬cond0_1 i) (hc2 : ¬cond0_2 i)
    (x0 : Vec F S1x1024x1024 .f32) (x1 : Vec F S1x1x1024 .f32) (x2 : Vec F S1x1x1024 .f32) (x3 : Vec F S1024x10240 .bf16) (y : S3x1x1x4x1024x256.Idx) :
    ∃ pc ∈ (runA c i arg3 harg3 arg4 harg4 arg5 harg5 arg6 harg6 arg7 harg7 arg8 harg8 arg9 harg9 arg10 harg10 hc0 hc1 hc2 x0 x1 x2 x3).1, y ∈ pc.1.set :=
  View.cover_of_tiledL (runA c i arg3 harg3 arg4 harg4 arg5 harg5 arg6 harg6 arg7 harg7 arg8 harg8 arg9 harg9 arg10 harg10 hc0 hc1 hc2 x0 x1 x2 x3).1 S1x1x1x1x1024x256.size (by sl_kernel_rfl) y

/-- Its four stores of the gate cover the gate's block. -/
theorem coverGA (c : Dev nD) (i : grid0.Coords) (arg3 : Memref sig .tc .vmem S1x1024x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x10240 .bf16) (harg6 : arg6.IsWhole) (arg7 : Memref sig .tc .vmem S3x1x1x4x1024x256 .bf16) (harg7 : arg7.IsWhole) (arg8 : Memref sig .tc .vmem S1x1x4x1024x256 .bf16) (harg8 : arg8.IsWhole) (arg9 : Memref sig .tc .vmem S1024x1024 .bf16) (harg9 : arg9.IsWhole) (arg10 : Memref sig .tc .vmem S8x1024x128 .f32) (harg10 : arg10.IsWhole) (hc0 : cond0_0 i) (hc1 : ¬cond0_1 i) (hc2 : ¬cond0_2 i)
    (x0 : Vec F S1x1024x1024 .f32) (x1 : Vec F S1x1x1024 .f32) (x2 : Vec F S1x1x1024 .f32) (x3 : Vec F S1024x10240 .bf16) (y : S1x1x4x1024x256.Idx) :
    ∃ pc ∈ (runA c i arg3 harg3 arg4 harg4 arg5 harg5 arg6 harg6 arg7 harg7 arg8 harg8 arg9 harg9 arg10 harg10 hc0 hc1 hc2 x0 x1 x2 x3).2.1, y ∈ pc.1.set :=
  View.cover_of_tiledL (runA c i arg3 harg3 arg4 harg4 arg5 harg5 arg6 harg6 arg7 harg7 arg8 harg8 arg9 harg9 arg10 harg10 hc0 hc1 hc2 x0 x1 x2 x3).2.1 S1x1x1x1024x256.size (by sl_kernel_rfl) y

/-- Its eight stores of a strip cover the strip scratch. -/
theorem coverXA (c : Dev nD) (i : grid0.Coords) (arg3 : Memref sig .tc .vmem S1x1024x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x10240 .bf16) (harg6 : arg6.IsWhole) (arg7 : Memref sig .tc .vmem S3x1x1x4x1024x256 .bf16) (harg7 : arg7.IsWhole) (arg8 : Memref sig .tc .vmem S1x1x4x1024x256 .bf16) (harg8 : arg8.IsWhole) (arg9 : Memref sig .tc .vmem S1024x1024 .bf16) (harg9 : arg9.IsWhole) (arg10 : Memref sig .tc .vmem S8x1024x128 .f32) (harg10 : arg10.IsWhole) (hc0 : cond0_0 i) (hc1 : ¬cond0_1 i) (hc2 : ¬cond0_2 i)
    (x0 : Vec F S1x1024x1024 .f32) (x1 : Vec F S1x1x1024 .f32) (x2 : Vec F S1x1x1024 .f32) (x3 : Vec F S1024x10240 .bf16) (y : S8x1024x128.Idx) :
    ∃ pc ∈ (runA c i arg3 harg3 arg4 harg4 arg5 harg5 arg6 harg6 arg7 harg7 arg8 harg8 arg9 harg9 arg10 harg10 hc0 hc1 hc2 x0 x1 x2 x3).2.2.1, y ∈ pc.1.set :=
  View.cover_of_tiledL (runA c i arg3 harg3 arg4 harg4 arg5 harg5 arg6 harg6 arg7 harg7 arg8 harg8 arg9 harg9 arg10 harg10 hc0 hc1 hc2 x0 x1 x2 x3).2.2.1 S1x1024x128.size (by sl_kernel_rfl) y

/-- The second step's stores cover the block of q, k and v. -/
theorem coverZB (c : Dev nD) (i : grid0.Coords) (arg3 : Memref sig .tc .vmem S1x1024x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x10240 .bf16) (harg6 : arg6.IsWhole) (arg7 : Memref sig .tc .vmem S3x1x1x4x1024x256 .bf16) (harg7 : arg7.IsWhole) (arg8 : Memref sig .tc .vmem S1x1x4x1024x256 .bf16) (harg8 : arg8.IsWhole) (arg9 : Memref sig .tc .vmem S1024x1024 .bf16) (harg9 : arg9.IsWhole) (arg10 : Memref sig .tc .vmem S8x1024x128 .f32) (harg10 : arg10.IsWhole) (hc0 : ¬cond0_0 i) (hc1 : cond0_1 i) (hc2 : ¬cond0_2 i)
    (x0 : Vec F S1x1024x1024 .f32) (x1 : Vec F S1x1x1024 .f32) (x2 : Vec F S1x1x1024 .f32) (x3 : Vec F S1024x10240 .bf16) (xg : Vec F S1x1x4x1024x256 .bf16) (xs : Vec F S8x1024x128 .f32) (y : S3x1x1x4x1024x256.Idx) :
    ∃ pc ∈ (runB c i arg3 harg3 arg4 harg4 arg5 harg5 arg6 harg6 arg7 harg7 arg8 harg8 arg9 harg9 arg10 harg10 hc0 hc1 hc2 x0 x1 x2 x3 xg xs).1, y ∈ pc.1.set :=
  View.cover_of_tiledL (runB c i arg3 harg3 arg4 harg4 arg5 harg5 arg6 harg6 arg7 harg7 arg8 harg8 arg9 harg9 arg10 harg10 hc0 hc1 hc2 x0 x1 x2 x3 xg xs).1 S1x1x1x1x1024x256.size (by sl_kernel_rfl) y

/-- The third step's stores cover the block of q, k and v. -/
theorem coverZC (c : Dev nD) (i : grid0.Coords) (arg3 : Memref sig .tc .vmem S1x1024x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x10240 .bf16) (harg6 : arg6.IsWhole) (arg7 : Memref sig .tc .vmem S3x1x1x4x1024x256 .bf16) (harg7 : arg7.IsWhole) (arg8 : Memref sig .tc .vmem S1x1x4x1024x256 .bf16) (harg8 : arg8.IsWhole) (arg9 : Memref sig .tc .vmem S1024x1024 .bf16) (harg9 : arg9.IsWhole) (arg10 : Memref sig .tc .vmem S8x1024x128 .f32) (harg10 : arg10.IsWhole) (hc0 : ¬cond0_0 i) (hc1 : ¬cond0_1 i) (hc2 : cond0_2 i)
    (x0 : Vec F S1x1024x1024 .f32) (x1 : Vec F S1x1x1024 .f32) (x2 : Vec F S1x1x1024 .f32) (x3 : Vec F S1024x10240 .bf16) (xg : Vec F S1x1x4x1024x256 .bf16) (xs : Vec F S8x1024x128 .f32) (y : S3x1x1x4x1024x256.Idx) :
    ∃ pc ∈ (runC c i arg3 harg3 arg4 harg4 arg5 harg5 arg6 harg6 arg7 harg7 arg8 harg8 arg9 harg9 arg10 harg10 hc0 hc1 hc2 x0 x1 x2 x3 xg xs).1, y ∈ pc.1.set :=
  View.cover_of_tiledL (runC c i arg3 harg3 arg4 harg4 arg5 harg5 arg6 harg6 arg7 harg7 arg8 harg8 arg9 harg9 arg10 harg10 hc0 hc1 hc2 x0 x1 x2 x3 xg xs).1 S1x1x1x1x1024x256.size (by sl_kernel_rfl) y

/-! ## The staging memrefs and the scratch -/

abbrev ms0 (t : Fin cfg0.N) : Memref sig .tc .vmem S1x1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x10240 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S3x1x1x4x1024x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x4x1024x256 .bf16 := win0_5.stage (cfg0.slots t 5)
abbrev hs5 (t : Fin cfg0.N) : (ms5 t).IsWhole := hstage0_5 ((cfg0.slots t 5).cast nbuf0_5)
/-- The modulated rows in the group's order, and the block's strips: scratch of the kernel's own. -/
abbrev rowScr : Memref sig .tc .vmem S1024x1024 .bf16 := Memref.whole cc0_scratch0
abbrev stripScr : Memref sig .tc .vmem S8x1024x128 .f32 := Memref.whole cc0_scratch1

/-- What the launch hands the region besides the windows: the two scratch buffers and the generator register. -/
theorem PhiA0_eq (c : Dev nD) :
    (Pipeline.ΦA spec0 c : sProp 𝕄)
      = iprop(iprop((∃ d, owns (c : Thread nD τ) rowScr fullShare d) ∗ (∃ d, owns (c : Thread nD τ) stripScr fullShare d)) ∗ (∃ r, prngReg c r)) := by
  unfold Pipeline.ΦA; rw [scopedRest0_eq]; simp only [rowScr, stripScr, owns_whole]; try rfl

/-! ## Where the two output windows are idle, and when the gate's buffer holds something -/

theorem live4 : ∀ t : Fin cfg0.N, cfg0.idle 4 (grid0.coords t) = false :=
  (by decide +kernel : ∀ t : Fin grid0.N, cfg0.idle 4 (grid0.coords t) = false)
theorem live5 : ∀ t : Fin cfg0.N, t.val % 3 = 0 → cfg0.idle 5 (grid0.coords t) = false :=
  (by decide +kernel : ∀ t : Fin grid0.N, t.val % 3 = 0 → cfg0.idle 5 (grid0.coords t) = false)
theorem idle5 : ∀ t : Fin cfg0.N, ¬t.val % 3 = 0 → cfg0.idle 5 (grid0.coords t) = true :=
  (by decide +kernel : ∀ t : Fin grid0.N, ¬t.val % 3 = 0 → cfg0.idle 5 (grid0.coords t) = true)
theorem flush5_mid : ∀ t : Fin cfg0.N, t.val % 3 = 1 → (cfg0.win 5).flush t = false :=
  (by decide +kernel : ∀ t : Fin grid0.N, t.val % 3 = 1 → win0_5.flush t = false)
theorem flush5_last : ∀ t : Fin cfg0.N, t.val % 3 = 2 → (cfg0.win 5).flush t = true :=
  (by decide +kernel : ∀ t : Fin grid0.N, t.val % 3 = 2 → win0_5.flush t = true)
/-- The gate's buffer holds nothing of the body's exactly before the first step of a block. -/
def freshTab : ℕ → Bool := fun n => n % 3 == 0
theorem freshTab_step : ∀ t : Fin cfg0.N,
    freshTab (t.val + 1) = ((cfg0.win 5).flush t || (cfg0.idle 5 (cfg0.grid.coords t) && freshTab t.val)) :=
  (by decide +kernel : ∀ t : Fin grid0.N, freshTab (t.val + 1) = (win0_5.flush t || (cfg0.idle 5 (cfg0.grid.coords t) && freshTab t.val)))
theorem fresh5_eq (t : Fin cfg0.N) : cfg0.fresh 5 t.val = freshTab t.val :=
  Pipeline.Cfg.fresh_tab cfg0 5 freshTab rfl freshTab_step t.val (Nat.le_of_lt t.isLt)

/-! ## What the body leaves -/

/-- The first grid point of the block of rows that point `t` works on. -/
def first (t : Fin cfg0.N) : Fin cfg0.N := ⟨3 * (t.val / 3), lt_of_le_of_lt (Nat.mul_div_le _ _) t.isLt⟩
theorem first_mod (t : Fin cfg0.N) : (first t).val % 3 = 0 := Nat.mul_mod_right 3 _
theorem first_of_mod (t : Fin cfg0.N) (h : t.val % 3 = 0) : first t = t := Fin.ext (by show 3 * (t.val / 3) = t.val; omega)
theorem first_pred (t : Fin cfg0.N) (h : ¬t.val % 3 = 0) : first ⟨t.val - 1, by omega⟩ = first t :=
  Fin.ext (by show 3 * ((t.val - 1) / 3) = 3 * (t.val / 3); omega)

variable (m : (ℓ : Loc nD τ sig) → Buf (Elt F) ℓ) (ρ : Dev nD → PrngReg)

/-- The first step's stores into the blocks of q, k and v, into the gate's block and into the strip scratch. -/
def zA (c : Dev nD) (t : Fin cfg0.N) (h : t.val % 3 = 0) : Vec F S3x1x1x4x1024x256 .bf16 :=
  View.canon (runA c (grid0.coords t) (ms0 t) (hs0 t) (ms1 t) (hs1 t) (ms2 t) (hs2 t) (ms3 t) (hs3 t) (ms4 t) (hs4 t) (ms5 t) (hs5 t) rowScr (Memref.isWhole_whole _) stripScr (Memref.isWhole_whole _) ((hcond0_0 t).mpr h) (fun hh => by have := (hcond0_1 t).mp hh; omega) (fun hh => by have := (hcond0_2 t).mp hh; omega) (iblk m c 0 t) (iblk m c 1 t) (iblk m c 2 t) (iblk m c 3 t)).1
def gateA (c : Dev nD) (t : Fin cfg0.N) (h : t.val % 3 = 0) : Vec F S1x1x4x1024x256 .bf16 :=
  View.canon (runA c (grid0.coords t) (ms0 t) (hs0 t) (ms1 t) (hs1 t) (ms2 t) (hs2 t) (ms3 t) (hs3 t) (ms4 t) (hs4 t) (ms5 t) (hs5 t) rowScr (Memref.isWhole_whole _) stripScr (Memref.isWhole_whole _) ((hcond0_0 t).mpr h) (fun hh => by have := (hcond0_1 t).mp hh; omega) (fun hh => by have := (hcond0_2 t).mp hh; omega) (iblk m c 0 t) (iblk m c 1 t) (iblk m c 2 t) (iblk m c 3 t)).2.1
def stripA (c : Dev nD) (t : Fin cfg0.N) (h : t.val % 3 = 0) : Vec F S8x1024x128 .f32 :=
  View.canon (runA c (grid0.coords t) (ms0 t) (hs0 t) (ms1 t) (hs1 t) (ms2 t) (hs2 t) (ms3 t) (hs3 t) (ms4 t) (hs4 t) (ms5 t) (hs5 t) rowScr (Memref.isWhole_whole _) stripScr (Memref.isWhole_whole _) ((hcond0_0 t).mpr h) (fun hh => by have := (hcond0_1 t).mp hh; omega) (fun hh => by have := (hcond0_2 t).mp hh; omega) (iblk m c 0 t) (iblk m c 1 t) (iblk m c 2 t) (iblk m c 3 t)).2.2.1
/-- The gate and the strips of the block of rows that point `t` works on. -/
def gateOf (c : Dev nD) (t : Fin cfg0.N) : Vec F S1x1x4x1024x256 .bf16 := gateA m c (first t) (first_mod t)
def stripOf (c : Dev nD) (t : Fin cfg0.N) : Vec F S8x1024x128 .f32 := stripA m c (first t) (first_mod t)
def zB (c : Dev nD) (t : Fin cfg0.N) (h : t.val % 3 = 1) : Vec F S3x1x1x4x1024x256 .bf16 :=
  View.canon (runB c (grid0.coords t) (ms0 t) (hs0 t) (ms1 t) (hs1 t) (ms2 t) (hs2 t) (ms3 t) (hs3 t) (ms4 t) (hs4 t) (ms5 t) (hs5 t) rowScr (Memref.isWhole_whole _) stripScr (Memref.isWhole_whole _) (fun hh => by have := (hcond0_0 t).mp hh; omega) ((hcond0_1 t).mpr h) (fun hh => by have := (hcond0_2 t).mp hh; omega) (iblk m c 0 t) (iblk m c 1 t) (iblk m c 2 t) (iblk m c 3 t) (gateOf m c t) (stripOf m c t)).1
def zC (c : Dev nD) (t : Fin cfg0.N) (h : t.val % 3 = 2) : Vec F S3x1x1x4x1024x256 .bf16 :=
  View.canon (runC c (grid0.coords t) (ms0 t) (hs0 t) (ms1 t) (hs1 t) (ms2 t) (hs2 t) (ms3 t) (hs3 t) (ms4 t) (hs4 t) (ms5 t) (hs5 t) rowScr (Memref.isWhole_whole _) stripScr (Memref.isWhole_whole _) (fun hh => by have := (hcond0_0 t).mp hh; omega) (fun hh => by have := (hcond0_1 t).mp hh; omega) ((hcond0_2 t).mpr h) (iblk m c 0 t) (iblk m c 1 t) (iblk m c 2 t) (iblk m c 3 t) (gateOf m c t) (stripOf m c t)).1
def zOf (c : Dev nD) (t : Fin cfg0.N) : Vec F S3x1x1x4x1024x256 .bf16 :=
  if h0 : t.val % 3 = 0 then zA m c t h0 else if h1 : t.val % 3 = 1 then zB m c t h1 else zC m c t (by omega)
theorem zOf_A (c : Dev nD) (t : Fin cfg0.N) (h : t.val % 3 = 0) : zOf m c t = zA m c t h := by unfold zOf; rw [dif_pos h]
theorem zOf_B (c : Dev nD) (t : Fin cfg0.N) (h : t.val % 3 = 1) : zOf m c t = zB m c t h := by
  unfold zOf; rw [dif_neg (by omega), dif_pos h]
theorem zOf_C (c : Dev nD) (t : Fin cfg0.N) (h : t.val % 3 = 2) : zOf m c t = zC m c t h := by
  unfold zOf; rw [dif_neg (by omega), dif_neg (by omega)]
theorem gateA_congr (c : Dev nD) {t t' : Fin cfg0.N} (e : t = t') (h : t.val % 3 = 0) (h' : t'.val % 3 = 0) : gateA m c t h = gateA m c t' h' := by
  subst e; rfl
theorem stripA_congr (c : Dev nD) {t t' : Fin cfg0.N} (e : t = t') (h : t.val % 3 = 0) (h' : t'.val % 3 = 0) : stripA m c t h = stripA m c t' h' := by
  subst e; rfl
theorem gateOf_A (c : Dev nD) (t : Fin cfg0.N) (h : t.val % 3 = 0) : gateOf m c t = gateA m c t h := gateA_congr m c (first_of_mod t h) _ _
theorem stripOf_A (c : Dev nD) (t : Fin cfg0.N) (h : t.val % 3 = 0) : stripOf m c t = stripA m c t h := stripA_congr m c (first_of_mod t h) _ _
theorem gateOf_pred (c : Dev nD) (t : Fin cfg0.N) (h : ¬t.val % 3 = 0) : gateOf m c ⟨t.val - 1, by omega⟩ = gateOf m c t := gateA_congr m c (first_pred t h) _ _
theorem stripOf_pred (c : Dev nD) (t : Fin cfg0.N) (h : ¬t.val % 3 = 0) : stripOf m c ⟨t.val - 1, by omega⟩ = stripOf m c t := stripA_congr m c (first_pred t h) _ _

/-- Between grid points: the strip scratch at the strips of the block just worked on, the row scratch at anything. -/
def Phi (c : Dev nD) : (n : ℕ) → n ≤ cfg0.N → sProp 𝕄
  | 0, _ => Pipeline.ΦA spec0 c
  | n + 1, hn => iprop(iprop((∃ d, owns (c : Thread nD τ) rowScr fullShare d) ∗ owns (c : Thread nD τ) stripScr fullShare (stripOf m c ⟨n, hn⟩)) ∗ (∃ r, prngReg c r))
theorem Phi_zero (c : Dev nD) (n : ℕ) (h : n ≤ cfg0.N) (hz : n = 0) : Phi m c n h = Pipeline.ΦA spec0 c := by
  subst hz; rfl
theorem Phi_succ (c : Dev nD) (n : ℕ) (hn : n < cfg0.N) :
    Phi m c (n + 1) hn = iprop(iprop((∃ d, owns (c : Thread nD τ) rowScr fullShare d) ∗ owns (c : Thread nD τ) stripScr fullShare (stripOf m c ⟨n, hn⟩)) ∗ (∃ r, prngReg c r)) := rfl
theorem Phi_pos (c : Dev nD) (n : ℕ) (h : n ≤ cfg0.N) (hz : n ≠ 0) :
    Phi m c n h = iprop(iprop((∃ d, owns (c : Thread nD τ) rowScr fullShare d) ∗ owns (c : Thread nD τ) stripScr fullShare (stripOf m c ⟨n - 1, by omega⟩)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => zOf m c t
    | ⟨5, _⟩ => gateOf m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) :
    (dats m 0 c).Φ t.castSucc = Phi m c t.val (Nat.le_of_lt t.isLt) := by
  dsimp only [dats]; exact Pipeline.Dat.Φ_castSucc (Phi m c) t
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = zOf m c t := by dsimp only [dats]
theorem after5 (c : Dev nD) (t : Fin cfg0.N) : (dats m 0 c).after 5 t = gateOf m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The gate's contents carry through the two steps that store nothing into it. -/
theorem carry5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  have h : ¬t.val % 3 = 0 := fun h => by rw [live5 t h] at hi; exact absurd hi Bool.false_ne_true
  rw [after5, after5, gateOf_pred m c t h]
/-- At the second and the third step the gate's buffer holds the block's gate. -/
theorem before5 (c : Dev nD) (t : Fin cfg0.N) (h : ¬t.val % 3 = 0) (d) : (dats m 0 c).before 5 t d = gateOf m c t := by
  rw [Dat.before_out_traj _ 5 rfl (fun _ _ => rfl) (carry5 m c) t.val t rfl d,
    if_neg (by rw [fresh5_eq]; unfold freshTab; simpa using h), after5, gateOf_pred m c t h]

/-! ## The body at a grid point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 3200000 in
theorem body_A (c : Dev nD) (t : Fin cfg0.N) (h : t.val % 3 = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare ((dats m 0 c).after 0 t) from rfl, after0]
  rw [show (dats m 0 c).leavesExact 1 t = owns (c : Thread nD τ) (ms1 t) fullShare ((dats m 0 c).after 1 t) from rfl, after1]
  rw [show (dats m 0 c).leavesExact 2 t = owns (c : Thread nD τ) (ms2 t) fullShare ((dats m 0 c).after 2 t) from rfl, after2]
  rw [show (dats m 0 c).leavesExact 3 t = owns (c : Thread nD τ) (ms3 t) fullShare ((dats m 0 c).after 3 t) from rfl, after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t h], after5]
  rw [show stripOf m c ⟨t.val, t.isLt⟩ = stripA m c t h from stripOf_A m c t h, zOf_A m c t h, gateOf_A m c t h]
  unfold zA gateA stripA
  by_cases hz : t.val = 0
  · rw [Phi_castSucc m c t, Phi_zero m c _ _ hz, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((runA c (grid0.coords t) _ _ _ _ _ _ _ _ _ _ _ _ _ _ _ _ ((hcond0_0 t).mpr h) (fun hh => by have := (hcond0_1 t).mp hh; omega) (fun hh => by have := (hcond0_2 t).mp hh; omega) (iblk m c 0 t) (iblk m c 1 t) (iblk m c 2 t) (iblk m c 3 t)).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, ⟨%e4, H4⟩, ⟨%e5, H5⟩, ⟨%fT0, HS0⟩, ⟨%es1, HS1⟩⟩
    isplitl [HS0 HS1 Hg]
    · isplitl [HS0 HS1]
      · isplitl [HS0]
        · iexists _; unfold owns; iexists _; isplitr
          swap; · iexact HS0
          ipureintro; rfl
        unfold owns; iexists _; isplitr
        swap; · iexact HS1
        ipureintro; exact View.read_writes_eq_canon _ _ _ (coverXA c _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_eq_canon _ _ _ (coverZA c _ _ _ _ _ _ _ _ _ _ _ _ _ _ _ _ _ _ _ _ _ _ _ _)
    unfold owns; iexists _; isplitr
    swap; · iexact H5
    ipureintro; exact View.read_writes_eq_canon _ _ _ (coverGA c _ _ _ _ _ _ _ _ _ _ _ _ _ _ _ _ _ _ _ _ _ _ _ _)
  · rw [Phi_castSucc m c t, Phi_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((runA c (grid0.coords t) _ _ _ _ _ _ _ _ _ _ _ _ _ _ _ _ ((hcond0_0 t).mpr h) (fun hh => by have := (hcond0_1 t).mp hh; omega) (fun hh => by have := (hcond0_2 t).mp hh; omega) (iblk m c 0 t) (iblk m c 1 t) (iblk m c 2 t) (iblk m c 3 t)).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexists _; iexact HS1
    iintro ⟨H0, H1, H2, H3, ⟨%e4, H4⟩, ⟨%e5, H5⟩, ⟨%fT0, HS0⟩, ⟨%es1, HS1⟩⟩
    isplitl [HS0 HS1 Hg]
    · isplitl [HS0 HS1]
      · isplitl [HS0]
        · iexists _; unfold owns; iexists _; isplitr
          swap; · iexact HS0
          ipureintro; rfl
        unfold owns; iexists _; isplitr
        swap; · iexact HS1
        ipureintro; exact View.read_writes_eq_canon _ _ _ (coverXA c _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_eq_canon _ _ _ (coverZA c _ _ _ _ _ _ _ _ _ _ _ _ _ _ _ _ _ _ _ _ _ _ _ _)
    unfold owns; iexists _; isplitr
    swap; · iexact H5
    ipureintro; exact View.read_writes_eq_canon _ _ _ (coverGA c _ _ _ _ _ _ _ _ _ _ _ _ _ _ _ _ _ _ _ _ _ _ _ _)

set_option maxHeartbeats 3200000 in
theorem body_B (c : Dev nD) (t : Fin cfg0.N) (h : t.val % 3 = 1) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare ((dats m 0 c).after 0 t) from rfl, after0]
  rw [show (dats m 0 c).leavesExact 1 t = owns (c : Thread nD τ) (ms1 t) fullShare ((dats m 0 c).after 1 t) from rfl, after1]
  rw [show (dats m 0 c).leavesExact 2 t = owns (c : Thread nD τ) (ms2 t) fullShare ((dats m 0 c).after 2 t) from rfl, after2]
  rw [show (dats m 0 c).leavesExact 3 t = owns (c : Thread nD τ) (ms3 t) fullShare ((dats m 0 c).after 3 t) from rfl, after3]
  rw [show (dats m 0 c).leavesExact 4 t = owns (c : Thread nD τ) (ms4 t) fullShare ((dats m 0 c).after 4 t) from by
    unfold Dat.leavesExact; rw [live4 t], after4]
  rw [show (dats m 0 c).leavesExact 5 t = iprop(∃ d, owns (c : Thread nD τ) (ms5 t) fullShare ((dats m 0 c).before 5 t d)) from by
    unfold Dat.leavesExact; rw [idle5 t (by omega), flush5_mid t h]]
  simp only [before5 m c t (by omega)]
  rw [show stripOf m c ⟨t.val, t.isLt⟩ = stripOf m c t from rfl, zOf_B m c t h]
  rw [Phi_castSucc m c t, Phi_pos m c _ _ (by omega), stripOf_pred m c t (by omega)]
  unfold zB
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((runB c (grid0.coords t) _ _ _ _ _ _ _ _ _ _ _ _ _ _ _ _ (fun hh => by have := (hcond0_0 t).mp hh; omega) ((hcond0_1 t).mpr h) (fun hh => by have := (hcond0_2 t).mp hh; omega) (iblk m c 0 t) (iblk m c 1 t) (iblk m c 2 t) (iblk m c 3 t) (gateOf m c t) (stripOf m c t)).2.2 Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  isplitl [HS1]; · iexact HS1
  iintro ⟨H0, H1, H2, H3, ⟨%e4, H4⟩, H5, ⟨%fT0, HS0⟩, HS1⟩
  isplitl [HS0 HS1 Hg]
  · isplitl [HS0 HS1]
    · isplitl [HS0]
      · iexists _; unfold owns; iexists _; isplitr
        swap; · iexact HS0
        ipureintro; rfl
      iexact HS1
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_eq_canon _ _ _ (coverZB c _ _ _ _ _ _ _ _ _ _ _ _ _ _ _ _ _ _ _ _ _ _ _ _ _ _)
  iexists (gateOf m c t); iexact H5

set_option maxHeartbeats 3200000 in
theorem body_C (c : Dev nD) (t : Fin cfg0.N) (h : t.val % 3 = 2) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare ((dats m 0 c).after 0 t) from rfl, after0]
  rw [show (dats m 0 c).leavesExact 1 t = owns (c : Thread nD τ) (ms1 t) fullShare ((dats m 0 c).after 1 t) from rfl, after1]
  rw [show (dats m 0 c).leavesExact 2 t = owns (c : Thread nD τ) (ms2 t) fullShare ((dats m 0 c).after 2 t) from rfl, after2]
  rw [show (dats m 0 c).leavesExact 3 t = owns (c : Thread nD τ) (ms3 t) fullShare ((dats m 0 c).after 3 t) from rfl, after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [idle5 t (by omega), flush5_last t h], after5]
  simp only [before5 m c t (by omega)]
  rw [show stripOf m c ⟨t.val, t.isLt⟩ = stripOf m c t from rfl, zOf_C m c t h]
  rw [Phi_castSucc m c t, Phi_pos m c _ _ (by omega), stripOf_pred m c t (by omega)]
  unfold zC
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((runC c (grid0.coords t) _ _ _ _ _ _ _ _ _ _ _ _ _ _ _ _ (fun hh => by have := (hcond0_0 t).mp hh; omega) (fun hh => by have := (hcond0_1 t).mp hh; omega) ((hcond0_2 t).mpr h) (iblk m c 0 t) (iblk m c 1 t) (iblk m c 2 t) (iblk m c 3 t) (gateOf m c t) (stripOf m c t)).2.2 Set.univ _)
  isplitl [H0]; · iexact H0
  isplitl [H1]; · iexact H1
  isplitl [H2]; · iexact H2
  isplitl [H3]; · iexact H3
  isplitl [H4]; · iexists _; iexact H4
  isplitl [H5]; · iexact H5
  isplitl [HS0]; · iexact HS0
  isplitl [HS1]; · iexact HS1
  iintro ⟨H0, H1, H2, H3, ⟨%e4, H4⟩, H5, ⟨%fT0, HS0⟩, HS1⟩
  isplitl [HS0 HS1 Hg]
  · isplitl [HS0 HS1]
    · isplitl [HS0]
      · iexists _; unfold owns; iexists _; isplitr
        swap; · iexact HS0
        ipureintro; rfl
      iexact HS1
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_eq_canon _ _ _ (coverZC c _ _ _ _ _ _ _ _ _ _ _ _ _ _ _ _ _ _ _ _ _ _ _ _ _ _)
  iexact H5

theorem body_at (c : Dev nD) (t : Fin cfg0.N) :
    bodyPre m c t ⊢ wp frame (wpE (defs₀ (F := F)) Variants.none c none) Set.univ (bodyAt0 t) (fun _ => bodyPost m c t) := by
  rcases (by omega : t.val % 3 = 0 ∨ t.val % 3 = 1 ∨ t.val % 3 = 2) with h | h | h
  · exact body_A m c t h
  · exact body_B m c t h
  · exact body_C m c t h

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (body_at m c t) rfl .rfl fun _ => .rfl

theorem hin (c : Dev nD) : Pipeline.ΦA spec0 c ⊢ (dats m 0 c).Φ 0 := by
  rw [show (dats m 0 c).Φ 0 = Phi m c 0 (Nat.zero_le _) from rfl, Phi_zero m c 0 _ rfl]

theorem hout (c : Dev nD) : (dats m 0 c).Φ (Fin.last cfg0.N) ⊢ Pipeline.ΦA spec0 c := by
  rw [show (dats m 0 c).Φ (Fin.last cfg0.N) = Phi m c cfg0.N (Nat.le_refl _) from rfl, Phi_pos m c _ _ (by have : cfg0.N = 96 := N_0; omega), PhiA0_eq]
  iintro ⟨⟨HS0, HS1⟩, Hg⟩
  isplitl [HS0 HS1]
  · isplitl [HS0]
    · iexact HS0
    iexists _; iexact HS1
  iexact Hg

/-! ## The run and the frame -/

set_option backward.isDefEq.respectTransparency.types false in
/-- Every execution ends with the windows' arrays at what the grid points wrote back, every other buffer as the region found
    it, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.Kernel2Ideal.Inproj

end
-- ==== Proof.IdxOf.lean ====
/-
  An index of an array, given by its coordinates' values.
-/
module

public import Idealize.ShloMosaic.Lib.Pointwise

@[expose] public section

namespace Idx

open Idealize.ShloMosaic

theorem of2 {n0 n1 : Nat} {y : (⟨2, ![n0, n1]⟩ : Shape).Idx} (a : Fin n0) (b : Fin n1)
    (h0 : (y 0).val = a.val) (h1 : (y 1).val = b.val) : y = ix2 a b := by
  rw [eq_ix2 y]
  exact congr (congrArg ix2 (Fin.ext h0)) (Fin.ext h1)

theorem of3 {n0 n1 n2 : Nat} {y : (⟨3, ![n0, n1, n2]⟩ : Shape).Idx} (a : Fin n0) (b : Fin n1) (c : Fin n2)
    (h0 : (y 0).val = a.val) (h1 : (y 1).val = b.val) (h2 : (y 2).val = c.val) : y = ix3 a b c := by
  rw [eq_ix3 y]
  exact congr (congr (congrArg ix3 (Fin.ext h0)) (Fin.ext h1)) (Fin.ext h2)

theorem of5 {n0 n1 n2 n3 n4 : Nat} {y : (⟨5, ![n0, n1, n2, n3, n4]⟩ : Shape).Idx} (a : Fin n0) (b : Fin n1) (c : Fin n2) (d : Fin n3) (e : Fin n4)
    (h0 : (y 0).val = a.val) (h1 : (y 1).val = b.val) (h2 : (y 2).val = c.val) (h3 : (y 3).val = d.val) (h4 : (y 4).val = e.val) :
    y = ix5 a b c d e := by
  rw [eq_ix5 y]
  exact congr (congr (congr (congr (congrArg ix5 (Fin.ext h0)) (Fin.ext h1)) (Fin.ext h2)) (Fin.ext h3)) (Fin.ext h4)

theorem of6 {n0 n1 n2 n3 n4 n5 : Nat} {y : (⟨6, ![n0, n1, n2, n3, n4, n5]⟩ : Shape).Idx} (a : Fin n0) (b : Fin n1) (c : Fin n2) (d : Fin n3) (e : Fin n4) (f : Fin n5)
    (h0 : (y 0).val = a.val) (h1 : (y 1).val = b.val) (h2 : (y 2).val = c.val) (h3 : (y 3).val = d.val) (h4 : (y 4).val = e.val) (h5 : (y 5).val = f.val) :
    y = ix6 a b c d e f := by
  rw [eq_ix6 y]
  exact congr (congr (congr (congr (congr (congrArg ix6 (Fin.ext h0)) (Fin.ext h1)) (Fin.ext h2)) (Fin.ext h3)) (Fin.ext h4)) (Fin.ext h5)

end Idx
-- ==== Proof.InprojSpec.lean ====
/-
What one block of the input projection computes: the modulated rows, their strips, the block of q, k and v, the gate.
-/
module

public import proofs.«01_k».proof.Proof.InprojFrame
public import proofs.«01_k».proof.Proof.IdxOf
public import Idealize.ShloMosaic.Lib.Pointwise
public import Idealize.ShloMosaic.Lib.Pipeline.Value
public import Idealize.ShloMosaic.Lib.Pipeline.ValueKit.Tiles

@[expose] public section

set_option maxRecDepth 16384

noncomputable section

namespace Cert.Kernel2Ideal.Inproj

open Cert.Kernel2Ideal Cert.Kernel2Ideal.Gen
open Idealize.ShloMosaic Idealize.ShloMosaic.TcCoe Idealize.ShloMosaic.Tactic
open Idealize.SL.Sem

/-- What a covered read of a rectangle sees: the load of what the pieces hold. -/
theorem readCov_ld {sig : RefSig} {k : Kind} {sp : Space} {S : Shape} {e : EltTy} (v : View sig k sp S e) (L : List (View.Piece (Elt Ideal) S e)) (r : Rect S) :
    v.readCov L r.toLoadRect = View.ld (View.canon L) r := View.readCov_eq_canon' v L _

/-- The factor that the queries are stored with. -/
def qscale (j : Fin 3) (v : EReal) : EReal := if j.val = 0 then v * Ideal.ofBits FTy.f32 1043900987#32 else v

/-- The modulated rows of a block. -/
def rowsA (x0 : Vec Ideal S1x1024x1024 .f32) (x1 x2 : Vec Ideal S1x1x1024 .f32) : Vec Ideal S1024x1024 .bf16 :=
  fun y => x0 (ix3 0 (y 0) (y 1)) * x1 (ix3 0 0 (y 1)) + x2 (ix3 0 0 (y 1))

/-- The modulated rows as the strip scratch holds them: eight strips of 128 columns. -/
def strips (x0 : Vec Ideal S1x1024x1024 .f32) (x1 x2 : Vec Ideal S1x1x1024 .f32) : Vec Ideal S8x1024x128 .f32 :=
  fun y => x0 (ix3 0 (y 1) ⟨128 * (y 0).val + (y 2).val, by have h0 : (y 0).val < 8 := (y 0).isLt; have h2 : (y 2).val < 128 := (y 2).isLt; omega⟩)
      * x1 (ix3 0 0 ⟨128 * (y 0).val + (y 2).val, by have h0 : (y 0).val < 8 := (y 0).isLt; have h2 : (y 2).val < 128 := (y 2).isLt; omega⟩)
      + x2 (ix3 0 0 ⟨128 * (y 0).val + (y 2).val, by have h0 : (y 0).val < 8 := (y 0).isLt; have h2 : (y 2).val < 128 := (y 2).isLt; omega⟩)

/-- The block of q, k and v of group `g` from the rows `h` in the group's order: four column blocks of 256 each. -/
def zBlock (h : Vec Ideal S1024x1024 .bf16) (w : Vec Ideal S1024x10240 .bf16) (g : Nat) (hg : g < 3) : Vec Ideal S3x1x1x4x1024x256 .bf16 :=
  fun y => qscale (y 0) (∑ k : Fin 1024, h (ix2 (y 4) k) * w (ix2 k ⟨1024 * (3 * g + (y 0).val) + (256 * (y 3).val + (y 5).val), by
    have h0 : (y 0).val < 3 := (y 0).isLt; have h3 : (y 3).val < 4 := (y 3).isLt; have h5 : (y 5).val < 256 := (y 5).isLt; omega⟩))

/-- The block of the gate from the rows `h`. -/
def gateBlock (h : Vec Ideal S1024x1024 .bf16) (w : Vec Ideal S1024x10240 .bf16) : Vec Ideal S1x1x4x1024x256 .bf16 :=
  fun y =>
    (∑ k : Fin 1024, h (ix2 (y 3) k) * w (ix2 k ⟨9216 + (256 * (y 2).val + (y 4).val), by have h2 : (y 2).val < 4 := (y 2).isLt; have h4 : (y 4).val < 256 := (y 4).isLt; omega⟩))
    * Ideal.logistic (∑ k : Fin 1024, h (ix2 (y 3) k) * w (ix2 k ⟨9216 + (256 * (y 2).val + (y 4).val), by have h2 : (y 2).val < 4 := (y 2).isLt; have h4 : (y 4).val < 256 := (y 4).isLt; omega⟩))

/-- A load through a whole memref at spaced coordinates reads the contents there. -/
theorem readAt_spaced {S : Shape} {e : EltTy} (m : Memref sig .tc .vmem S e) (h : m.IsWhole) (r : LoadRect S) (x : Vec Ideal S e) :
    m.view.readAt (Elt Ideal) r (h.unread x) = fun z => x (r.idx z) := by
  funext z
  rw [View.readAt_apply, h.read_unread]

/-- The rows of a later group: row `q + n s` of the group's order is token `d q + s` of the block, `n = 1024 / d`. -/
def rowsG (d n : Nat) (hdn : d * n = 1024) (xs : Vec Ideal S8x1024x128 .f32) : Vec Ideal S1024x1024 .bf16 :=
  fun y => xs (ix3 ⟨(y 1).val / 128, by have h1 : (y 1).val < 1024 := (y 1).isLt; omega⟩
    ⟨(y 0).val % n * d + (y 0).val / n, by
      have h0 : (y 0).val < 1024 := (y 0).isLt
      have hn : 0 < n := Nat.pos_of_ne_zero (by rintro rfl; omega)
      have h1 : (y 0).val % n + 1 ≤ n := Nat.mod_lt _ hn
      have h2 : (y 0).val / n < d := Nat.div_lt_of_lt_mul (by rw [Nat.mul_comm]; omega)
      calc _ < (y 0).val % n * d + d := by omega
        _ = ((y 0).val % n + 1) * d := by ring
        _ ≤ n * d := Nat.mul_le_mul_right _ h1
        _ = 1024 := by rw [Nat.mul_comm]; exact hdn⟩
    ⟨(y 1).val % 128, by omega⟩)

theorem zBlock_at (h : Vec Ideal S1024x1024 .bf16) (w : Vec Ideal S1024x10240 .bf16) (g : Nat) (hg : g < 3) (j : Fin 3) (cc : Fin 4) (q : Fin 1024) (v : Fin 256)
    (n : Nat) (hn : n < 10240) (e : n = 1024 * (3 * g + j.val) + (256 * cc.val + v.val)) :
    zBlock h w g hg (ix6 j 0 0 cc q v) = qscale j (∑ k : Fin 1024, h (ix2 q k) * w (ix2 k ⟨n, hn⟩)) := by
  subst e
  rfl

theorem gateBlock_at (h : Vec Ideal S1024x1024 .bf16) (w : Vec Ideal S1024x10240 .bf16) (cc : Fin 4) (q : Fin 1024) (v : Fin 256)
    (n : Nat) (hn : n < 10240) (e : n = 9216 + (256 * cc.val + v.val)) :
    gateBlock h w (ix5 0 0 cc q v)
      = (∑ k : Fin 1024, h (ix2 q k) * w (ix2 k ⟨n, hn⟩)) * Ideal.logistic (∑ k : Fin 1024, h (ix2 q k) * w (ix2 k ⟨n, hn⟩)) := by
  subst e
  rfl

theorem strips_at (x0 : Vec Ideal S1x1024x1024 .f32) (x1 x2 : Vec Ideal S1x1x1024 .f32) (cc : Fin 8) (q : Fin 1024) (l : Fin 128)
    (n : Nat) (hn : n < 1024) (e : n = 128 * cc.val + l.val) :
    strips x0 x1 x2 (ix3 cc q l) = x0 (ix3 0 q ⟨n, hn⟩) * x1 (ix3 0 0 ⟨n, hn⟩) + x2 (ix3 0 0 ⟨n, hn⟩) := by
  subst e
  rfl

theorem rowsG_at (d n : Nat) (hdn : d * n = 1024) (xs : Vec Ideal S8x1024x128 .f32) (s cc : Nat) (q : Fin n) (l : Fin 128) (hs : s < d) (hcc : cc < 8)
    (A B : Nat) (a : A < 1024) (b : B < 1024) (hA : A = n * s + q.val) (hB : B = 128 * cc + l.val) (z : S8x1024x128.Idx)
    (h0 : (z 0).val = cc) (h1 : (z 1).val = s + d * q.val) (h2 : (z 2).val = l.val) :
    xs z = rowsG d n hdn xs (ix2 ⟨A, a⟩ ⟨B, b⟩) := by
  subst hA hB
  have hn : 0 < n := Nat.pos_of_ne_zero (by rintro rfl; exact q.elim0)
  have e1 : (n * s + q.val) % n = q.val := by rw [Nat.mul_add_mod, Nat.mod_eq_of_lt q.isLt]
  have e2 : (n * s + q.val) / n = s := by rw [Nat.mul_add_div hn, Nat.div_eq_of_lt q.isLt, Nat.add_zero]
  refine congrArg xs (Idx.of3 _ _ _ ?_ ?_ ?_)
  · show _ = (128 * cc + l.val) / 128
    omega
  · show _ = (n * s + q.val) % n * d + (n * s + q.val) / n
    rw [e1, e2, h1, Nat.mul_comm d, Nat.add_comm]
  · show _ = (128 * cc + l.val) % 128
    omega

end Cert.Kernel2Ideal.Inproj

end
-- ==== Proof.InprojTilesA.lean ====
/-
What the first step of a block of rows stores: the block of q, k and v of the first group, the gate, and the strips.
-/
module

public import proofs.«01_k».proof.Proof.InprojSpec

@[expose] public section

set_option maxRecDepth 16384

noncomputable section

namespace Cert.Kernel2Ideal.Inproj

open Cert.Kernel2Ideal Cert.Kernel2Ideal.Gen
open Idealize.ShloMosaic Idealize.ShloMosaic.TcCoe Idealize.ShloMosaic.Tactic
open Idealize.SL.Sem

namespace TilesA

variable (c : Dev nD) (i : grid0.Coords) (arg3 : Memref sig .tc .vmem S1x1024x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x10240 .bf16) (harg6 : arg6.IsWhole) (arg7 : Memref sig .tc .vmem S3x1x1x4x1024x256 .bf16) (harg7 : arg7.IsWhole) (arg8 : Memref sig .tc .vmem S1x1x4x1024x256 .bf16) (harg8 : arg8.IsWhole) (arg9 : Memref sig .tc .vmem S1024x1024 .bf16) (harg9 : arg9.IsWhole) (arg10 : Memref sig .tc .vmem S8x1024x128 .f32) (harg10 : arg10.IsWhole)
    (x0 : Vec Ideal S1x1024x1024 .f32) (x1 : Vec Ideal S1x1x1024 .f32) (x2 : Vec Ideal S1x1x1024 .f32) (x3 : Vec Ideal S1024x10240 .bf16)

set_option maxHeartbeats 40000000 in
theorem canon_HS0_8 : View.canon (runA.sl.HS0_8 (F := Ideal) c arg3 harg3 arg4 harg4 arg5 harg5 x0 x1 x2) = rowsA x0 x1 x2 := by
  funext y
  unfold runA.sl.HS0_8
  refine View.canon_eq_of_allAt _ _ _ (View.cover_of_tiled_head _ _ _ (by rfl) y) ?_
  simp only [runA.sl.r, runA.sl.r_1, runA.sl.r_2, runA.sl.r_3, runA.sl.r_4, View.readAt_eq_ld, harg3.read_unread, harg4.read_unread, harg5.read_unread]
  refine View.allAt_cons_unit _ _ _ _ _ ?_ ?_
  · intro x hx
    obtain ⟨q, l, rfl⟩ : ∃ (q : Fin 1024) (l : Fin 128), x = ix2 q l := ⟨x 0, x 1, eq_ix2 x⟩
    obtain rfl := Idx.of2 (y := y) q ⟨896 + l.val, by omega⟩ (by simpa using hx 0) (by simpa using hx 1)
    unfold_payloads
    pointwise
    all_goals (try simp only [← Nat.add_assoc, Nat.reduceAdd])
    all_goals rfl
  refine View.allAt_cons_unit _ _ _ _ _ ?_ ?_
  · intro x hx
    obtain ⟨q, l, rfl⟩ : ∃ (q : Fin 1024) (l : Fin 128), x = ix2 q l := ⟨x 0, x 1, eq_ix2 x⟩
    obtain rfl := Idx.of2 (y := y) q ⟨768 + l.val, by omega⟩ (by simpa using hx 0) (by simpa using hx 1)
    unfold_payloads
    pointwise
    all_goals (try simp only [← Nat.add_assoc, Nat.reduceAdd])
    all_goals rfl
  refine View.allAt_cons_unit _ _ _ _ _ ?_ ?_
  · intro x hx
    obtain ⟨q, l, rfl⟩ : ∃ (q : Fin 1024) (l : Fin 128), x = ix2 q l := ⟨x 0, x 1, eq_ix2 x⟩
    obtain rfl := Idx.of2 (y := y) q ⟨640 + l.val, by omega⟩ (by simpa using hx 0) (by simpa using hx 1)
    unfold_payloads
    pointwise
    all_goals (try simp only [← Nat.add_assoc, Nat.reduceAdd])
    all_goals rfl
  refine View.allAt_cons_unit _ _ _ _ _ ?_ ?_
  · intro x hx
    obtain ⟨q, l, rfl⟩ : ∃ (q : Fin 1024) (l : Fin 128), x = ix2 q l := ⟨x 0, x 1, eq_ix2 x⟩
    obtain rfl := Idx.of2 (y := y) q ⟨512 + l.val, by omega⟩ (by simpa using hx 0) (by simpa using hx 1)
    unfold_payloads
    pointwise
    all_goals (try simp only [← Nat.add_assoc, Nat.reduceAdd])
    all_goals rfl
  refine View.allAt_cons_unit _ _ _ _ _ ?_ ?_
  · intro x hx
    obtain ⟨q, l, rfl⟩ : ∃ (q : Fin 1024) (l : Fin 128), x = ix2 q l := ⟨x 0, x 1, eq_ix2 x⟩
    obtain rfl := Idx.of2 (y := y) q ⟨384 + l.val, by omega⟩ (by simpa using hx 0) (by simpa using hx 1)
    unfold_payloads
    pointwise
    all_goals (try simp only [← Nat.add_assoc, Nat.reduceAdd])
    all_goals rfl
  refine View.allAt_cons_unit _ _ _ _ _ ?_ ?_
  · intro x hx
    obtain ⟨q, l, rfl⟩ : ∃ (q : Fin 1024) (l : Fin 128), x = ix2 q l := ⟨x 0, x 1, eq_ix2 x⟩
    obtain rfl := Idx.of2 (y := y) q ⟨256 + l.val, by omega⟩ (by simpa using hx 0) (by simpa using hx 1)
    unfold_payloads
    pointwise
    all_goals (try simp only [← Nat.add_assoc, Nat.reduceAdd])
    all_goals rfl
  refine View.allAt_cons_unit _ _ _ _ _ ?_ ?_
  · intro x hx
    obtain ⟨q, l, rfl⟩ : ∃ (q : Fin 1024) (l : Fin 128), x = ix2 q l := ⟨x 0, x 1, eq_ix2 x⟩
    obtain rfl := Idx.of2 (y := y) q ⟨128 + l.val, by omega⟩ (by simpa using hx 0) (by simpa using hx 1)
    unfold_payloads
    pointwise
    all_goals (try simp only [← Nat.add_assoc, Nat.reduceAdd])
    all_goals rfl
  refine View.allAt_cons_unit _ _ _ _ _ ?_ ?_
  · intro x hx
    obtain ⟨q, l, rfl⟩ : ∃ (q : Fin 1024) (l : Fin 128), x = ix2 q l := ⟨x 0, x 1, eq_ix2 x⟩
    obtain rfl := Idx.of2 (y := y) q ⟨0 + l.val, by omega⟩ (by simpa using hx 0) (by simpa using hx 1)
    unfold_payloads
    pointwise
    all_goals (try simp only [← Nat.add_assoc, Nat.reduceAdd])
    all_goals rfl
  exact View.allAt_nil _ _

set_option maxHeartbeats 40000000 in
theorem canonX (hc0 : cond0_0 i) (hc1 : ¬cond0_1 i) (hc2 : ¬cond0_2 i) :
    View.canon (runA (F := Ideal) c i arg3 harg3 arg4 harg4 arg5 harg5 arg6 harg6 arg7 harg7 arg8 harg8 arg9 harg9 arg10 harg10 hc0 hc1 hc2 x0 x1 x2 x3).2.2.1 = strips x0 x1 x2 := by
  funext y
  refine View.canon_eq_of_allAt _ _ _ (coverXA c i arg3 harg3 arg4 harg4 arg5 harg5 arg6 harg6 arg7 harg7 arg8 harg8 arg9 harg9 arg10 harg10 hc0 hc1 hc2 x0 x1 x2 x3 y) ?_
  unfold runA
  dsimp only
  simp only [runA.sl.r_1, runA.sl.r_3, runA.sl.r_6, runA.sl.r_7, runA.sl.r_4, runA.sl.r_10, runA.sl.v145, runA.sl.r, runA.sl.r_8, runA.sl.r_2, runA.sl.r_9, runA.sl.r_5, View.readAt_eq_ld, harg3.read_unread, harg4.read_unread, harg5.read_unread, harg6.read_unread, harg7.read_unread, harg8.read_unread, harg9.read_unread, harg10.read_unread, readCov_ld]
  refine View.allAt_cons_unit _ _ _ _ _ ?_ ?_
  · intro x hx
    obtain ⟨u, q, l, rfl⟩ : ∃ (u : Fin 1) (q : Fin 1024) (l : Fin 128), x = ix3 u q l := ⟨x 0, x 1, x 2, eq_ix3 x⟩
    obtain rfl : u = 0 := Subsingleton.elim _ _
    obtain rfl := Idx.of3 (y := y) 7 q l (by simpa using hx 0) (by simpa using hx 1) (by simpa using hx 2)
    rw [strips_at (n := (896 + l.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u, q, l, rfl⟩ : ∃ (u : Fin 1) (q : Fin 1024) (l : Fin 128), x = ix3 u q l := ⟨x 0, x 1, x 2, eq_ix3 x⟩
    obtain rfl : u = 0 := Subsingleton.elim _ _
    obtain rfl := Idx.of3 (y := y) 6 q l (by simpa using hx 0) (by simpa using hx 1) (by simpa using hx 2)
    rw [strips_at (n := (768 + l.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u, q, l, rfl⟩ : ∃ (u : Fin 1) (q : Fin 1024) (l : Fin 128), x = ix3 u q l := ⟨x 0, x 1, x 2, eq_ix3 x⟩
    obtain rfl : u = 0 := Subsingleton.elim _ _
    obtain rfl := Idx.of3 (y := y) 5 q l (by simpa using hx 0) (by simpa using hx 1) (by simpa using hx 2)
    rw [strips_at (n := (640 + l.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u, q, l, rfl⟩ : ∃ (u : Fin 1) (q : Fin 1024) (l : Fin 128), x = ix3 u q l := ⟨x 0, x 1, x 2, eq_ix3 x⟩
    obtain rfl : u = 0 := Subsingleton.elim _ _
    obtain rfl := Idx.of3 (y := y) 4 q l (by simpa using hx 0) (by simpa using hx 1) (by simpa using hx 2)
    rw [strips_at (n := (512 + l.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u, q, l, rfl⟩ : ∃ (u : Fin 1) (q : Fin 1024) (l : Fin 128), x = ix3 u q l := ⟨x 0, x 1, x 2, eq_ix3 x⟩
    obtain rfl : u = 0 := Subsingleton.elim _ _
    obtain rfl := Idx.of3 (y := y) 3 q l (by simpa using hx 0) (by simpa using hx 1) (by simpa using hx 2)
    rw [strips_at (n := (384 + l.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u, q, l, rfl⟩ : ∃ (u : Fin 1) (q : Fin 1024) (l : Fin 128), x = ix3 u q l := ⟨x 0, x 1, x 2, eq_ix3 x⟩
    obtain rfl : u = 0 := Subsingleton.elim _ _
    obtain rfl := Idx.of3 (y := y) 2 q l (by simpa using hx 0) (by simpa using hx 1) (by simpa using hx 2)
    rw [strips_at (n := (256 + l.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u, q, l, rfl⟩ : ∃ (u : Fin 1) (q : Fin 1024) (l : Fin 128), x = ix3 u q l := ⟨x 0, x 1, x 2, eq_ix3 x⟩
    obtain rfl : u = 0 := Subsingleton.elim _ _
    obtain rfl := Idx.of3 (y := y) 1 q l (by simpa using hx 0) (by simpa using hx 1) (by simpa using hx 2)
    rw [strips_at (n := (128 + l.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u, q, l, rfl⟩ : ∃ (u : Fin 1) (q : Fin 1024) (l : Fin 128), x = ix3 u q l := ⟨x 0, x 1, x 2, eq_ix3 x⟩
    obtain rfl : u = 0 := Subsingleton.elim _ _
    obtain rfl := Idx.of3 (y := y) 0 q l (by simpa using hx 0) (by simpa using hx 1) (by simpa using hx 2)
    rw [strips_at (n := l.val) (hn := by omega) (e := by simp; try omega)]
    unfold_payloads
    pointwise
    all_goals (try simp only [← Nat.add_assoc, Nat.reduceAdd])
    all_goals rfl
  exact View.allAt_nil _ _

set_option maxHeartbeats 40000000 in
theorem canonZ (hc0 : cond0_0 i) (hc1 : ¬cond0_1 i) (hc2 : ¬cond0_2 i) :
    View.canon (runA (F := Ideal) c i arg3 harg3 arg4 harg4 arg5 harg5 arg6 harg6 arg7 harg7 arg8 harg8 arg9 harg9 arg10 harg10 hc0 hc1 hc2 x0 x1 x2 x3).1 = zBlock (rowsA x0 x1 x2) x3 0 (by decide) := by
  funext y
  refine View.canon_eq_of_allAt _ _ _ (coverZA c i arg3 harg3 arg4 harg4 arg5 harg5 arg6 harg6 arg7 harg7 arg8 harg8 arg9 harg9 arg10 harg10 hc0 hc1 hc2 x0 x1 x2 x3 y) ?_
  unfold runA
  dsimp only
  simp only [runA.sl.r_1, runA.sl.r_3, runA.sl.r_6, runA.sl.r_7, runA.sl.r_4, runA.sl.r_10, runA.sl.v145, runA.sl.r, runA.sl.r_8, runA.sl.r_2, runA.sl.r_9, runA.sl.r_5, View.readAt_eq_ld, harg3.read_unread, harg4.read_unread, harg5.read_unread, harg6.read_unread, harg7.read_unread, harg8.read_unread, harg9.read_unread, harg10.read_unread, readCov_ld, canon_HS0_8]
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 2 0 0 3 q w (by simpa using hx 0) (by simpa using hx 1) (by simpa using hx 2) (by simpa using hx 3) (by simpa using hx 4) (by simpa using hx 5)
    rw [zBlock_at (n := (2816 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 2 0 0 2 q w (by simpa using hx 0) (by simpa using hx 1) (by simpa using hx 2) (by simpa using hx 3) (by simpa using hx 4) (by simpa using hx 5)
    rw [zBlock_at (n := (2560 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 2 0 0 1 q w (by simpa using hx 0) (by simpa using hx 1) (by simpa using hx 2) (by simpa using hx 3) (by simpa using hx 4) (by simpa using hx 5)
    rw [zBlock_at (n := (2304 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 2 0 0 0 q w (by simpa using hx 0) (by simpa using hx 1) (by simpa using hx 2) (by simpa using hx 3) (by simpa using hx 4) (by simpa using hx 5)
    rw [zBlock_at (n := (2048 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 1 0 0 3 q w (by simpa using hx 0) (by simpa using hx 1) (by simpa using hx 2) (by simpa using hx 3) (by simpa using hx 4) (by simpa using hx 5)
    rw [zBlock_at (n := (1792 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 1 0 0 2 q w (by simpa using hx 0) (by simpa using hx 1) (by simpa using hx 2) (by simpa using hx 3) (by simpa using hx 4) (by simpa using hx 5)
    rw [zBlock_at (n := (1536 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 1 0 0 1 q w (by simpa using hx 0) (by simpa using hx 1) (by simpa using hx 2) (by simpa using hx 3) (by simpa using hx 4) (by simpa using hx 5)
    rw [zBlock_at (n := (1280 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 1 0 0 0 q w (by simpa using hx 0) (by simpa using hx 1) (by simpa using hx 2) (by simpa using hx 3) (by simpa using hx 4) (by simpa using hx 5)
    rw [zBlock_at (n := (1024 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 0 0 0 3 q w (by simpa using hx 0) (by simpa using hx 1) (by simpa using hx 2) (by simpa using hx 3) (by simpa using hx 4) (by simpa using hx 5)
    rw [zBlock_at (n := (768 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 0 0 0 2 q w (by simpa using hx 0) (by simpa using hx 1) (by simpa using hx 2) (by simpa using hx 3) (by simpa using hx 4) (by simpa using hx 5)
    rw [zBlock_at (n := (512 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 0 0 0 1 q w (by simpa using hx 0) (by simpa using hx 1) (by simpa using hx 2) (by simpa using hx 3) (by simpa using hx 4) (by simpa using hx 5)
    rw [zBlock_at (n := (256 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 0 0 0 0 q w (by simpa using hx 0) (by simpa using hx 1) (by simpa using hx 2) (by simpa using hx 3) (by simpa using hx 4) (by simpa using hx 5)
    rw [zBlock_at (n := w.val) (hn := by omega) (e := by simp; try omega)]
    unfold_payloads
    pointwise
    all_goals (try simp only [← Nat.add_assoc, Nat.reduceAdd])
    all_goals rfl
  exact View.allAt_nil _ _

set_option maxHeartbeats 40000000 in
theorem canonG (hc0 : cond0_0 i) (hc1 : ¬cond0_1 i) (hc2 : ¬cond0_2 i) :
    View.canon (runA (F := Ideal) c i arg3 harg3 arg4 harg4 arg5 harg5 arg6 harg6 arg7 harg7 arg8 harg8 arg9 harg9 arg10 harg10 hc0 hc1 hc2 x0 x1 x2 x3).2.1 = gateBlock (rowsA x0 x1 x2) x3 := by
  funext y
  refine View.canon_eq_of_allAt _ _ _ (coverGA c i arg3 harg3 arg4 harg4 arg5 harg5 arg6 harg6 arg7 harg7 arg8 harg8 arg9 harg9 arg10 harg10 hc0 hc1 hc2 x0 x1 x2 x3 y) ?_
  unfold runA
  dsimp only
  simp only [runA.sl.r_1, runA.sl.r_3, runA.sl.r_6, runA.sl.r_7, runA.sl.r_4, runA.sl.r_10, runA.sl.v145, runA.sl.r, runA.sl.r_8, runA.sl.r_2, runA.sl.r_9, runA.sl.r_5, View.readAt_eq_ld, harg3.read_unread, harg4.read_unread, harg5.read_unread, harg6.read_unread, harg7.read_unread, harg8.read_unread, harg9.read_unread, harg10.read_unread, readCov_ld, canon_HS0_8]
  refine View.allAt_cons_unit _ _ _ _ _ ?_ ?_
  · intro x hx
    obtain ⟨u0, u1, u2, q, w, rfl⟩ : ∃ (u0 u1 u2 : Fin 1) (q : Fin 1024) (w : Fin 256), x = ix5 u0 u1 u2 q w := ⟨x 0, x 1, x 2, x 3, x 4, eq_ix5 x⟩
    obtain rfl : u0 = 0 := Subsingleton.elim _ _
    obtain rfl : u1 = 0 := Subsingleton.elim _ _
    obtain rfl : u2 = 0 := Subsingleton.elim _ _
    obtain rfl := Idx.of5 (y := y) 0 0 3 q w (by simpa using hx 0) (by simpa using hx 1) (by simpa using hx 2) (by simpa using hx 3) (by simpa using hx 4)
    rw [gateBlock_at (n := 9984 + w.val) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, q, w, rfl⟩ : ∃ (u0 u1 u2 : Fin 1) (q : Fin 1024) (w : Fin 256), x = ix5 u0 u1 u2 q w := ⟨x 0, x 1, x 2, x 3, x 4, eq_ix5 x⟩
    obtain rfl : u0 = 0 := Subsingleton.elim _ _
    obtain rfl : u1 = 0 := Subsingleton.elim _ _
    obtain rfl : u2 = 0 := Subsingleton.elim _ _
    obtain rfl := Idx.of5 (y := y) 0 0 2 q w (by simpa using hx 0) (by simpa using hx 1) (by simpa using hx 2) (by simpa using hx 3) (by simpa using hx 4)
    rw [gateBlock_at (n := 9728 + w.val) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, q, w, rfl⟩ : ∃ (u0 u1 u2 : Fin 1) (q : Fin 1024) (w : Fin 256), x = ix5 u0 u1 u2 q w := ⟨x 0, x 1, x 2, x 3, x 4, eq_ix5 x⟩
    obtain rfl : u0 = 0 := Subsingleton.elim _ _
    obtain rfl : u1 = 0 := Subsingleton.elim _ _
    obtain rfl : u2 = 0 := Subsingleton.elim _ _
    obtain rfl := Idx.of5 (y := y) 0 0 1 q w (by simpa using hx 0) (by simpa using hx 1) (by simpa using hx 2) (by simpa using hx 3) (by simpa using hx 4)
    rw [gateBlock_at (n := 9472 + w.val) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, q, w, rfl⟩ : ∃ (u0 u1 u2 : Fin 1) (q : Fin 1024) (w : Fin 256), x = ix5 u0 u1 u2 q w := ⟨x 0, x 1, x 2, x 3, x 4, eq_ix5 x⟩
    obtain rfl : u0 = 0 := Subsingleton.elim _ _
    obtain rfl : u1 = 0 := Subsingleton.elim _ _
    obtain rfl : u2 = 0 := Subsingleton.elim _ _
    obtain rfl := Idx.of5 (y := y) 0 0 0 q w (by simpa using hx 0) (by simpa using hx 1) (by simpa using hx 2) (by simpa using hx 3) (by simpa using hx 4)
    rw [gateBlock_at (n := 9216 + w.val) (hn := by omega) (e := by simp; try omega)]
    unfold_payloads
    pointwise
    all_goals (try simp only [← Nat.add_assoc, Nat.reduceAdd])
    all_goals rfl
  exact View.allAt_nil _ _

end TilesA

end Cert.Kernel2Ideal.Inproj

end
-- ==== Proof.InprojTilesB.lean ====
/-
What step 1 of a block of rows stores: the block of q, k and v of the group of dilation 4.
-/
module

public import proofs.«01_k».proof.Proof.InprojSpec

@[expose] public section

set_option maxRecDepth 16384

noncomputable section

namespace Cert.Kernel2Ideal.Inproj

open Cert.Kernel2Ideal Cert.Kernel2Ideal.Gen
open Idealize.ShloMosaic Idealize.ShloMosaic.TcCoe Idealize.ShloMosaic.Tactic
open Idealize.SL.Sem

namespace TilesB

variable (c : Dev nD) (i : grid0.Coords) (arg3 : Memref sig .tc .vmem S1x1024x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x10240 .bf16) (harg6 : arg6.IsWhole) (arg7 : Memref sig .tc .vmem S3x1x1x4x1024x256 .bf16) (harg7 : arg7.IsWhole) (arg8 : Memref sig .tc .vmem S1x1x4x1024x256 .bf16) (harg8 : arg8.IsWhole) (arg9 : Memref sig .tc .vmem S1024x1024 .bf16) (harg9 : arg9.IsWhole) (arg10 : Memref sig .tc .vmem S8x1024x128 .f32) (harg10 : arg10.IsWhole)
    (x0 : Vec Ideal S1x1024x1024 .f32) (x1 : Vec Ideal S1x1x1024 .f32) (x2 : Vec Ideal S1x1x1024 .f32) (x3 : Vec Ideal S1024x10240 .bf16) (xg : Vec Ideal S1x1x4x1024x256 .bf16) (xs : Vec Ideal S8x1024x128 .f32)

set_option maxHeartbeats 40000000 in
theorem canon_HS0_32 : View.canon (runB.sl.HS0_32 (F := Ideal) c arg10 harg10 xs) = rowsG 4 256 rfl xs := by
  funext y
  unfold runB.sl.HS0_32
  refine View.canon_eq_of_allAt _ _ _ (View.cover_of_tiled_head _ _ _ (by rfl) y) ?_
  simp only [readAt_spaced]
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨768 + q.val, by omega⟩ ⟨896 + l.val, by omega⟩ (by simpa using hx 0) (by simpa using hx 1)
    unfold_payloads
    pointwise
    exact rowsG_at 4 256 rfl xs 3 7 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨512 + q.val, by omega⟩ ⟨896 + l.val, by omega⟩ (by simpa using hx 0) (by simpa using hx 1)
    unfold_payloads
    pointwise
    exact rowsG_at 4 256 rfl xs 2 7 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨256 + q.val, by omega⟩ ⟨896 + l.val, by omega⟩ (by simpa using hx 0) (by simpa using hx 1)
    unfold_payloads
    pointwise
    exact rowsG_at 4 256 rfl xs 1 7 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨0 + q.val, by omega⟩ ⟨896 + l.val, by omega⟩ (by simpa using hx 0) (by simpa using hx 1)
    unfold_payloads
    pointwise
    exact rowsG_at 4 256 rfl xs 0 7 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨768 + q.val, by omega⟩ ⟨768 + l.val, by omega⟩ (by simpa using hx 0) (by simpa using hx 1)
    unfold_payloads
    pointwise
    exact rowsG_at 4 256 rfl xs 3 6 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨512 + q.val, by omega⟩ ⟨768 + l.val, by omega⟩ (by simpa using hx 0) (by simpa using hx 1)
    unfold_payloads
    pointwise
    exact rowsG_at 4 256 rfl xs 2 6 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨256 + q.val, by omega⟩ ⟨768 + l.val, by omega⟩ (by simpa using hx 0) (by simpa using hx 1)
    unfold_payloads
    pointwise
    exact rowsG_at 4 256 rfl xs 1 6 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨0 + q.val, by omega⟩ ⟨768 + l.val, by omega⟩ (by simpa using hx 0) (by simpa using hx 1)
    unfold_payloads
    pointwise
    exact rowsG_at 4 256 rfl xs 0 6 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨768 + q.val, by omega⟩ ⟨640 + l.val, by omega⟩ (by simpa using hx 0) (by simpa using hx 1)
    unfold_payloads
    pointwise
    exact rowsG_at 4 256 rfl xs 3 5 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨512 + q.val, by omega⟩ ⟨640 + l.val, by omega⟩ (by simpa using hx 0) (by simpa using hx 1)
    unfold_payloads
    pointwise
    exact rowsG_at 4 256 rfl xs 2 5 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨256 + q.val, by omega⟩ ⟨640 + l.val, by omega⟩ (by simpa using hx 0) (by simpa using hx 1)
    unfold_payloads
    pointwise
    exact rowsG_at 4 256 rfl xs 1 5 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨0 + q.val, by omega⟩ ⟨640 + l.val, by omega⟩ (by simpa using hx 0) (by simpa using hx 1)
    unfold_payloads
    pointwise
    exact rowsG_at 4 256 rfl xs 0 5 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨768 + q.val, by omega⟩ ⟨512 + l.val, by omega⟩ (by simpa using hx 0) (by simpa using hx 1)
    unfold_payloads
    pointwise
    exact rowsG_at 4 256 rfl xs 3 4 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨512 + q.val, by omega⟩ ⟨512 + l.val, by omega⟩ (by simpa using hx 0) (by simpa using hx 1)
    unfold_payloads
    pointwise
    exact rowsG_at 4 256 rfl xs 2 4 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨256 + q.val, by omega⟩ ⟨512 + l.val, by omega⟩ (by simpa using hx 0) (by simpa using hx 1)
    unfold_payloads
    pointwise
    exact rowsG_at 4 256 rfl xs 1 4 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨0 + q.val, by omega⟩ ⟨512 + l.val, by omega⟩ (by simpa using hx 0) (by simpa using hx 1)
    unfold_payloads
    pointwise
    exact rowsG_at 4 256 rfl xs 0 4 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨768 + q.val, by omega⟩ ⟨384 + l.val, by omega⟩ (by simpa using hx 0) (by simpa using hx 1)
    unfold_payloads
    pointwise
    exact rowsG_at 4 256 rfl xs 3 3 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨512 + q.val, by omega⟩ ⟨384 + l.val, by omega⟩ (by simpa using hx 0) (by simpa using hx 1)
    unfold_payloads
    pointwise
    exact rowsG_at 4 256 rfl xs 2 3 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨256 + q.val, by omega⟩ ⟨384 + l.val, by omega⟩ (by simpa using hx 0) (by simpa using hx 1)
    unfold_payloads
    pointwise
    exact rowsG_at 4 256 rfl xs 1 3 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨0 + q.val, by omega⟩ ⟨384 + l.val, by omega⟩ (by simpa using hx 0) (by simpa using hx 1)
    unfold_payloads
    pointwise
    exact rowsG_at 4 256 rfl xs 0 3 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨768 + q.val, by omega⟩ ⟨256 + l.val, by omega⟩ (by simpa using hx 0) (by simpa using hx 1)
    unfold_payloads
    pointwise
    exact rowsG_at 4 256 rfl xs 3 2 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨512 + q.val, by omega⟩ ⟨256 + l.val, by omega⟩ (by simpa using hx 0) (by simpa using hx 1)
    unfold_payloads
    pointwise
    exact rowsG_at 4 256 rfl xs 2 2 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨256 + q.val, by omega⟩ ⟨256 + l.val, by omega⟩ (by simpa using hx 0) (by simpa using hx 1)
    unfold_payloads
    pointwise
    exact rowsG_at 4 256 rfl xs 1 2 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨0 + q.val, by omega⟩ ⟨256 + l.val, by omega⟩ (by simpa using hx 0) (by simpa using hx 1)
    unfold_payloads
    pointwise
    exact rowsG_at 4 256 rfl xs 0 2 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨768 + q.val, by omega⟩ ⟨128 + l.val, by omega⟩ (by simpa using hx 0) (by simpa using hx 1)
    unfold_payloads
    pointwise
    exact rowsG_at 4 256 rfl xs 3 1 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨512 + q.val, by omega⟩ ⟨128 + l.val, by omega⟩ (by simpa using hx 0) (by simpa using hx 1)
    unfold_payloads
    pointwise
    exact rowsG_at 4 256 rfl xs 2 1 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨256 + q.val, by omega⟩ ⟨128 + l.val, by omega⟩ (by simpa using hx 0) (by simpa using hx 1)
    unfold_payloads
    pointwise
    exact rowsG_at 4 256 rfl xs 1 1 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨0 + q.val, by omega⟩ ⟨128 + l.val, by omega⟩ (by simpa using hx 0) (by simpa using hx 1)
    unfold_payloads
    pointwise
    exact rowsG_at 4 256 rfl xs 0 1 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨768 + q.val, by omega⟩ ⟨0 + l.val, by omega⟩ (by simpa using hx 0) (by simpa using hx 1)
    unfold_payloads
    pointwise
    exact rowsG_at 4 256 rfl xs 3 0 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨512 + q.val, by omega⟩ ⟨0 + l.val, by omega⟩ (by simpa using hx 0) (by simpa using hx 1)
    unfold_payloads
    pointwise
    exact rowsG_at 4 256 rfl xs 2 0 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨256 + q.val, by omega⟩ ⟨0 + l.val, by omega⟩ (by simpa using hx 0) (by simpa using hx 1)
    unfold_payloads
    pointwise
    exact rowsG_at 4 256 rfl xs 1 0 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 256) (l : Fin 128), x = ix2 q l := ⟨x 0, x 1, eq_ix2 x⟩
    obtain rfl := Idx.of2 (y := y) ⟨0 + q.val, by omega⟩ ⟨0 + l.val, by omega⟩ (by simpa using hx 0) (by simpa using hx 1)
    unfold_payloads
    pointwise
    exact rowsG_at 4 256 rfl xs 0 0 q l (by omega) (by omega) _ _ (by omega) (by omega) (by omega) (by omega) _ (by simp) (by simp) (by simp)
  exact View.allAt_nil _ _

set_option maxHeartbeats 40000000 in
theorem canonZ (hc0 : ¬cond0_0 i) (hc1 : cond0_1 i) (hc2 : ¬cond0_2 i) :
    View.canon (runB (F := Ideal) c i arg3 harg3 arg4 harg4 arg5 harg5 arg6 harg6 arg7 harg7 arg8 harg8 arg9 harg9 arg10 harg10 hc0 hc1 hc2 x0 x1 x2 x3 xg xs).1 = zBlock (rowsG 4 256 rfl xs) x3 1 (by decide) := by
  funext y
  refine View.canon_eq_of_allAt _ _ _ (coverZB c i arg3 harg3 arg4 harg4 arg5 harg5 arg6 harg6 arg7 harg7 arg8 harg8 arg9 harg9 arg10 harg10 hc0 hc1 hc2 x0 x1 x2 x3 xg xs y) ?_
  unfold runB
  dsimp only
  simp only [runB.sl.r_3, runB.sl.v201, runB.sl.r_2, runB.sl.r_1, runB.sl.r, runB.sl.r_4, View.readAt_eq_ld, harg3.read_unread, harg4.read_unread, harg5.read_unread, harg6.read_unread, harg7.read_unread, harg8.read_unread, harg9.read_unread, harg10.read_unread, readCov_ld, canon_HS0_32]
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 2 0 0 3 q w (by simpa using hx 0) (by simpa using hx 1) (by simpa using hx 2) (by simpa using hx 3) (by simpa using hx 4) (by simpa using hx 5)
    rw [zBlock_at (n := (5888 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 2 0 0 2 q w (by simpa using hx 0) (by simpa using hx 1) (by simpa using hx 2) (by simpa using hx 3) (by simpa using hx 4) (by simpa using hx 5)
    rw [zBlock_at (n := (5632 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 2 0 0 1 q w (by simpa using hx 0) (by simpa using hx 1) (by simpa using hx 2) (by simpa using hx 3) (by simpa using hx 4) (by simpa using hx 5)
    rw [zBlock_at (n := (5376 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 2 0 0 0 q w (by simpa using hx 0) (by simpa using hx 1) (by simpa using hx 2) (by simpa using hx 3) (by simpa using hx 4) (by simpa using hx 5)
    rw [zBlock_at (n := (5120 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 1 0 0 3 q w (by simpa using hx 0) (by simpa using hx 1) (by simpa using hx 2) (by simpa using hx 3) (by simpa using hx 4) (by simpa using hx 5)
    rw [zBlock_at (n := (4864 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 1 0 0 2 q w (by simpa using hx 0) (by simpa using hx 1) (by simpa using hx 2) (by simpa using hx 3) (by simpa using hx 4) (by simpa using hx 5)
    rw [zBlock_at (n := (4608 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 1 0 0 1 q w (by simpa using hx 0) (by simpa using hx 1) (by simpa using hx 2) (by simpa using hx 3) (by simpa using hx 4) (by simpa using hx 5)
    rw [zBlock_at (n := (4352 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 1 0 0 0 q w (by simpa using hx 0) (by simpa using hx 1) (by simpa using hx 2) (by simpa using hx 3) (by simpa using hx 4) (by simpa using hx 5)
    rw [zBlock_at (n := (4096 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 0 0 0 3 q w (by simpa using hx 0) (by simpa using hx 1) (by simpa using hx 2) (by simpa using hx 3) (by simpa using hx 4) (by simpa using hx 5)
    rw [zBlock_at (n := (3840 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 0 0 0 2 q w (by simpa using hx 0) (by simpa using hx 1) (by simpa using hx 2) (by simpa using hx 3) (by simpa using hx 4) (by simpa using hx 5)
    rw [zBlock_at (n := (3584 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 0 0 0 1 q w (by simpa using hx 0) (by simpa using hx 1) (by simpa using hx 2) (by simpa using hx 3) (by simpa using hx 4) (by simpa using hx 5)
    rw [zBlock_at (n := (3328 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 0 0 0 0 q w (by simpa using hx 0) (by simpa using hx 1) (by simpa using hx 2) (by simpa using hx 3) (by simpa using hx 4) (by simpa using hx 5)
    rw [zBlock_at (n := (3072 + w.val)) (hn := by omega) (e := by simp; try omega)]
    unfold_payloads
    pointwise
    all_goals (try simp only [← Nat.add_assoc, Nat.reduceAdd])
    all_goals rfl
  exact View.allAt_nil _ _

end TilesB

end Cert.Kernel2Ideal.Inproj

end
-- ==== Proof.InprojTilesC.lean ====
/-
What step 2 of a block of rows stores: the block of q, k and v of the group of dilation 16.
-/
module

public import proofs.«01_k».proof.Proof.InprojSpec

@[expose] public section

set_option maxRecDepth 16384

noncomputable section

namespace Cert.Kernel2Ideal.Inproj

open Cert.Kernel2Ideal Cert.Kernel2Ideal.Gen
open Idealize.ShloMosaic Idealize.ShloMosaic.TcCoe Idealize.ShloMosaic.Tactic
open Idealize.SL.Sem

namespace TilesC

variable (c : Dev nD) (i : grid0.Coords) (arg3 : Memref sig .tc .vmem S1x1024x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x10240 .bf16) (harg6 : arg6.IsWhole) (arg7 : Memref sig .tc .vmem S3x1x1x4x1024x256 .bf16) (harg7 : arg7.IsWhole) (arg8 : Memref sig .tc .vmem S1x1x4x1024x256 .bf16) (harg8 : arg8.IsWhole) (arg9 : Memref sig .tc .vmem S1024x1024 .bf16) (harg9 : arg9.IsWhole) (arg10 : Memref sig .tc .vmem S8x1024x128 .f32) (harg10 : arg10.IsWhole)
    (x0 : Vec Ideal S1x1024x1024 .f32) (x1 : Vec Ideal S1x1x1024 .f32) (x2 : Vec Ideal S1x1x1024 .f32) (x3 : Vec Ideal S1024x10240 .bf16) (xg : Vec Ideal S1x1x4x1024x256 .bf16) (xs : Vec Ideal S8x1024x128 .f32)

set_option maxHeartbeats 40000000 in
theorem canon_HS0_128 : View.canon (runC.sl.HS0_128 (F := Ideal) c arg10 harg10 xs) = rowsG 16 64 rfl xs := by
  funext y
  unfold runC.sl.HS0_128
  refine View.canon_eq_of_allAt _ _ _ (View.cover_of_tiled_head _ _ _ (by rfl) y) ?_
  simp only [readAt_spaced]
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨960 + q.val, by omega⟩ ⟨896 + l.val, by omega⟩ (by simpa using hx 0) (by simpa using hx 1)
    unfold_payloads
    pointwise
    exact rowsG_at 16 64 rfl xs 15 7 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨896 + q.val, by omega⟩ ⟨896 + l.val, by omega⟩ (by simpa using hx 0) (by simpa using hx 1)
    unfold_payloads
    pointwise
    exact rowsG_at 16 64 rfl xs 14 7 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨832 + q.val, by omega⟩ ⟨896 + l.val, by omega⟩ (by simpa using hx 0) (by simpa using hx 1)
    unfold_payloads
    pointwise
    exact rowsG_at 16 64 rfl xs 13 7 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨768 + q.val, by omega⟩ ⟨896 + l.val, by omega⟩ (by simpa using hx 0) (by simpa using hx 1)
    unfold_payloads
    pointwise
    exact rowsG_at 16 64 rfl xs 12 7 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨704 + q.val, by omega⟩ ⟨896 + l.val, by omega⟩ (by simpa using hx 0) (by simpa using hx 1)
    unfold_payloads
    pointwise
    exact rowsG_at 16 64 rfl xs 11 7 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨640 + q.val, by omega⟩ ⟨896 + l.val, by omega⟩ (by simpa using hx 0) (by simpa using hx 1)
    unfold_payloads
    pointwise
    exact rowsG_at 16 64 rfl xs 10 7 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨576 + q.val, by omega⟩ ⟨896 + l.val, by omega⟩ (by simpa using hx 0) (by simpa using hx 1)
    unfold_payloads
    pointwise
    exact rowsG_at 16 64 rfl xs 9 7 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨512 + q.val, by omega⟩ ⟨896 + l.val, by omega⟩ (by simpa using hx 0) (by simpa using hx 1)
    unfold_payloads
    pointwise
    exact rowsG_at 16 64 rfl xs 8 7 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨448 + q.val, by omega⟩ ⟨896 + l.val, by omega⟩ (by simpa using hx 0) (by simpa using hx 1)
    unfold_payloads
    pointwise
    exact rowsG_at 16 64 rfl xs 7 7 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨384 + q.val, by omega⟩ ⟨896 + l.val, by omega⟩ (by simpa using hx 0) (by simpa using hx 1)
    unfold_payloads
    pointwise
    exact rowsG_at 16 64 rfl xs 6 7 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨320 + q.val, by omega⟩ ⟨896 + l.val, by omega⟩ (by simpa using hx 0) (by simpa using hx 1)
    unfold_payloads
    pointwise
    exact rowsG_at 16 64 rfl xs 5 7 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨256 + q.val, by omega⟩ ⟨896 + l.val, by omega⟩ (by simpa using hx 0) (by simpa using hx 1)
    unfold_payloads
    pointwise
    exact rowsG_at 16 64 rfl xs 4 7 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨192 + q.val, by omega⟩ ⟨896 + l.val, by omega⟩ (by simpa using hx 0) (by simpa using hx 1)
    unfold_payloads
    pointwise
    exact rowsG_at 16 64 rfl xs 3 7 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨128 + q.val, by omega⟩ ⟨896 + l.val, by omega⟩ (by simpa using hx 0) (by simpa using hx 1)
    unfold_payloads
    pointwise
    exact rowsG_at 16 64 rfl xs 2 7 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨64 + q.val, by omega⟩ ⟨896 + l.val, by omega⟩ (by simpa using hx 0) (by simpa using hx 1)
    unfold_payloads
    pointwise
    exact rowsG_at 16 64 rfl xs 1 7 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨0 + q.val, by omega⟩ ⟨896 + l.val, by omega⟩ (by simpa using hx 0) (by simpa using hx 1)
    unfold_payloads
    pointwise
    exact rowsG_at 16 64 rfl xs 0 7 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨960 + q.val, by omega⟩ ⟨768 + l.val, by omega⟩ (by simpa using hx 0) (by simpa using hx 1)
    unfold_payloads
    pointwise
    exact rowsG_at 16 64 rfl xs 15 6 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨896 + q.val, by omega⟩ ⟨768 + l.val, by omega⟩ (by simpa using hx 0) (by simpa using hx 1)
    unfold_payloads
    pointwise
    exact rowsG_at 16 64 rfl xs 14 6 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨832 + q.val, by omega⟩ ⟨768 + l.val, by omega⟩ (by simpa using hx 0) (by simpa using hx 1)
    unfold_payloads
    pointwise
    exact rowsG_at 16 64 rfl xs 13 6 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨768 + q.val, by omega⟩ ⟨768 + l.val, by omega⟩ (by simpa using hx 0) (by simpa using hx 1)
    unfold_payloads
    pointwise
    exact rowsG_at 16 64 rfl xs 12 6 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨704 + q.val, by omega⟩ ⟨768 + l.val, by omega⟩ (by simpa using hx 0) (by simpa using hx 1)
    unfold_payloads
    pointwise
    exact rowsG_at 16 64 rfl xs 11 6 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨640 + q.val, by omega⟩ ⟨768 + l.val, by omega⟩ (by simpa using hx 0) (by simpa using hx 1)
    unfold_payloads
    pointwise
    exact rowsG_at 16 64 rfl xs 10 6 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨576 + q.val, by omega⟩ ⟨768 + l.val, by omega⟩ (by simpa using hx 0) (by simpa using hx 1)
    unfold_payloads
    pointwise
    exact rowsG_at 16 64 rfl xs 9 6 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨512 + q.val, by omega⟩ ⟨768 + l.val, by omega⟩ (by simpa using hx 0) (by simpa using hx 1)
    unfold_payloads
    pointwise
    exact rowsG_at 16 64 rfl xs 8 6 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨448 + q.val, by omega⟩ ⟨768 + l.val, by omega⟩ (by simpa using hx 0) (by simpa using hx 1)
    unfold_payloads
    pointwise
    exact rowsG_at 16 64 rfl xs 7 6 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨384 + q.val, by omega⟩ ⟨768 + l.val, by omega⟩ (by simpa using hx 0) (by simpa using hx 1)
    unfold_payloads
    pointwise
    exact rowsG_at 16 64 rfl xs 6 6 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨320 + q.val, by omega⟩ ⟨768 + l.val, by omega⟩ (by simpa using hx 0) (by simpa using hx 1)
    unfold_payloads
    pointwise
    exact rowsG_at 16 64 rfl xs 5 6 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨256 + q.val, by omega⟩ ⟨768 + l.val, by omega⟩ (by simpa using hx 0) (by simpa using hx 1)
    unfold_payloads
    pointwise
    exact rowsG_at 16 64 rfl xs 4 6 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨192 + q.val, by omega⟩ ⟨768 + l.val, by omega⟩ (by simpa using hx 0) (by simpa using hx 1)
    unfold_payloads
    pointwise
    exact rowsG_at 16 64 rfl xs 3 6 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨128 + q.val, by omega⟩ ⟨768 + l.val, by omega⟩ (by simpa using hx 0) (by simpa using hx 1)
    unfold_payloads
    pointwise
    exact rowsG_at 16 64 rfl xs 2 6 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨64 + q.val, by omega⟩ ⟨768 + l.val, by omega⟩ (by simpa using hx 0) (by simpa using hx 1)
    unfold_payloads
    pointwise
    exact rowsG_at 16 64 rfl xs 1 6 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨0 + q.val, by omega⟩ ⟨768 + l.val, by omega⟩ (by simpa using hx 0) (by simpa using hx 1)
    unfold_payloads
    pointwise
    exact rowsG_at 16 64 rfl xs 0 6 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨960 + q.val, by omega⟩ ⟨640 + l.val, by omega⟩ (by simpa using hx 0) (by simpa using hx 1)
    unfold_payloads
    pointwise
    exact rowsG_at 16 64 rfl xs 15 5 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨896 + q.val, by omega⟩ ⟨640 + l.val, by omega⟩ (by simpa using hx 0) (by simpa using hx 1)
    unfold_payloads
    pointwise
    exact rowsG_at 16 64 rfl xs 14 5 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨832 + q.val, by omega⟩ ⟨640 + l.val, by omega⟩ (by simpa using hx 0) (by simpa using hx 1)
    unfold_payloads
    pointwise
    exact rowsG_at 16 64 rfl xs 13 5 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨768 + q.val, by omega⟩ ⟨640 + l.val, by omega⟩ (by simpa using hx 0) (by simpa using hx 1)
    unfold_payloads
    pointwise
    exact rowsG_at 16 64 rfl xs 12 5 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨704 + q.val, by omega⟩ ⟨640 + l.val, by omega⟩ (by simpa using hx 0) (by simpa using hx 1)
    unfold_payloads
    pointwise
    exact rowsG_at 16 64 rfl xs 11 5 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨640 + q.val, by omega⟩ ⟨640 + l.val, by omega⟩ (by simpa using hx 0) (by simpa using hx 1)
    unfold_payloads
    pointwise
    exact rowsG_at 16 64 rfl xs 10 5 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨576 + q.val, by omega⟩ ⟨640 + l.val, by omega⟩ (by simpa using hx 0) (by simpa using hx 1)
    unfold_payloads
    pointwise
    exact rowsG_at 16 64 rfl xs 9 5 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨512 + q.val, by omega⟩ ⟨640 + l.val, by omega⟩ (by simpa using hx 0) (by simpa using hx 1)
    unfold_payloads
    pointwise
    exact rowsG_at 16 64 rfl xs 8 5 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨448 + q.val, by omega⟩ ⟨640 + l.val, by omega⟩ (by simpa using hx 0) (by simpa using hx 1)
    unfold_payloads
    pointwise
    exact rowsG_at 16 64 rfl xs 7 5 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨384 + q.val, by omega⟩ ⟨640 + l.val, by omega⟩ (by simpa using hx 0) (by simpa using hx 1)
    unfold_payloads
    pointwise
    exact rowsG_at 16 64 rfl xs 6 5 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨320 + q.val, by omega⟩ ⟨640 + l.val, by omega⟩ (by simpa using hx 0) (by simpa using hx 1)
    unfold_payloads
    pointwise
    exact rowsG_at 16 64 rfl xs 5 5 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨256 + q.val, by omega⟩ ⟨640 + l.val, by omega⟩ (by simpa using hx 0) (by simpa using hx 1)
    unfold_payloads
    pointwise
    exact rowsG_at 16 64 rfl xs 4 5 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨192 + q.val, by omega⟩ ⟨640 + l.val, by omega⟩ (by simpa using hx 0) (by simpa using hx 1)
    unfold_payloads
    pointwise
    exact rowsG_at 16 64 rfl xs 3 5 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨128 + q.val, by omega⟩ ⟨640 + l.val, by omega⟩ (by simpa using hx 0) (by simpa using hx 1)
    unfold_payloads
    pointwise
    exact rowsG_at 16 64 rfl xs 2 5 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨64 + q.val, by omega⟩ ⟨640 + l.val, by omega⟩ (by simpa using hx 0) (by simpa using hx 1)
    unfold_payloads
    pointwise
    exact rowsG_at 16 64 rfl xs 1 5 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨0 + q.val, by omega⟩ ⟨640 + l.val, by omega⟩ (by simpa using hx 0) (by simpa using hx 1)
    unfold_payloads
    pointwise
    exact rowsG_at 16 64 rfl xs 0 5 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨960 + q.val, by omega⟩ ⟨512 + l.val, by omega⟩ (by simpa using hx 0) (by simpa using hx 1)
    unfold_payloads
    pointwise
    exact rowsG_at 16 64 rfl xs 15 4 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨896 + q.val, by omega⟩ ⟨512 + l.val, by omega⟩ (by simpa using hx 0) (by simpa using hx 1)
    unfold_payloads
    pointwise
    exact rowsG_at 16 64 rfl xs 14 4 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨832 + q.val, by omega⟩ ⟨512 + l.val, by omega⟩ (by simpa using hx 0) (by simpa using hx 1)
    unfold_payloads
    pointwise
    exact rowsG_at 16 64 rfl xs 13 4 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨768 + q.val, by omega⟩ ⟨512 + l.val, by omega⟩ (by simpa using hx 0) (by simpa using hx 1)
    unfold_payloads
    pointwise
    exact rowsG_at 16 64 rfl xs 12 4 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨704 + q.val, by omega⟩ ⟨512 + l.val, by omega⟩ (by simpa using hx 0) (by simpa using hx 1)
    unfold_payloads
    pointwise
    exact rowsG_at 16 64 rfl xs 11 4 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨640 + q.val, by omega⟩ ⟨512 + l.val, by omega⟩ (by simpa using hx 0) (by simpa using hx 1)
    unfold_payloads
    pointwise
    exact rowsG_at 16 64 rfl xs 10 4 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨576 + q.val, by omega⟩ ⟨512 + l.val, by omega⟩ (by simpa using hx 0) (by simpa using hx 1)
    unfold_payloads
    pointwise
    exact rowsG_at 16 64 rfl xs 9 4 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨512 + q.val, by omega⟩ ⟨512 + l.val, by omega⟩ (by simpa using hx 0) (by simpa using hx 1)
    unfold_payloads
    pointwise
    exact rowsG_at 16 64 rfl xs 8 4 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨448 + q.val, by omega⟩ ⟨512 + l.val, by omega⟩ (by simpa using hx 0) (by simpa using hx 1)
    unfold_payloads
    pointwise
    exact rowsG_at 16 64 rfl xs 7 4 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨384 + q.val, by omega⟩ ⟨512 + l.val, by omega⟩ (by simpa using hx 0) (by simpa using hx 1)
    unfold_payloads
    pointwise
    exact rowsG_at 16 64 rfl xs 6 4 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨320 + q.val, by omega⟩ ⟨512 + l.val, by omega⟩ (by simpa using hx 0) (by simpa using hx 1)
    unfold_payloads
    pointwise
    exact rowsG_at 16 64 rfl xs 5 4 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨256 + q.val, by omega⟩ ⟨512 + l.val, by omega⟩ (by simpa using hx 0) (by simpa using hx 1)
    unfold_payloads
    pointwise
    exact rowsG_at 16 64 rfl xs 4 4 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨192 + q.val, by omega⟩ ⟨512 + l.val, by omega⟩ (by simpa using hx 0) (by simpa using hx 1)
    unfold_payloads
    pointwise
    exact rowsG_at 16 64 rfl xs 3 4 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨128 + q.val, by omega⟩ ⟨512 + l.val, by omega⟩ (by simpa using hx 0) (by simpa using hx 1)
    unfold_payloads
    pointwise
    exact rowsG_at 16 64 rfl xs 2 4 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨64 + q.val, by omega⟩ ⟨512 + l.val, by omega⟩ (by simpa using hx 0) (by simpa using hx 1)
    unfold_payloads
    pointwise
    exact rowsG_at 16 64 rfl xs 1 4 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨0 + q.val, by omega⟩ ⟨512 + l.val, by omega⟩ (by simpa using hx 0) (by simpa using hx 1)
    unfold_payloads
    pointwise
    exact rowsG_at 16 64 rfl xs 0 4 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨960 + q.val, by omega⟩ ⟨384 + l.val, by omega⟩ (by simpa using hx 0) (by simpa using hx 1)
    unfold_payloads
    pointwise
    exact rowsG_at 16 64 rfl xs 15 3 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨896 + q.val, by omega⟩ ⟨384 + l.val, by omega⟩ (by simpa using hx 0) (by simpa using hx 1)
    unfold_payloads
    pointwise
    exact rowsG_at 16 64 rfl xs 14 3 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨832 + q.val, by omega⟩ ⟨384 + l.val, by omega⟩ (by simpa using hx 0) (by simpa using hx 1)
    unfold_payloads
    pointwise
    exact rowsG_at 16 64 rfl xs 13 3 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨768 + q.val, by omega⟩ ⟨384 + l.val, by omega⟩ (by simpa using hx 0) (by simpa using hx 1)
    unfold_payloads
    pointwise
    exact rowsG_at 16 64 rfl xs 12 3 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨704 + q.val, by omega⟩ ⟨384 + l.val, by omega⟩ (by simpa using hx 0) (by simpa using hx 1)
    unfold_payloads
    pointwise
    exact rowsG_at 16 64 rfl xs 11 3 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨640 + q.val, by omega⟩ ⟨384 + l.val, by omega⟩ (by simpa using hx 0) (by simpa using hx 1)
    unfold_payloads
    pointwise
    exact rowsG_at 16 64 rfl xs 10 3 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨576 + q.val, by omega⟩ ⟨384 + l.val, by omega⟩ (by simpa using hx 0) (by simpa using hx 1)
    unfold_payloads
    pointwise
    exact rowsG_at 16 64 rfl xs 9 3 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨512 + q.val, by omega⟩ ⟨384 + l.val, by omega⟩ (by simpa using hx 0) (by simpa using hx 1)
    unfold_payloads
    pointwise
    exact rowsG_at 16 64 rfl xs 8 3 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨448 + q.val, by omega⟩ ⟨384 + l.val, by omega⟩ (by simpa using hx 0) (by simpa using hx 1)
    unfold_payloads
    pointwise
    exact rowsG_at 16 64 rfl xs 7 3 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨384 + q.val, by omega⟩ ⟨384 + l.val, by omega⟩ (by simpa using hx 0) (by simpa using hx 1)
    unfold_payloads
    pointwise
    exact rowsG_at 16 64 rfl xs 6 3 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨320 + q.val, by omega⟩ ⟨384 + l.val, by omega⟩ (by simpa using hx 0) (by simpa using hx 1)
    unfold_payloads
    pointwise
    exact rowsG_at 16 64 rfl xs 5 3 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨256 + q.val, by omega⟩ ⟨384 + l.val, by omega⟩ (by simpa using hx 0) (by simpa using hx 1)
    unfold_payloads
    pointwise
    exact rowsG_at 16 64 rfl xs 4 3 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨192 + q.val, by omega⟩ ⟨384 + l.val, by omega⟩ (by simpa using hx 0) (by simpa using hx 1)
    unfold_payloads
    pointwise
    exact rowsG_at 16 64 rfl xs 3 3 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨128 + q.val, by omega⟩ ⟨384 + l.val, by omega⟩ (by simpa using hx 0) (by simpa using hx 1)
    unfold_payloads
    pointwise
    exact rowsG_at 16 64 rfl xs 2 3 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨64 + q.val, by omega⟩ ⟨384 + l.val, by omega⟩ (by simpa using hx 0) (by simpa using hx 1)
    unfold_payloads
    pointwise
    exact rowsG_at 16 64 rfl xs 1 3 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨0 + q.val, by omega⟩ ⟨384 + l.val, by omega⟩ (by simpa using hx 0) (by simpa using hx 1)
    unfold_payloads
    pointwise
    exact rowsG_at 16 64 rfl xs 0 3 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨960 + q.val, by omega⟩ ⟨256 + l.val, by omega⟩ (by simpa using hx 0) (by simpa using hx 1)
    unfold_payloads
    pointwise
    exact rowsG_at 16 64 rfl xs 15 2 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨896 + q.val, by omega⟩ ⟨256 + l.val, by omega⟩ (by simpa using hx 0) (by simpa using hx 1)
    unfold_payloads
    pointwise
    exact rowsG_at 16 64 rfl xs 14 2 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨832 + q.val, by omega⟩ ⟨256 + l.val, by omega⟩ (by simpa using hx 0) (by simpa using hx 1)
    unfold_payloads
    pointwise
    exact rowsG_at 16 64 rfl xs 13 2 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨768 + q.val, by omega⟩ ⟨256 + l.val, by omega⟩ (by simpa using hx 0) (by simpa using hx 1)
    unfold_payloads
    pointwise
    exact rowsG_at 16 64 rfl xs 12 2 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨704 + q.val, by omega⟩ ⟨256 + l.val, by omega⟩ (by simpa using hx 0) (by simpa using hx 1)
    unfold_payloads
    pointwise
    exact rowsG_at 16 64 rfl xs 11 2 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨640 + q.val, by omega⟩ ⟨256 + l.val, by omega⟩ (by simpa using hx 0) (by simpa using hx 1)
    unfold_payloads
    pointwise
    exact rowsG_at 16 64 rfl xs 10 2 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨576 + q.val, by omega⟩ ⟨256 + l.val, by omega⟩ (by simpa using hx 0) (by simpa using hx 1)
    unfold_payloads
    pointwise
    exact rowsG_at 16 64 rfl xs 9 2 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨512 + q.val, by omega⟩ ⟨256 + l.val, by omega⟩ (by simpa using hx 0) (by simpa using hx 1)
    unfold_payloads
    pointwise
    exact rowsG_at 16 64 rfl xs 8 2 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨448 + q.val, by omega⟩ ⟨256 + l.val, by omega⟩ (by simpa using hx 0) (by simpa using hx 1)
    unfold_payloads
    pointwise
    exact rowsG_at 16 64 rfl xs 7 2 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨384 + q.val, by omega⟩ ⟨256 + l.val, by omega⟩ (by simpa using hx 0) (by simpa using hx 1)
    unfold_payloads
    pointwise
    exact rowsG_at 16 64 rfl xs 6 2 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨320 + q.val, by omega⟩ ⟨256 + l.val, by omega⟩ (by simpa using hx 0) (by simpa using hx 1)
    unfold_payloads
    pointwise
    exact rowsG_at 16 64 rfl xs 5 2 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨256 + q.val, by omega⟩ ⟨256 + l.val, by omega⟩ (by simpa using hx 0) (by simpa using hx 1)
    unfold_payloads
    pointwise
    exact rowsG_at 16 64 rfl xs 4 2 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨192 + q.val, by omega⟩ ⟨256 + l.val, by omega⟩ (by simpa using hx 0) (by simpa using hx 1)
    unfold_payloads
    pointwise
    exact rowsG_at 16 64 rfl xs 3 2 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨128 + q.val, by omega⟩ ⟨256 + l.val, by omega⟩ (by simpa using hx 0) (by simpa using hx 1)
    unfold_payloads
    pointwise
    exact rowsG_at 16 64 rfl xs 2 2 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨64 + q.val, by omega⟩ ⟨256 + l.val, by omega⟩ (by simpa using hx 0) (by simpa using hx 1)
    unfold_payloads
    pointwise
    exact rowsG_at 16 64 rfl xs 1 2 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨0 + q.val, by omega⟩ ⟨256 + l.val, by omega⟩ (by simpa using hx 0) (by simpa using hx 1)
    unfold_payloads
    pointwise
    exact rowsG_at 16 64 rfl xs 0 2 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨960 + q.val, by omega⟩ ⟨128 + l.val, by omega⟩ (by simpa using hx 0) (by simpa using hx 1)
    unfold_payloads
    pointwise
    exact rowsG_at 16 64 rfl xs 15 1 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨896 + q.val, by omega⟩ ⟨128 + l.val, by omega⟩ (by simpa using hx 0) (by simpa using hx 1)
    unfold_payloads
    pointwise
    exact rowsG_at 16 64 rfl xs 14 1 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨832 + q.val, by omega⟩ ⟨128 + l.val, by omega⟩ (by simpa using hx 0) (by simpa using hx 1)
    unfold_payloads
    pointwise
    exact rowsG_at 16 64 rfl xs 13 1 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨768 + q.val, by omega⟩ ⟨128 + l.val, by omega⟩ (by simpa using hx 0) (by simpa using hx 1)
    unfold_payloads
    pointwise
    exact rowsG_at 16 64 rfl xs 12 1 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨704 + q.val, by omega⟩ ⟨128 + l.val, by omega⟩ (by simpa using hx 0) (by simpa using hx 1)
    unfold_payloads
    pointwise
    exact rowsG_at 16 64 rfl xs 11 1 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨640 + q.val, by omega⟩ ⟨128 + l.val, by omega⟩ (by simpa using hx 0) (by simpa using hx 1)
    unfold_payloads
    pointwise
    exact rowsG_at 16 64 rfl xs 10 1 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨576 + q.val, by omega⟩ ⟨128 + l.val, by omega⟩ (by simpa using hx 0) (by simpa using hx 1)
    unfold_payloads
    pointwise
    exact rowsG_at 16 64 rfl xs 9 1 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨512 + q.val, by omega⟩ ⟨128 + l.val, by omega⟩ (by simpa using hx 0) (by simpa using hx 1)
    unfold_payloads
    pointwise
    exact rowsG_at 16 64 rfl xs 8 1 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨448 + q.val, by omega⟩ ⟨128 + l.val, by omega⟩ (by simpa using hx 0) (by simpa using hx 1)
    unfold_payloads
    pointwise
    exact rowsG_at 16 64 rfl xs 7 1 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨384 + q.val, by omega⟩ ⟨128 + l.val, by omega⟩ (by simpa using hx 0) (by simpa using hx 1)
    unfold_payloads
    pointwise
    exact rowsG_at 16 64 rfl xs 6 1 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨320 + q.val, by omega⟩ ⟨128 + l.val, by omega⟩ (by simpa using hx 0) (by simpa using hx 1)
    unfold_payloads
    pointwise
    exact rowsG_at 16 64 rfl xs 5 1 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨256 + q.val, by omega⟩ ⟨128 + l.val, by omega⟩ (by simpa using hx 0) (by simpa using hx 1)
    unfold_payloads
    pointwise
    exact rowsG_at 16 64 rfl xs 4 1 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨192 + q.val, by omega⟩ ⟨128 + l.val, by omega⟩ (by simpa using hx 0) (by simpa using hx 1)
    unfold_payloads
    pointwise
    exact rowsG_at 16 64 rfl xs 3 1 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨128 + q.val, by omega⟩ ⟨128 + l.val, by omega⟩ (by simpa using hx 0) (by simpa using hx 1)
    unfold_payloads
    pointwise
    exact rowsG_at 16 64 rfl xs 2 1 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨64 + q.val, by omega⟩ ⟨128 + l.val, by omega⟩ (by simpa using hx 0) (by simpa using hx 1)
    unfold_payloads
    pointwise
    exact rowsG_at 16 64 rfl xs 1 1 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨0 + q.val, by omega⟩ ⟨128 + l.val, by omega⟩ (by simpa using hx 0) (by simpa using hx 1)
    unfold_payloads
    pointwise
    exact rowsG_at 16 64 rfl xs 0 1 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨960 + q.val, by omega⟩ ⟨0 + l.val, by omega⟩ (by simpa using hx 0) (by simpa using hx 1)
    unfold_payloads
    pointwise
    exact rowsG_at 16 64 rfl xs 15 0 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨896 + q.val, by omega⟩ ⟨0 + l.val, by omega⟩ (by simpa using hx 0) (by simpa using hx 1)
    unfold_payloads
    pointwise
    exact rowsG_at 16 64 rfl xs 14 0 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨832 + q.val, by omega⟩ ⟨0 + l.val, by omega⟩ (by simpa using hx 0) (by simpa using hx 1)
    unfold_payloads
    pointwise
    exact rowsG_at 16 64 rfl xs 13 0 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨768 + q.val, by omega⟩ ⟨0 + l.val, by omega⟩ (by simpa using hx 0) (by simpa using hx 1)
    unfold_payloads
    pointwise
    exact rowsG_at 16 64 rfl xs 12 0 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨704 + q.val, by omega⟩ ⟨0 + l.val, by omega⟩ (by simpa using hx 0) (by simpa using hx 1)
    unfold_payloads
    pointwise
    exact rowsG_at 16 64 rfl xs 11 0 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨640 + q.val, by omega⟩ ⟨0 + l.val, by omega⟩ (by simpa using hx 0) (by simpa using hx 1)
    unfold_payloads
    pointwise
    exact rowsG_at 16 64 rfl xs 10 0 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨576 + q.val, by omega⟩ ⟨0 + l.val, by omega⟩ (by simpa using hx 0) (by simpa using hx 1)
    unfold_payloads
    pointwise
    exact rowsG_at 16 64 rfl xs 9 0 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨512 + q.val, by omega⟩ ⟨0 + l.val, by omega⟩ (by simpa using hx 0) (by simpa using hx 1)
    unfold_payloads
    pointwise
    exact rowsG_at 16 64 rfl xs 8 0 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨448 + q.val, by omega⟩ ⟨0 + l.val, by omega⟩ (by simpa using hx 0) (by simpa using hx 1)
    unfold_payloads
    pointwise
    exact rowsG_at 16 64 rfl xs 7 0 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨384 + q.val, by omega⟩ ⟨0 + l.val, by omega⟩ (by simpa using hx 0) (by simpa using hx 1)
    unfold_payloads
    pointwise
    exact rowsG_at 16 64 rfl xs 6 0 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨320 + q.val, by omega⟩ ⟨0 + l.val, by omega⟩ (by simpa using hx 0) (by simpa using hx 1)
    unfold_payloads
    pointwise
    exact rowsG_at 16 64 rfl xs 5 0 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨256 + q.val, by omega⟩ ⟨0 + l.val, by omega⟩ (by simpa using hx 0) (by simpa using hx 1)
    unfold_payloads
    pointwise
    exact rowsG_at 16 64 rfl xs 4 0 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨192 + q.val, by omega⟩ ⟨0 + l.val, by omega⟩ (by simpa using hx 0) (by simpa using hx 1)
    unfold_payloads
    pointwise
    exact rowsG_at 16 64 rfl xs 3 0 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨128 + q.val, by omega⟩ ⟨0 + l.val, by omega⟩ (by simpa using hx 0) (by simpa using hx 1)
    unfold_payloads
    pointwise
    exact rowsG_at 16 64 rfl xs 2 0 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨64 + q.val, by omega⟩ ⟨0 + l.val, by omega⟩ (by simpa using hx 0) (by simpa using hx 1)
    unfold_payloads
    pointwise
    exact rowsG_at 16 64 rfl xs 1 0 q l (by omega) (by omega) _ _ (by omega) (by omega) (by omega) (by omega) _ (by simp) (by simp) (by simp)
  refine View.allAt_cons_unit _ _ _ _ _ ?_ ?_
  · intro x hx
    obtain ⟨q, l, rfl⟩ : ∃ (q : Fin 64) (l : Fin 128), x = ix2 q l := ⟨x 0, x 1, eq_ix2 x⟩
    obtain rfl := Idx.of2 (y := y) ⟨0 + q.val, by omega⟩ ⟨0 + l.val, by omega⟩ (by simpa using hx 0) (by simpa using hx 1)
    unfold_payloads
    pointwise
    exact rowsG_at 16 64 rfl xs 0 0 q l (by omega) (by omega) _ _ (by omega) (by omega) (by omega) (by omega) _ (by simp) (by simp) (by simp)
  exact View.allAt_nil _ _

set_option maxHeartbeats 40000000 in
theorem canonZ (hc0 : ¬cond0_0 i) (hc1 : ¬cond0_1 i) (hc2 : cond0_2 i) :
    View.canon (runC (F := Ideal) c i arg3 harg3 arg4 harg4 arg5 harg5 arg6 harg6 arg7 harg7 arg8 harg8 arg9 harg9 arg10 harg10 hc0 hc1 hc2 x0 x1 x2 x3 xg xs).1 = zBlock (rowsG 16 64 rfl xs) x3 2 (by decide) := by
  funext y
  refine View.canon_eq_of_allAt _ _ _ (coverZC c i arg3 harg3 arg4 harg4 arg5 harg5 arg6 harg6 arg7 harg7 arg8 harg8 arg9 harg9 arg10 harg10 hc0 hc1 hc2 x0 x1 x2 x3 xg xs y) ?_
  unfold runC
  dsimp only
  simp only [runC.sl.r_3, runC.sl.r, runC.sl.r_4, runC.sl.r_2, runC.sl.r_1, runC.sl.v777, View.readAt_eq_ld, harg3.read_unread, harg4.read_unread, harg5.read_unread, harg6.read_unread, harg7.read_unread, harg8.read_unread, harg9.read_unread, harg10.read_unread, readCov_ld, canon_HS0_128]
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 2 0 0 3 q w (by simpa using hx 0) (by simpa using hx 1) (by simpa using hx 2) (by simpa using hx 3) (by simpa using hx 4) (by simpa using hx 5)
    rw [zBlock_at (n := (8960 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 2 0 0 2 q w (by simpa using hx 0) (by simpa using hx 1) (by simpa using hx 2) (by simpa using hx 3) (by simpa using hx 4) (by simpa using hx 5)
    rw [zBlock_at (n := (8704 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 2 0 0 1 q w (by simpa using hx 0) (by simpa using hx 1) (by simpa using hx 2) (by simpa using hx 3) (by simpa using hx 4) (by simpa using hx 5)
    rw [zBlock_at (n := (8448 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 2 0 0 0 q w (by simpa using hx 0) (by simpa using hx 1) (by simpa using hx 2) (by simpa using hx 3) (by simpa using hx 4) (by simpa using hx 5)
    rw [zBlock_at (n := (8192 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 1 0 0 3 q w (by simpa using hx 0) (by simpa using hx 1) (by simpa using hx 2) (by simpa using hx 3) (by simpa using hx 4) (by simpa using hx 5)
    rw [zBlock_at (n := (7936 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 1 0 0 2 q w (by simpa using hx 0) (by simpa using hx 1) (by simpa using hx 2) (by simpa using hx 3) (by simpa using hx 4) (by simpa using hx 5)
    rw [zBlock_at (n := (7680 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 1 0 0 1 q w (by simpa using hx 0) (by simpa using hx 1) (by simpa using hx 2) (by simpa using hx 3) (by simpa using hx 4) (by simpa using hx 5)
    rw [zBlock_at (n := (7424 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 1 0 0 0 q w (by simpa using hx 0) (by simpa using hx 1) (by simpa using hx 2) (by simpa using hx 3) (by simpa using hx 4) (by simpa using hx 5)
    rw [zBlock_at (n := (7168 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 0 0 0 3 q w (by simpa using hx 0) (by simpa using hx 1) (by simpa using hx 2) (by simpa using hx 3) (by simpa using hx 4) (by simpa using hx 5)
    rw [zBlock_at (n := (6912 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 0 0 0 2 q w (by simpa using hx 0) (by simpa using hx 1) (by simpa using hx 2) (by simpa using hx 3) (by simpa using hx 4) (by simpa using hx 5)
    rw [zBlock_at (n := (6656 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 0 0 0 1 q w (by simpa using hx 0) (by simpa using hx 1) (by simpa using hx 2) (by simpa using hx 3) (by simpa using hx 4) (by simpa using hx 5)
    rw [zBlock_at (n := (6400 + w.val)) (hn := by omega) (e := by simp; try omega)]
    unfold_payloads
    pointwise
    all_goals (try simp only [← Nat.add_assoc, Nat.reduceAdd])
    all_goals rfl
  refine View.allAt_cons_unit _ _ _ _ _ ?_ ?_
  · intro x hx
    obtain ⟨u0, u1, u2, u3, q, w, rfl⟩ : ∃ (u0 u1 u2 u3 : Fin 1) (q : Fin 1024) (w : Fin 256), x = ix6 u0 u1 u2 u3 q w := ⟨x 0, x 1, x 2, x 3, x 4, x 5, eq_ix6 x⟩
    obtain rfl : u0 = 0 := Subsingleton.elim _ _
    obtain rfl : u1 = 0 := Subsingleton.elim _ _
    obtain rfl : u2 = 0 := Subsingleton.elim _ _
    obtain rfl : u3 = 0 := Subsingleton.elim _ _
    obtain rfl := Idx.of6 (y := y) 0 0 0 0 q w (by simpa using hx 0) (by simpa using hx 1) (by simpa using hx 2) (by simpa using hx 3) (by simpa using hx 4) (by simpa using hx 5)
    rw [zBlock_at (n := (6144 + w.val)) (hn := by omega) (e := by simp; try omega)]
    unfold_payloads
    pointwise
    all_goals (try simp only [← Nat.add_assoc, Nat.reduceAdd])
    all_goals rfl
  exact View.allAt_nil _ _

end TilesC

end Cert.Kernel2Ideal.Inproj

end
-- ==== Proof.InprojRef.lean ====
/-
  The input projection's reference, read at an index: for each of the nine q, k and v the modulated token that the group's
  order puts in a row, times a block of the weights' columns; and the gate.
-/
module

public import proofs.«01_k».proof.Proof.Gen.Reference2Ideal.Read
public import Idealize.ShloMosaic.Lib.Pointwise
public import Idealize.ShloMosaic.Lib.Pipeline.Value

@[expose] public section

noncomputable section

namespace Cert.Reference2Ideal.Inproj

open Cert.Reference2Ideal Cert.Reference2Ideal.Gen Cert.Reference2Ideal.Read Idealize.ShloMosaic Idealize.ShloMosaic.TcCoe

variable (x0 : (⟨S4x8192x1024, .f32⟩ : BufTy).Contents (Elt Ideal)) (x1 : (⟨S2x4x3072, .f32⟩ : BufTy).Contents (Elt Ideal))
  (x2 : (⟨S1x1024x10240, .f32⟩ : BufTy).Contents (Elt Ideal))

/-- The modulated token `s` of batch entry `b`. -/
def hRow (b : Fin 4) (s : Fin 8192) (k : Fin 1024) : EReal :=
  x0 (ix3 b s k) * (1 + x1 (ix3 0 b ⟨1024 + k.val, by omega⟩)) + x1 (ix3 0 b ⟨k.val, by omega⟩)

/-- The scale the queries are stored with. -/
def scaled (j : Nat) (v : EReal) : EReal := if j = 0 then v * Ideal.ofBits FTy.f32 1043900987#32 else v

/-- The token of a block that group `g`'s order puts in row `q`: dilations 1, 4 and 16. -/
def tok (g : Fin 3) (q : Nat) : Nat := ![q, q % 256 * 4 + q / 256, q % 64 * 16 + q / 64] g

theorem tok_lt (g : Fin 3) (q : Fin 1024) : tok g q.val < 1024 := by
  have := q.isLt
  match g with
  | 0 => show q.val < 1024; omega
  | 1 => show q.val % 256 * 4 + q.val / 256 < 1024; omega
  | 2 => show q.val % 64 * 16 + q.val / 64 < 1024; omega

/-- The modulated token times column `n` of the weights. -/
def proj (b : Fin 4) (s : Fin 8192) (n : Fin 10240) : EReal := ∑ k : Fin 1024, hRow x0 x1 b s k * x2 (ix3 0 k n)

theorem v14_apply (b : Fin 4) (s : Fin 8192) (n : Fin 10240) : val_main_v14 (F := Ideal) x0 x1 x2 (ix3 b s n) = proj x0 x1 x2 b s n := by
  pointwise [val_main_v14, val_main_v13, val_main_v12, val_main_v11, val_main_v10, val_main_v9, val_main_v8, val_main_v7, val_main_v6, val_main_cst, val_main_v5, val_main_v4, val_main_v3, val_main_v2, val_main_v1, val_main_v0]
  rfl

theorem v14_congr (b : Fin 4) (s s' n n' : Nat) (hs : s < 8192) (hs' : s' < 8192) (hn : n < 10240) (hn' : n' < 10240) (es : s = s') (en : n = n') :
    val_main_v14 (F := Ideal) x0 x1 x2 (ix3 b ⟨s, hs⟩ ⟨n, hn⟩) = val_main_v14 (F := Ideal) x0 x1 x2 (ix3 b ⟨s', hs'⟩ ⟨n', hn'⟩) := by
  subst es en
  rfl

theorem v27_apply (b : Fin 4) (i : Fin 8) (cc : Fin 4) (q : Fin 1024) (w : Fin 256) : val_main_v27 (F := Ideal) x0 x1 x2 (ix5 b i cc q w)
    = proj x0 x1 x2 b ⟨1024 * i.val + q.val, by omega⟩ ⟨256 * cc.val + w.val, by omega⟩ * Ideal.ofBits FTy.f32 1043900987#32 := by
  rw [← v14_apply]
  pointwise [val_main_v27, val_main_v26, val_main_v25, val_main_v20, val_main_v19, val_main_cst_0, val_main_v18, val_main_v17, val_main_v16, val_main_v15]
  exact congrArg (· * Ideal.ofBits FTy.f32 1043900987#32) (v14_congr x0 x1 x2 b _ _ _ _ _ _ _ _ (by omega) (by omega))

theorem v30_apply (b : Fin 4) (i : Fin 8) (cc : Fin 4) (q : Fin 1024) (w : Fin 256) : val_main_v30 (F := Ideal) x0 x1 x2 (ix5 b i cc q w)
    = proj x0 x1 x2 b ⟨1024 * i.val + q.val, by omega⟩ ⟨1024 + (256 * cc.val + w.val), by omega⟩ := by
  rw [← v14_apply]
  pointwise [val_main_v30, val_main_v29, val_main_v28, val_main_v22, val_main_v21, val_main_v16, val_main_v15]
  exact v14_congr x0 x1 x2 b _ _ _ _ _ _ _ _ (by omega) (by omega)

theorem v33_apply (b : Fin 4) (i : Fin 8) (cc : Fin 4) (q : Fin 1024) (w : Fin 256) : val_main_v33 (F := Ideal) x0 x1 x2 (ix5 b i cc q w)
    = proj x0 x1 x2 b ⟨1024 * i.val + q.val, by omega⟩ ⟨2048 + (256 * cc.val + w.val), by omega⟩ := by
  rw [← v14_apply]
  pointwise [val_main_v33, val_main_v32, val_main_v31, val_main_v24, val_main_v23, val_main_v16, val_main_v15]
  exact v14_congr x0 x1 x2 b _ _ _ _ _ _ _ _ (by omega) (by omega)

theorem v46_apply (b : Fin 4) (i : Fin 8) (cc : Fin 4) (q : Fin 1024) (w : Fin 256) : val_main_v46 (F := Ideal) x0 x1 x2 (ix5 b i cc q w)
    = proj x0 x1 x2 b ⟨1024 * i.val + (q.val % 256 * 4 + q.val / 256), by omega⟩ ⟨3072 + (256 * cc.val + w.val), by omega⟩ * Ideal.ofBits FTy.f32 1043900987#32 := by
  rw [← v14_apply]
  pointwise [val_main_v46, val_main_v45, val_main_v44, val_main_v39, val_main_v38, val_main_cst_1, val_main_v37, val_main_v36, val_main_v35, val_main_v34]
  exact congrArg (· * Ideal.ofBits FTy.f32 1043900987#32) (v14_congr x0 x1 x2 b _ _ _ _ _ _ _ _ (by omega) (by omega))

theorem v49_apply (b : Fin 4) (i : Fin 8) (cc : Fin 4) (q : Fin 1024) (w : Fin 256) : val_main_v49 (F := Ideal) x0 x1 x2 (ix5 b i cc q w)
    = proj x0 x1 x2 b ⟨1024 * i.val + (q.val % 256 * 4 + q.val / 256), by omega⟩ ⟨4096 + (256 * cc.val + w.val), by omega⟩ := by
  rw [← v14_apply]
  pointwise [val_main_v49, val_main_v48, val_main_v47, val_main_v41, val_main_v40, val_main_v35, val_main_v34]
  exact v14_congr x0 x1 x2 b _ _ _ _ _ _ _ _ (by omega) (by omega)

theorem v52_apply (b : Fin 4) (i : Fin 8) (cc : Fin 4) (q : Fin 1024) (w : Fin 256) : val_main_v52 (F := Ideal) x0 x1 x2 (ix5 b i cc q w)
    = proj x0 x1 x2 b ⟨1024 * i.val + (q.val % 256 * 4 + q.val / 256), by omega⟩ ⟨5120 + (256 * cc.val + w.val), by omega⟩ := by
  rw [← v14_apply]
  pointwise [val_main_v52, val_main_v51, val_main_v50, val_main_v43, val_main_v42, val_main_v35, val_main_v34]
  exact v14_congr x0 x1 x2 b _ _ _ _ _ _ _ _ (by omega) (by omega)

theorem v65_apply (b : Fin 4) (i : Fin 8) (cc : Fin 4) (q : Fin 1024) (w : Fin 256) : val_main_v65 (F := Ideal) x0 x1 x2 (ix5 b i cc q w)
    = proj x0 x1 x2 b ⟨1024 * i.val + (q.val % 64 * 16 + q.val / 64), by omega⟩ ⟨6144 + (256 * cc.val + w.val), by omega⟩ * Ideal.ofBits FTy.f32 1043900987#32 := by
  rw [← v14_apply]
  pointwise [val_main_v65, val_main_v64, val_main_v63, val_main_v58, val_main_v57, val_main_cst_2, val_main_v56, val_main_v55, val_main_v54, val_main_v53]
  exact congrArg (· * Ideal.ofBits FTy.f32 1043900987#32) (v14_congr x0 x1 x2 b _ _ _ _ _ _ _ _ (by omega) (by omega))

theorem v68_apply (b : Fin 4) (i : Fin 8) (cc : Fin 4) (q : Fin 1024) (w : Fin 256) : val_main_v68 (F := Ideal) x0 x1 x2 (ix5 b i cc q w)
    = proj x0 x1 x2 b ⟨1024 * i.val + (q.val % 64 * 16 + q.val / 64), by omega⟩ ⟨7168 + (256 * cc.val + w.val), by omega⟩ := by
  rw [← v14_apply]
  pointwise [val_main_v68, val_main_v67, val_main_v66, val_main_v60, val_main_v59, val_main_v54, val_main_v53]
  exact v14_congr x0 x1 x2 b _ _ _ _ _ _ _ _ (by omega) (by omega)

theorem v71_apply (b : Fin 4) (i : Fin 8) (cc : Fin 4) (q : Fin 1024) (w : Fin 256) : val_main_v71 (F := Ideal) x0 x1 x2 (ix5 b i cc q w)
    = proj x0 x1 x2 b ⟨1024 * i.val + (q.val % 64 * 16 + q.val / 64), by omega⟩ ⟨8192 + (256 * cc.val + w.val), by omega⟩ := by
  rw [← v14_apply]
  pointwise [val_main_v71, val_main_v70, val_main_v69, val_main_v62, val_main_v61, val_main_v54, val_main_v53]
  exact v14_congr x0 x1 x2 b _ _ _ _ _ _ _ _ (by omega) (by omega)

theorem v87_apply (b : Fin 4) (i : Fin 8) (cc : Fin 4) (q : Fin 1024) (w : Fin 256) : val_main_v87 (F := Ideal) x0 x1 x2 (ix5 b i cc q w)
    = proj x0 x1 x2 b ⟨1024 * i.val + q.val, by omega⟩ ⟨9216 + (256 * cc.val + w.val), by omega⟩
      * Ideal.logistic (proj x0 x1 x2 b ⟨1024 * i.val + q.val, by omega⟩ ⟨9216 + (256 * cc.val + w.val), by omega⟩) := by
  rw [← v14_apply]
  pointwise [val_main_v87, val_main_v86, val_main_v74, val_main_v73, val_main_call0_v5, val_main_call0_v4, val_main_call0_cst_0, val_main_call0_v3, val_main_call0_v2, val_main_call0_cst, val_main_call0_v1, val_main_call0_v0, val_main_v72]
  exact congrArg (fun v : EReal => v * Ideal.logistic v) (v14_congr x0 x1 x2 b _ _ _ _ _ _ _ _ (by omega) (by omega))

end Cert.Reference2Ideal.Inproj
-- ==== Proof.InprojStack.lean ====
/-
  The nine q, k and v stacked: each row of the input projection's first result.
-/
module

public import proofs.«01_k».proof.Proof.InprojRef
public import Idealize.ShloMosaic.Lib.Pointwise
public import Idealize.ShloMosaic.Lib.Pipeline.Value

@[expose] public section

noncomputable section

namespace Cert.Reference2Ideal.Inproj

open Cert.Reference2Ideal Cert.Reference2Ideal.Gen Cert.Reference2Ideal.Read Idealize.ShloMosaic Idealize.ShloMosaic.TcCoe

variable (x0 : (⟨S4x8192x1024, .f32⟩ : BufTy).Contents (Elt Ideal)) (x1 : (⟨S2x4x3072, .f32⟩ : BufTy).Contents (Elt Ideal))
  (x2 : (⟨S1x1024x10240, .f32⟩ : BufTy).Contents (Elt Ideal))

theorem v84_0 (b : Fin 4) (i : Fin 8) (cc : Fin 4) (q : Fin 1024) (w : Fin 256) :
    val_main_v84 (F := Ideal) x0 x1 x2 (ix6 0 b i cc q w) = val_main_v75 (F := Ideal) x0 x1 x2 (ix6 0 b i cc q w) := by
  unfold val_main_v84
  refine concatenate_apply_piece _ _ _ _ 0 ?hk S1x4x8x4x1024x256 (val_main_v75 (F := Ideal) x0 x1 x2) ?hx ?hr 0 ?hp (ix6 0 b i cc q w) ?hi ?ha
  case hk => simp
  case hx => rfl
  case hr => rfl
  case hp => rfl
  case hi =>
    intro a ha
    fin_cases a
    · exact absurd rfl ha
    all_goals rfl
  case ha => rfl

theorem v84_1 (b : Fin 4) (i : Fin 8) (cc : Fin 4) (q : Fin 1024) (w : Fin 256) :
    val_main_v84 (F := Ideal) x0 x1 x2 (ix6 1 b i cc q w) = val_main_v76 (F := Ideal) x0 x1 x2 (ix6 0 b i cc q w) := by
  unfold val_main_v84
  refine concatenate_apply_piece _ _ _ _ 1 ?hk S1x4x8x4x1024x256 (val_main_v76 (F := Ideal) x0 x1 x2) ?hx ?hr 1 ?hp (ix6 0 b i cc q w) ?hi ?ha
  case hk => simp
  case hx => rfl
  case hr => rfl
  case hp => rfl
  case hi =>
    intro a ha
    fin_cases a
    · exact absurd rfl ha
    all_goals rfl
  case ha => rfl

theorem v84_2 (b : Fin 4) (i : Fin 8) (cc : Fin 4) (q : Fin 1024) (w : Fin 256) :
    val_main_v84 (F := Ideal) x0 x1 x2 (ix6 2 b i cc q w) = val_main_v77 (F := Ideal) x0 x1 x2 (ix6 0 b i cc q w) := by
  unfold val_main_v84
  refine concatenate_apply_piece _ _ _ _ 2 ?hk S1x4x8x4x1024x256 (val_main_v77 (F := Ideal) x0 x1 x2) ?hx ?hr 2 ?hp (ix6 0 b i cc q w) ?hi ?ha
  case hk => simp
  case hx => rfl
  case hr => rfl
  case hp => rfl
  case hi =>
    intro a ha
    fin_cases a
    · exact absurd rfl ha
    all_goals rfl
  case ha => rfl

theorem v84_3 (b : Fin 4) (i : Fin 8) (cc : Fin 4) (q : Fin 1024) (w : Fin 256) :
    val_main_v84 (F := Ideal) x0 x1 x2 (ix6 3 b i cc q w) = val_main_v78 (F := Ideal) x0 x1 x2 (ix6 0 b i cc q w) := by
  unfold val_main_v84
  refine concatenate_apply_piece _ _ _ _ 3 ?hk S1x4x8x4x1024x256 (val_main_v78 (F := Ideal) x0 x1 x2) ?hx ?hr 3 ?hp (ix6 0 b i cc q w) ?hi ?ha
  case hk => simp
  case hx => rfl
  case hr => rfl
  case hp => rfl
  case hi =>
    intro a ha
    fin_cases a
    · exact absurd rfl ha
    all_goals rfl
  case ha => rfl

theorem v84_4 (b : Fin 4) (i : Fin 8) (cc : Fin 4) (q : Fin 1024) (w : Fin 256) :
    val_main_v84 (F := Ideal) x0 x1 x2 (ix6 4 b i cc q w) = val_main_v79 (F := Ideal) x0 x1 x2 (ix6 0 b i cc q w) := by
  unfold val_main_v84
  refine concatenate_apply_piece _ _ _ _ 4 ?hk S1x4x8x4x1024x256 (val_main_v79 (F := Ideal) x0 x1 x2) ?hx ?hr 4 ?hp (ix6 0 b i cc q w) ?hi ?ha
  case hk => simp
  case hx => rfl
  case hr => rfl
  case hp => rfl
  case hi =>
    intro a ha
    fin_cases a
    · exact absurd rfl ha
    all_goals rfl
  case ha => rfl

theorem v84_5 (b : Fin 4) (i : Fin 8) (cc : Fin 4) (q : Fin 1024) (w : Fin 256) :
    val_main_v84 (F := Ideal) x0 x1 x2 (ix6 5 b i cc q w) = val_main_v80 (F := Ideal) x0 x1 x2 (ix6 0 b i cc q w) := by
  unfold val_main_v84
  refine concatenate_apply_piece _ _ _ _ 5 ?hk S1x4x8x4x1024x256 (val_main_v80 (F := Ideal) x0 x1 x2) ?hx ?hr 5 ?hp (ix6 0 b i cc q w) ?hi ?ha
  case hk => simp
  case hx => rfl
  case hr => rfl
  case hp => rfl
  case hi =>
    intro a ha
    fin_cases a
    · exact absurd rfl ha
    all_goals rfl
  case ha => rfl

theorem v84_6 (b : Fin 4) (i : Fin 8) (cc : Fin 4) (q : Fin 1024) (w : Fin 256) :
    val_main_v84 (F := Ideal) x0 x1 x2 (ix6 6 b i cc q w) = val_main_v81 (F := Ideal) x0 x1 x2 (ix6 0 b i cc q w) := by
  unfold val_main_v84
  refine concatenate_apply_piece _ _ _ _ 6 ?hk S1x4x8x4x1024x256 (val_main_v81 (F := Ideal) x0 x1 x2) ?hx ?hr 6 ?hp (ix6 0 b i cc q w) ?hi ?ha
  case hk => simp
  case hx => rfl
  case hr => rfl
  case hp => rfl
  case hi =>
    intro a ha
    fin_cases a
    · exact absurd rfl ha
    all_goals rfl
  case ha => rfl

theorem v84_7 (b : Fin 4) (i : Fin 8) (cc : Fin 4) (q : Fin 1024) (w : Fin 256) :
    val_main_v84 (F := Ideal) x0 x1 x2 (ix6 7 b i cc q w) = val_main_v82 (F := Ideal) x0 x1 x2 (ix6 0 b i cc q w) := by
  unfold val_main_v84
  refine concatenate_apply_piece _ _ _ _ 7 ?hk S1x4x8x4x1024x256 (val_main_v82 (F := Ideal) x0 x1 x2) ?hx ?hr 7 ?hp (ix6 0 b i cc q w) ?hi ?ha
  case hk => simp
  case hx => rfl
  case hr => rfl
  case hp => rfl
  case hi =>
    intro a ha
    fin_cases a
    · exact absurd rfl ha
    all_goals rfl
  case ha => rfl

theorem v84_8 (b : Fin 4) (i : Fin 8) (cc : Fin 4) (q : Fin 1024) (w : Fin 256) :
    val_main_v84 (F := Ideal) x0 x1 x2 (ix6 8 b i cc q w) = val_main_v83 (F := Ideal) x0 x1 x2 (ix6 0 b i cc q w) := by
  unfold val_main_v84
  refine concatenate_apply_piece _ _ _ _ 8 ?hk S1x4x8x4x1024x256 (val_main_v83 (F := Ideal) x0 x1 x2) ?hx ?hr 8 ?hp (ix6 0 b i cc q w) ?hi ?ha
  case hk => simp
  case hx => rfl
  case hr => rfl
  case hp => rfl
  case hi =>
    intro a ha
    fin_cases a
    · exact absurd rfl ha
    all_goals rfl
  case ha => rfl

theorem v75_apply (b : Fin 4) (i : Fin 8) (cc : Fin 4) (q : Fin 1024) (w : Fin 256) :
    val_main_v75 (F := Ideal) x0 x1 x2 (ix6 0 b i cc q w) = val_main_v27 (F := Ideal) x0 x1 x2 (ix5 b i cc q w) := by
  rw [val_main_v75_apply]
  refine congrArg (val_main_v27 (F := Ideal) x0 x1 x2) ?_
  funext a
  fin_cases a <;> rfl

theorem v85_0 (b : Fin 4) (i : Fin 8) (cc : Fin 4) (q : Fin 1024) (w : Fin 256) :
    val_main_v85 (F := Ideal) x0 x1 x2 (ix6 0 b i cc q w) = val_main_v27 (F := Ideal) x0 x1 x2 (ix5 b i cc q w) :=
  (val_main_v85_apply (F := Ideal) x0 x1 x2 _).trans ((v84_0 x0 x1 x2 b i cc q w).trans (v75_apply x0 x1 x2 b i cc q w))

theorem v76_apply (b : Fin 4) (i : Fin 8) (cc : Fin 4) (q : Fin 1024) (w : Fin 256) :
    val_main_v76 (F := Ideal) x0 x1 x2 (ix6 0 b i cc q w) = val_main_v30 (F := Ideal) x0 x1 x2 (ix5 b i cc q w) := by
  rw [val_main_v76_apply]
  refine congrArg (val_main_v30 (F := Ideal) x0 x1 x2) ?_
  funext a
  fin_cases a <;> rfl

theorem v85_1 (b : Fin 4) (i : Fin 8) (cc : Fin 4) (q : Fin 1024) (w : Fin 256) :
    val_main_v85 (F := Ideal) x0 x1 x2 (ix6 1 b i cc q w) = val_main_v30 (F := Ideal) x0 x1 x2 (ix5 b i cc q w) :=
  (val_main_v85_apply (F := Ideal) x0 x1 x2 _).trans ((v84_1 x0 x1 x2 b i cc q w).trans (v76_apply x0 x1 x2 b i cc q w))

theorem v77_apply (b : Fin 4) (i : Fin 8) (cc : Fin 4) (q : Fin 1024) (w : Fin 256) :
    val_main_v77 (F := Ideal) x0 x1 x2 (ix6 0 b i cc q w) = val_main_v33 (F := Ideal) x0 x1 x2 (ix5 b i cc q w) := by
  rw [val_main_v77_apply]
  refine congrArg (val_main_v33 (F := Ideal) x0 x1 x2) ?_
  funext a
  fin_cases a <;> rfl

theorem v85_2 (b : Fin 4) (i : Fin 8) (cc : Fin 4) (q : Fin 1024) (w : Fin 256) :
    val_main_v85 (F := Ideal) x0 x1 x2 (ix6 2 b i cc q w) = val_main_v33 (F := Ideal) x0 x1 x2 (ix5 b i cc q w) :=
  (val_main_v85_apply (F := Ideal) x0 x1 x2 _).trans ((v84_2 x0 x1 x2 b i cc q w).trans (v77_apply x0 x1 x2 b i cc q w))

theorem v78_apply (b : Fin 4) (i : Fin 8) (cc : Fin 4) (q : Fin 1024) (w : Fin 256) :
    val_main_v78 (F := Ideal) x0 x1 x2 (ix6 0 b i cc q w) = val_main_v46 (F := Ideal) x0 x1 x2 (ix5 b i cc q w) := by
  rw [val_main_v78_apply]
  refine congrArg (val_main_v46 (F := Ideal) x0 x1 x2) ?_
  funext a
  fin_cases a <;> rfl

theorem v85_3 (b : Fin 4) (i : Fin 8) (cc : Fin 4) (q : Fin 1024) (w : Fin 256) :
    val_main_v85 (F := Ideal) x0 x1 x2 (ix6 3 b i cc q w) = val_main_v46 (F := Ideal) x0 x1 x2 (ix5 b i cc q w) :=
  (val_main_v85_apply (F := Ideal) x0 x1 x2 _).trans ((v84_3 x0 x1 x2 b i cc q w).trans (v78_apply x0 x1 x2 b i cc q w))

theorem v79_apply (b : Fin 4) (i : Fin 8) (cc : Fin 4) (q : Fin 1024) (w : Fin 256) :
    val_main_v79 (F := Ideal) x0 x1 x2 (ix6 0 b i cc q w) = val_main_v49 (F := Ideal) x0 x1 x2 (ix5 b i cc q w) := by
  rw [val_main_v79_apply]
  refine congrArg (val_main_v49 (F := Ideal) x0 x1 x2) ?_
  funext a
  fin_cases a <;> rfl

theorem v85_4 (b : Fin 4) (i : Fin 8) (cc : Fin 4) (q : Fin 1024) (w : Fin 256) :
    val_main_v85 (F := Ideal) x0 x1 x2 (ix6 4 b i cc q w) = val_main_v49 (F := Ideal) x0 x1 x2 (ix5 b i cc q w) :=
  (val_main_v85_apply (F := Ideal) x0 x1 x2 _).trans ((v84_4 x0 x1 x2 b i cc q w).trans (v79_apply x0 x1 x2 b i cc q w))

theorem v80_apply (b : Fin 4) (i : Fin 8) (cc : Fin 4) (q : Fin 1024) (w : Fin 256) :
    val_main_v80 (F := Ideal) x0 x1 x2 (ix6 0 b i cc q w) = val_main_v52 (F := Ideal) x0 x1 x2 (ix5 b i cc q w) := by
  rw [val_main_v80_apply]
  refine congrArg (val_main_v52 (F := Ideal) x0 x1 x2) ?_
  funext a
  fin_cases a <;> rfl

theorem v85_5 (b : Fin 4) (i : Fin 8) (cc : Fin 4) (q : Fin 1024) (w : Fin 256) :
    val_main_v85 (F := Ideal) x0 x1 x2 (ix6 5 b i cc q w) = val_main_v52 (F := Ideal) x0 x1 x2 (ix5 b i cc q w) :=
  (val_main_v85_apply (F := Ideal) x0 x1 x2 _).trans ((v84_5 x0 x1 x2 b i cc q w).trans (v80_apply x0 x1 x2 b i cc q w))

theorem v81_apply (b : Fin 4) (i : Fin 8) (cc : Fin 4) (q : Fin 1024) (w : Fin 256) :
    val_main_v81 (F := Ideal) x0 x1 x2 (ix6 0 b i cc q w) = val_main_v65 (F := Ideal) x0 x1 x2 (ix5 b i cc q w) := by
  rw [val_main_v81_apply]
  refine congrArg (val_main_v65 (F := Ideal) x0 x1 x2) ?_
  funext a
  fin_cases a <;> rfl

theorem v85_6 (b : Fin 4) (i : Fin 8) (cc : Fin 4) (q : Fin 1024) (w : Fin 256) :
    val_main_v85 (F := Ideal) x0 x1 x2 (ix6 6 b i cc q w) = val_main_v65 (F := Ideal) x0 x1 x2 (ix5 b i cc q w) :=
  (val_main_v85_apply (F := Ideal) x0 x1 x2 _).trans ((v84_6 x0 x1 x2 b i cc q w).trans (v81_apply x0 x1 x2 b i cc q w))

theorem v82_apply (b : Fin 4) (i : Fin 8) (cc : Fin 4) (q : Fin 1024) (w : Fin 256) :
    val_main_v82 (F := Ideal) x0 x1 x2 (ix6 0 b i cc q w) = val_main_v68 (F := Ideal) x0 x1 x2 (ix5 b i cc q w) := by
  rw [val_main_v82_apply]
  refine congrArg (val_main_v68 (F := Ideal) x0 x1 x2) ?_
  funext a
  fin_cases a <;> rfl

theorem v85_7 (b : Fin 4) (i : Fin 8) (cc : Fin 4) (q : Fin 1024) (w : Fin 256) :
    val_main_v85 (F := Ideal) x0 x1 x2 (ix6 7 b i cc q w) = val_main_v68 (F := Ideal) x0 x1 x2 (ix5 b i cc q w) :=
  (val_main_v85_apply (F := Ideal) x0 x1 x2 _).trans ((v84_7 x0 x1 x2 b i cc q w).trans (v82_apply x0 x1 x2 b i cc q w))

theorem v83_apply (b : Fin 4) (i : Fin 8) (cc : Fin 4) (q : Fin 1024) (w : Fin 256) :
    val_main_v83 (F := Ideal) x0 x1 x2 (ix6 0 b i cc q w) = val_main_v71 (F := Ideal) x0 x1 x2 (ix5 b i cc q w) := by
  rw [val_main_v83_apply]
  refine congrArg (val_main_v71 (F := Ideal) x0 x1 x2) ?_
  funext a
  fin_cases a <;> rfl

theorem v85_8 (b : Fin 4) (i : Fin 8) (cc : Fin 4) (q : Fin 1024) (w : Fin 256) :
    val_main_v85 (F := Ideal) x0 x1 x2 (ix6 8 b i cc q w) = val_main_v71 (F := Ideal) x0 x1 x2 (ix5 b i cc q w) :=
  (val_main_v85_apply (F := Ideal) x0 x1 x2 _).trans ((v84_8 x0 x1 x2 b i cc q w).trans (v83_apply x0 x1 x2 b i cc q w))

theorem v85_of (n : Fin 9) (k : Fin 9) (e : n = k) (b : Fin 4) (i : Fin 8) (cc : Fin 4) (q : Fin 1024) (w : Fin 256) :
    val_main_v85 (F := Ideal) x0 x1 x2 (ix6 n b i cc q w) = val_main_v85 (F := Ideal) x0 x1 x2 (ix6 k b i cc q w) := by
  rw [e]

theorem proj_congr (b : Fin 4) (s s' n n' : Nat) (hs : s < 8192) (hs' : s' < 8192) (hn : n < 10240) (hn' : n' < 10240) (es : s = s') (en : n = n') :
    proj x0 x1 x2 b ⟨s, hs⟩ ⟨n, hn⟩ = proj x0 x1 x2 b ⟨s', hs'⟩ ⟨n', hn'⟩ := by
  subst es en
  rfl

/-- Row `3 g + j` of the stacked queries, keys and values. -/
theorem v85_apply (g j : Fin 3) (b : Fin 4) (i : Fin 8) (cc : Fin 4) (q : Fin 1024) (w : Fin 256) :
    val_main_v85 (F := Ideal) x0 x1 x2 (ix6 ⟨3 * g.val + j.val, by omega⟩ b i cc q w)
      = scaled j.val (proj x0 x1 x2 b ⟨1024 * i.val + tok g q.val, by have := tok_lt g q; omega⟩
          ⟨1024 * (3 * g.val + j.val) + (256 * cc.val + w.val), by omega⟩) := by
  match g, j with
  | 0, 0 =>
    refine (v85_of x0 x1 x2 ⟨3 * (0 : Fin 3).val + (0 : Fin 3).val, by decide⟩ 0 rfl b i cc q w).trans ?_
    rw [v85_0, v27_apply]
    exact congrArg (· * Ideal.ofBits FTy.f32 1043900987#32) (proj_congr x0 x1 x2 b _ _ _ _ _ _ _ _ rfl (by simp))
  | 0, 1 =>
    refine (v85_of x0 x1 x2 ⟨3 * (0 : Fin 3).val + (1 : Fin 3).val, by decide⟩ 1 rfl b i cc q w).trans ?_
    rw [v85_1, v30_apply]
    exact (proj_congr x0 x1 x2 b _ _ _ _ _ _ _ _ rfl (by simp))
  | 0, 2 =>
    refine (v85_of x0 x1 x2 ⟨3 * (0 : Fin 3).val + (2 : Fin 3).val, by decide⟩ 2 rfl b i cc q w).trans ?_
    rw [v85_2, v33_apply]
    exact (proj_congr x0 x1 x2 b _ _ _ _ _ _ _ _ rfl (by simp))
  | 1, 0 =>
    refine (v85_of x0 x1 x2 ⟨3 * (1 : Fin 3).val + (0 : Fin 3).val, by decide⟩ 3 rfl b i cc q w).trans ?_
    rw [v85_3, v46_apply]
    exact congrArg (· * Ideal.ofBits FTy.f32 1043900987#32) (proj_congr x0 x1 x2 b _ _ _ _ _ _ _ _ rfl (by simp))
  | 1, 1 =>
    refine (v85_of x0 x1 x2 ⟨3 * (1 : Fin 3).val + (1 : Fin 3).val, by decide⟩ 4 rfl b i cc q w).trans ?_
    rw [v85_4, v49_apply]
    exact (proj_congr x0 x1 x2 b _ _ _ _ _ _ _ _ rfl (by simp))
  | 1, 2 =>
    refine (v85_of x0 x1 x2 ⟨3 * (1 : Fin 3).val + (2 : Fin 3).val, by decide⟩ 5 rfl b i cc q w).trans ?_
    rw [v85_5, v52_apply]
    exact (proj_congr x0 x1 x2 b _ _ _ _ _ _ _ _ rfl (by simp))
  | 2, 0 =>
    refine (v85_of x0 x1 x2 ⟨3 * (2 : Fin 3).val + (0 : Fin 3).val, by decide⟩ 6 rfl b i cc q w).trans ?_
    rw [v85_6, v65_apply]
    exact congrArg (· * Ideal.ofBits FTy.f32 1043900987#32) (proj_congr x0 x1 x2 b _ _ _ _ _ _ _ _ rfl (by simp))
  | 2, 1 =>
    refine (v85_of x0 x1 x2 ⟨3 * (2 : Fin 3).val + (1 : Fin 3).val, by decide⟩ 7 rfl b i cc q w).trans ?_
    rw [v85_7, v68_apply]
    exact (proj_congr x0 x1 x2 b _ _ _ _ _ _ _ _ rfl (by simp))
  | 2, 2 =>
    refine (v85_of x0 x1 x2 ⟨3 * (2 : Fin 3).val + (2 : Fin 3).val, by decide⟩ 8 rfl b i cc q w).trans ?_
    rw [v85_8, v71_apply]
    exact (proj_congr x0 x1 x2 b _ _ _ _ _ _ _ _ rfl (by simp))

end Cert.Reference2Ideal.Inproj
-- ==== Proof.InprojArray.lean ====
/-
  The input projection's two result arrays, at every index: what each grid point stores, the windows' blocks read from the
  arguments, and the blocks put together.
-/
module

public import proofs.«01_k».proof.Proof.InprojTilesA
public import proofs.«01_k».proof.Proof.InprojTilesB
public import proofs.«01_k».proof.Proof.InprojTilesC
public import proofs.«01_k».proof.Proof.InprojStack

@[expose] public section

set_option maxRecDepth 16384

noncomputable section

namespace Cert.Kernel2Ideal.Inproj

open Cert.Kernel2Ideal Cert.Kernel2Ideal.Gen Idealize.ShloMosaic Idealize.ShloMosaic.TcCoe Idealize.SL.Sem Idealize.ShloMosaic.Tactic
open Idealize.ShloMosaic.Pipeline (Dat)

variable (m : (ℓ : Loc nD τ sig) → Buf (Elt Ideal) ℓ) (c : Dev nD)

/-! ## What a grid point leaves, from its blocks -/

theorem zA_eq (t : Fin cfg0.N) (h : t.val % 3 = 0) :
    zA m c t h = zBlock (rowsA (iblk m c 0 t) (iblk m c 1 t) (iblk m c 2 t)) (iblk m c 3 t) 0 (by decide) :=
  TilesA.canonZ ..

theorem gateA_eq (t : Fin cfg0.N) (h : t.val % 3 = 0) :
    gateA m c t h = gateBlock (rowsA (iblk m c 0 t) (iblk m c 1 t) (iblk m c 2 t)) (iblk m c 3 t) :=
  TilesA.canonG ..

theorem stripA_eq (t : Fin cfg0.N) (h : t.val % 3 = 0) :
    stripA m c t h = strips (iblk m c 0 t) (iblk m c 1 t) (iblk m c 2 t) :=
  TilesA.canonX ..

theorem zB_eq (t : Fin cfg0.N) (h : t.val % 3 = 1) :
    zB m c t h = zBlock (rowsG 4 256 rfl (stripOf m c t)) (iblk m c 3 t) 1 (by decide) :=
  TilesB.canonZ ..

theorem zC_eq (t : Fin cfg0.N) (h : t.val % 3 = 2) :
    zC m c t h = zBlock (rowsG 16 64 rfl (stripOf m c t)) (iblk m c 3 t) 2 (by decide) :=
  TilesC.canonZ ..

/-! ## The windows' blocks, from the arguments -/

/-- The batch entry and the block of rows of a grid point. -/
def bi (t : Fin cfg0.N) : Fin 4 := ⟨t.val / 24, by have := t.isLt; have : cfg0.N = 96 := rfl; omega⟩
def ri (t : Fin cfg0.N) : Fin 8 := ⟨t.val / 3 % 8, by omega⟩

theorem V_v7 (b : Fin 4) (k : Fin 1024) : (V m c main_v7 : Vec Ideal _ _) (ix3 b 0 k) = (1 + m ((c : Thread nD τ).loc main_arg1) (ix3 0 b ⟨1024 + k.val, by omega⟩) : EReal) := by
  dsimp only [V, hostOps0]
  after_results
  pointwise

theorem V_v2 (b : Fin 4) (k : Fin 1024) : (V m c main_v2 : Vec Ideal _ _) (ix3 b 0 k) = (m ((c : Thread nD τ).loc main_arg1) (ix3 0 b ⟨k.val, by omega⟩) : EReal) := by
  dsimp only [V, hostOps0]
  after_results
  pointwise

theorem V_v12 (k : Fin 1024) (n : Fin 10240) : (V m c main_v12 : Vec Ideal _ _) (ix2 k n) = (m ((c : Thread nD τ).loc main_arg2) (ix3 0 k n) : EReal) := by
  dsimp only [V, hostOps0]
  after_results
  pointwise

theorem idx0 : ∀ t : Fin cfg0.N, win0_0.index t = ![t.val / 24, t.val / 3 % 8, 0] := (by decide +kernel : ∀ t : Fin grid0.N, win0_0.index t = ![t.val / 24, t.val / 3 % 8, 0])
theorem idx1 : ∀ t : Fin cfg0.N, win0_1.index t = ![t.val / 24, 0, 0] := (by decide +kernel : ∀ t : Fin grid0.N, win0_1.index t = ![t.val / 24, 0, 0])
theorem idx2 : ∀ t : Fin cfg0.N, win0_2.index t = ![t.val / 24, 0, 0] := (by decide +kernel : ∀ t : Fin grid0.N, win0_2.index t = ![t.val / 24, 0, 0])
theorem idx3 : ∀ t : Fin cfg0.N, win0_3.index t = ![0, 0] := (by decide +kernel : ∀ t : Fin grid0.N, win0_3.index t = ![0, 0])
theorem idx4 : ∀ t : Fin cfg0.N, win0_4.index t = ![t.val % 3, t.val / 24, t.val / 3 % 8, 0, 0, 0] :=
  (by decide +kernel : ∀ t : Fin grid0.N, win0_4.index t = ![t.val % 3, t.val / 24, t.val / 3 % 8, 0, 0, 0])
theorem idx5 : ∀ t : Fin cfg0.N, win0_5.index t = ![t.val / 24, t.val / 3 % 8, 0, 0, 0] :=
  (by decide +kernel : ∀ t : Fin grid0.N, win0_5.index t = ![t.val / 24, t.val / 3 % 8, 0, 0, 0])
theorem flush4 : ∀ t : Fin cfg0.N, (cfg0.win 4).flush t = true := (by decide +kernel : ∀ t : Fin grid0.N, win0_4.flush t = true)
theorem flush5_iff : ∀ t : Fin cfg0.N, (cfg0.win 5).flush t = true → t.val % 3 = 2 := (by decide +kernel : ∀ t : Fin grid0.N, win0_5.flush t = true → t.val % 3 = 2)
theorem idx_inj4 : ∀ t t' : Fin cfg0.N, win0_4.index t = win0_4.index t' → t = t' := by
  intro t t' h
  rw [idx4, idx4] at h
  have h0 := congrFun h 0
  have h1 := congrFun h 1
  have h2 := congrFun h 2
  simp at h0 h1 h2
  exact Fin.ext (by omega)
theorem idx_inj5 : ∀ t t' : Fin cfg0.N, t.val % 3 = 2 → t'.val % 3 = 2 → win0_5.index t = win0_5.index t' → t = t' := by
  intro t t' e e' h
  rw [idx5, idx5] at h
  have h0 := congrFun h 0
  have h1 := congrFun h 1
  simp at h0 h1
  exact Fin.ext (by omega)

theorem iblk0 (t : Fin cfg0.N) (q k : Fin 1024) : (iblk m c 0 t : Vec Ideal S1x1024x1024 .f32) (ix3 0 q k)
    = (V m c main_arg0 : Vec Ideal S4x8192x1024 .f32) (ix3 (bi t) ⟨1024 * (ri t).val + q.val, by omega⟩ k) := by
  have h := idx0 t
  show (V m c main_arg0 : Vec Ideal _ _) (((cfg0.win 0).blk t).view.emb (ix3 0 q k)) = _
  refine congrArg (V m c main_arg0 : Vec Ideal _ _) ?_
  have e : ∀ a, ((((cfg0.win 0).blk t).view.emb (ix3 0 q k)) a : Nat) = win0_0.index t a * (![1, 1024, 1024] : Fin 3 → Nat) a + 1 * ((ix3 0 q k : (⟨3, ![1, 1024, 1024]⟩ : Shape).Idx) a : Nat) := fun a => rfl
  funext a
  apply Fin.ext
  rw [e, h]
  fin_cases a <;> simp [bi, ri] <;> omega

theorem iblk1 (t : Fin cfg0.N) (k : Fin 1024) : (iblk m c 1 t : Vec Ideal S1x1x1024 .f32) (ix3 0 0 k)
    = (V m c main_v7 : Vec Ideal S4x1x1024 .f32) (ix3 (bi t) 0 k) := by
  have h := idx1 t
  show (V m c main_v7 : Vec Ideal _ _) (((cfg0.win 1).blk t).view.emb (ix3 0 0 k)) = _
  refine congrArg (V m c main_v7 : Vec Ideal _ _) ?_
  have e : ∀ a, ((((cfg0.win 1).blk t).view.emb (ix3 0 0 k)) a : Nat) = win0_1.index t a * (![1, 1, 1024] : Fin 3 → Nat) a + 1 * ((ix3 0 0 k : (⟨3, ![1, 1, 1024]⟩ : Shape).Idx) a : Nat) := fun a => rfl
  funext a
  apply Fin.ext
  rw [e, h]
  fin_cases a <;> simp [bi]

theorem iblk2 (t : Fin cfg0.N) (k : Fin 1024) : (iblk m c 2 t : Vec Ideal S1x1x1024 .f32) (ix3 0 0 k)
    = (V m c main_v2 : Vec Ideal S4x1x1024 .f32) (ix3 (bi t) 0 k) := by
  have h := idx2 t
  show (V m c main_v2 : Vec Ideal _ _) (((cfg0.win 2).blk t).view.emb (ix3 0 0 k)) = _
  refine congrArg (V m c main_v2 : Vec Ideal _ _) ?_
  have e : ∀ a, ((((cfg0.win 2).blk t).view.emb (ix3 0 0 k)) a : Nat) = win0_2.index t a * (![1, 1, 1024] : Fin 3 → Nat) a + 1 * ((ix3 0 0 k : (⟨3, ![1, 1, 1024]⟩ : Shape).Idx) a : Nat) := fun a => rfl
  funext a
  apply Fin.ext
  rw [e, h]
  fin_cases a <;> simp [bi]

theorem iblk3 (t : Fin cfg0.N) (k : Fin 1024) (n : Fin 10240) : (iblk m c 3 t : Vec Ideal S1024x10240 .bf16) (ix2 k n)
    = (V m c main_v12 : Vec Ideal S1024x10240 .bf16) (ix2 k n) := by
  have h := idx3 t
  show (V m c main_v12 : Vec Ideal _ _) (((cfg0.win 3).blk t).view.emb (ix2 k n)) = _
  refine congrArg (V m c main_v12 : Vec Ideal _ _) ?_
  have e : ∀ a, ((((cfg0.win 3).blk t).view.emb (ix2 k n)) a : Nat) = win0_3.index t a * (![1024, 10240] : Fin 2 → Nat) a + 1 * ((ix2 k n : (⟨2, ![1024, 10240]⟩ : Shape).Idx) a : Nat) := fun a => rfl
  funext a
  apply Fin.ext
  rw [e, h]
  fin_cases a <;> simp

/-! ## The rows and the columns that a grid point multiplies -/

/-- The modulated token, from the kernel's arguments. -/
def hArg (b : Fin 4) (s : Fin 8192) (k : Fin 1024) : EReal :=
  Cert.Reference2Ideal.Inproj.hRow (m ((c : Thread nD τ).loc main_arg0)) (m ((c : Thread nD τ).loc main_arg1)) b s k

/-- The modulated token times a column of the weights, from the kernel's arguments. -/
def projArg (b : Fin 4) (s : Fin 8192) (n : Fin 10240) : EReal :=
  Cert.Reference2Ideal.Inproj.proj (m ((c : Thread nD τ).loc main_arg0)) (m ((c : Thread nD τ).loc main_arg1)) (m ((c : Thread nD τ).loc main_arg2)) b s n

/-- A row's entry, from blocks of the tokens, the scale and the shift. -/
def rowVal (x0 : Vec Ideal S1x1024x1024 .f32) (x1 x2 : Vec Ideal S1x1x1024 .f32) (q k : Fin 1024) : EReal :=
  x0 (ix3 0 q k) * x1 (ix3 0 0 k) + x2 (ix3 0 0 k)

/-- Token `s` of the block `i` of 1024 tokens. -/
def token (i : Fin 8) (s : Nat) (hs : s < 1024) : Fin 8192 := ⟨1024 * i.val + s, by omega⟩

theorem row_at (t : Fin cfg0.N) (q k : Fin 1024) :
    rowVal (iblk m c 0 t) (iblk m c 1 t) (iblk m c 2 t) q k = hArg m c (bi t) (token (ri t) q.val q.isLt) k := by
  have e0 := (iblk0 m c t q k).trans (congrFun (V_main_arg0 m c) _)
  have e1 := (iblk1 m c t k).trans (V_v7 m c (bi t) k)
  have e2 := (iblk2 m c t k).trans (V_v2 m c (bi t) k)
  exact congrArg₂ (· + ·) (congrArg₂ (· * ·) e0 e1) e2

theorem rowsA_at (t : Fin cfg0.N) (q k : Fin 1024) :
    rowsA (iblk m c 0 t) (iblk m c 1 t) (iblk m c 2 t) (ix2 q k) = hArg m c (bi t) (token (ri t) q.val q.isLt) k := row_at m c t q k

theorem bi_first (t : Fin cfg0.N) : bi (first t) = bi t := Fin.ext (by show 3 * (t.val / 3) / 24 = t.val / 24; omega)
theorem ri_first (t : Fin cfg0.N) : ri (first t) = ri t := Fin.ext (by show 3 * (t.val / 3) / 3 % 8 = t.val / 3 % 8; omega)

theorem strip_at (t : Fin cfg0.N) (a : Fin 8) (q : Fin 1024) (l : Fin 128) :
    stripOf m c t (ix3 a q l) = hArg m c (bi t) (token (ri t) q.val q.isLt) ⟨128 * a.val + l.val, by omega⟩ := by
  unfold stripOf
  rw [stripA_eq, strips_at (n := 128 * a.val + l.val) (hn := by omega) (e := rfl)]
  refine (row_at m c (first t) q ⟨128 * a.val + l.val, by omega⟩).trans ?_
  rw [bi_first, ri_first]

theorem sum_at (t : Fin cfg0.N) (f : Fin 1024 → EReal) (s : Fin 8192) (n : Fin 10240) (h : ∀ k, f k = hArg m c (bi t) s k) :
    (∑ k : Fin 1024, f k * (iblk m c 3 t : Vec Ideal S1024x10240 .bf16) (ix2 k n)) = projArg m c (bi t) s n := by
  have e3 : ∀ k, (iblk m c 3 t : Vec Ideal S1024x10240 .bf16) (ix2 k n) = m ((c : Thread nD τ).loc main_arg2) (ix3 0 k n) := fun k => (iblk3 m c t k n).trans (V_v12 m c k n)
  simp only [h, e3]
  rfl

theorem rowsG_of (d n : Nat) (hdn : d * n = 1024) (t : Fin cfg0.N) (q k : Fin 1024) (s : Nat) (hs : s < 1024) (e : q.val % n * d + q.val / n = s) :
    rowsG d n hdn (stripOf m c t) (ix2 q k) = hArg m c (bi t) (token (ri t) s hs) k := by
  subst e
  unfold rowsG
  refine (strip_at m c t _ _ _).trans ?_
  refine congrArg (hArg m c (bi t) _) (Fin.ext ?_)
  show 128 * (k.val / 128) + k.val % 128 = k.val
  omega

/-- The block of q, k and v that a grid point leaves. -/
theorem z_at (t : Fin cfg0.N) (g : Fin 3) (hg : t.val % 3 = g.val) (j : Fin 3) (cc : Fin 4) (q : Fin 1024) (w : Fin 256) :
    zOf m c t (ix6 j 0 0 cc q w)
      = Cert.Reference2Ideal.Inproj.scaled j.val (projArg m c (bi t) (token (ri t) (Cert.Reference2Ideal.Inproj.tok g q.val) (Cert.Reference2Ideal.Inproj.tok_lt g q))
          ⟨1024 * (3 * g.val + j.val) + (256 * cc.val + w.val), by omega⟩) := by
  match g, hg with
  | 0, hg =>
    rw [zOf_A m c t hg, zA_eq, zBlock_at (n := 1024 * (3 * 0 + j.val) + (256 * cc.val + w.val)) (hn := by omega) (e := rfl)]
    rw [sum_at m c t _ _ _ (fun k => rowsA_at m c t q k)]
    rfl
  | 1, hg =>
    rw [zOf_B m c t hg, zB_eq, zBlock_at (n := 1024 * (3 * 1 + j.val) + (256 * cc.val + w.val)) (hn := by omega) (e := rfl)]
    rw [sum_at m c t _ _ _ (fun k => rowsG_of m c 4 256 rfl t q k (Cert.Reference2Ideal.Inproj.tok 1 q.val) (Cert.Reference2Ideal.Inproj.tok_lt 1 q) rfl)]
    rfl
  | 2, hg =>
    rw [zOf_C m c t hg, zC_eq, zBlock_at (n := 1024 * (3 * 2 + j.val) + (256 * cc.val + w.val)) (hn := by omega) (e := rfl)]
    rw [sum_at m c t _ _ _ (fun k => rowsG_of m c 16 64 rfl t q k (Cert.Reference2Ideal.Inproj.tok 2 q.val) (Cert.Reference2Ideal.Inproj.tok_lt 2 q) rfl)]
    rfl

/-- The gate's block at a grid point. -/
theorem gate_at (t : Fin cfg0.N) (cc : Fin 4) (q : Fin 1024) (w : Fin 256) :
    gateOf m c t (ix5 0 0 cc q w)
      = projArg m c (bi t) (token (ri t) q.val q.isLt) ⟨9216 + (256 * cc.val + w.val), by omega⟩
        * Ideal.logistic (projArg m c (bi t) (token (ri t) q.val q.isLt) ⟨9216 + (256 * cc.val + w.val), by omega⟩) := by
  unfold gateOf
  rw [gateA_eq, gateBlock_at (n := 9216 + (256 * cc.val + w.val)) (hn := by omega) (e := rfl),
    sum_at m c (first t) _ _ _ (fun k => rowsA_at m c (first t) q k), bi_first, ri_first]

/-! ## The arrays after the run -/

theorem blocks4 (t : Fin cfg0.N) :
    ((cfg0.win 4).blk t).view.read (Elt Ideal) ((dats m 0 c).arrAt 4 cfg0.N) = (cfg0.win 4).cut (grid0.coords t) (zOf m c t) := by
  refine ((dats m 0 c).read_blk_arrAt_eq_flushed 4 (fun t t' _ _ hne => (cfg0.win 4).disjoint_blk fun h => hne (idx_inj4 t t' h)) cfg0.N t t.isLt (flush4 t)).trans ?_
  show (cfg0.win 4).cut (grid0.coords t) ((dats m 0 c).after 4 t) = _
  rw [after4]

theorem blocks5 (t : Fin cfg0.N) (h : t.val % 3 = 2) :
    ((cfg0.win 5).blk t).view.read (Elt Ideal) ((dats m 0 c).arrAt 5 cfg0.N) = (cfg0.win 5).cut (grid0.coords t) (gateOf m c t) := by
  refine ((dats m 0 c).read_blk_arrAt_eq_flushed 5 (fun t t' f f' hne => (cfg0.win 5).disjoint_blk fun h => hne (idx_inj5 t t' (flush5_iff t f) (flush5_iff t' f') h)) cfg0.N t t.isLt (flush5_last t h)).trans ?_
  show (cfg0.win 5).cut (grid0.coords t) ((dats m 0 c).after 5 t) = _
  rw [after5]

theorem arr4_at (t : Fin cfg0.N) (j : Fin 3) (cc : Fin 4) (q : Fin 1024) (w : Fin 256) :
    ((dats m 0 c).arrAt 4 cfg0.N : Vec Ideal S9x4x8x4x1024x256 .bf16) (ix6 ⟨3 * (t.val % 3) + j.val, by omega⟩ (bi t) (ri t) cc q w) = zOf m c t (ix6 j 0 0 cc q w) := by
  have h := idx4 t
  refine Eq.trans ?_ (congrFun (blocks4 m c t) (ix6 j 0 0 cc q w))
  show _ = ((dats m 0 c).arrAt 4 cfg0.N : Vec Ideal S9x4x8x4x1024x256 .bf16) (((cfg0.win 4).blk t).view.emb (ix6 j 0 0 cc q w))
  refine congrArg ((dats m 0 c).arrAt 4 cfg0.N : Vec Ideal S9x4x8x4x1024x256 .bf16) ?_
  have e : ∀ a, ((((cfg0.win 4).blk t).view.emb (ix6 j 0 0 cc q w)) a : Nat) = win0_4.index t a * (![3, 1, 1, 4, 1024, 256] : Fin 6 → Nat) a + 1 * ((ix6 j 0 0 cc q w : (⟨6, ![3, 1, 1, 4, 1024, 256]⟩ : Shape).Idx) a : Nat) := fun a => rfl
  funext a
  apply Fin.ext
  rw [e, h]
  fin_cases a <;> simp [bi, ri] <;> omega

theorem arr5_at (t : Fin cfg0.N) (ht : t.val % 3 = 2) (cc : Fin 4) (q : Fin 1024) (w : Fin 256) :
    ((dats m 0 c).arrAt 5 cfg0.N : Vec Ideal S4x8x4x1024x256 .bf16) (ix5 (bi t) (ri t) cc q w) = gateOf m c t (ix5 0 0 cc q w) := by
  have h := idx5 t
  refine Eq.trans ?_ (congrFun (blocks5 m c t ht) (ix5 0 0 cc q w))
  show _ = ((dats m 0 c).arrAt 5 cfg0.N : Vec Ideal S4x8x4x1024x256 .bf16) (((cfg0.win 5).blk t).view.emb (ix5 0 0 cc q w))
  refine congrArg ((dats m 0 c).arrAt 5 cfg0.N : Vec Ideal S4x8x4x1024x256 .bf16) ?_
  have e : ∀ a, ((((cfg0.win 5).blk t).view.emb (ix5 0 0 cc q w)) a : Nat) = win0_5.index t a * (![1, 1, 4, 1024, 256] : Fin 5 → Nat) a + 1 * ((ix5 0 0 cc q w : (⟨5, ![1, 1, 4, 1024, 256]⟩ : Shape).Idx) a : Nat) := fun a => rfl
  funext a
  apply Fin.ext
  rw [e, h]
  fin_cases a <;> simp [bi, ri]

/-- The stacked queries, keys and values are what the reference computes of the arguments. -/
theorem arr4_eq : ((dats m 0 c).arrAt 4 cfg0.N : Vec Ideal S9x4x8x4x1024x256 .bf16)
      = Cert.Reference2Ideal.Read.val_main_v85 (F := Ideal) (m ((c : Thread nD τ).loc main_arg0)) (m ((c : Thread nD τ).loc main_arg1)) (m ((c : Thread nD τ).loc main_arg2)) := by
  funext z
  obtain ⟨n, b, i, cc, q, w, rfl⟩ : ∃ (n : Fin 9) (b : Fin 4) (i : Fin 8) (cc : Fin 4) (q : Fin 1024) (w : Fin 256), z = ix6 n b i cc q w :=
    ⟨z 0, z 1, z 2, z 3, z 4, z 5, eq_ix6 z⟩
  have hN : cfg0.N = 96 := rfl
  obtain ⟨g, hg⟩ : ∃ g : Fin 3, g.val = n.val / 3 := ⟨⟨n.val / 3, by omega⟩, rfl⟩
  obtain ⟨j, hj⟩ : ∃ j : Fin 3, j.val = n.val % 3 := ⟨⟨n.val % 3, by omega⟩, rfl⟩
  obtain ⟨t, ht⟩ : ∃ t : Fin cfg0.N, t.val = 24 * b.val + 3 * i.val + g.val := ⟨⟨24 * b.val + 3 * i.val + g.val, by omega⟩, rfl⟩
  have hgt : t.val % 3 = g.val := by omega
  have hb : bi t = b := Fin.ext (by show t.val / 24 = b.val; omega)
  have hi : ri t = i := Fin.ext (by show t.val / 3 % 8 = i.val; omega)
  have h := (arr4_at m c t j cc q w).trans (z_at m c t g hgt j cc q w)
  have hn : n = ⟨3 * g.val + j.val, by omega⟩ := Fin.ext (by simp only; omega)
  have hn' : (⟨3 * (t.val % 3) + j.val, by omega⟩ : Fin 9) = ⟨3 * g.val + j.val, by omega⟩ := Fin.ext (by simp only; omega)
  rw [hn', hb, hi] at h
  rw [hn]
  exact h.trans (Cert.Reference2Ideal.Inproj.v85_apply _ _ _ g j b i cc q w).symm

/-- The gate is what the reference computes of the arguments. -/
theorem arr5_eq : ((dats m 0 c).arrAt 5 cfg0.N : Vec Ideal S4x8x4x1024x256 .bf16)
      = Cert.Reference2Ideal.Read.val_main_v87 (F := Ideal) (m ((c : Thread nD τ).loc main_arg0)) (m ((c : Thread nD τ).loc main_arg1)) (m ((c : Thread nD τ).loc main_arg2)) := by
  funext z
  obtain ⟨b, i, cc, q, w, rfl⟩ : ∃ (b : Fin 4) (i : Fin 8) (cc : Fin 4) (q : Fin 1024) (w : Fin 256), z = ix5 b i cc q w :=
    ⟨z 0, z 1, z 2, z 3, z 4, eq_ix5 z⟩
  have hN : cfg0.N = 96 := rfl
  obtain ⟨t, ht⟩ : ∃ t : Fin cfg0.N, t.val = 24 * b.val + 3 * i.val + 2 := ⟨⟨24 * b.val + 3 * i.val + 2, by omega⟩, rfl⟩
  have hb : bi t = b := Fin.ext (by show t.val / 24 = b.val; omega)
  have hi : ri t = i := Fin.ext (by show t.val / 3 % 8 = i.val; omega)
  have h := (arr5_at m c t (by omega) cc q w).trans (gate_at m c t cc q w)
  rw [hb, hi] at h
  exact h.trans (Cert.Reference2Ideal.Inproj.v87_apply _ _ _ b i cc q w).symm

/-! ## The run -/

variable (ρ : Dev nD → PrngReg)

/-- The run's two result arrays, the arguments as they were. -/
theorem run_arrays : θ_run defs (onTc (τ := τ) (main (F := Ideal))) ⟨m, fun _ => 0, ρ⟩ fun r => ∀ c : Dev nD,
      r.2.mem ((c : Thread nD τ).loc main_v13_0) = (dats m 0 c).arrAt 4 cfg0.N
      ∧ r.2.mem ((c : Thread nD τ).loc main_v13_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 4, (h.1 c).1 5, h.2.1 c⟩) (θ_run_and (run_main m ρ) (frame m ρ))

end Cert.Kernel2Ideal.Inproj
-- ==== Proof.InprojClaim.lean ====
/-
  The claims about the input projection, assembled: the frames, and the equality of the two results with the reference's.
-/
module
public import proofs.«01_k».proof.Defs
public import proofs.«01_k».proof.Proof.InprojArray
public import proofs.«01_k».proof.Proof.Gen.Kernel2.Frame
public import proofs.«01_k».proof.Proof.Gen.Reference2Ideal.Run
@[expose] public section
noncomputable section
namespace Cert.InprojClaim
open Idealize.ShloMosaic Idealize.SL.Sem

/-- The kernel's body is, over the machine's floats, the body of its idealization: the two programs have one text. -/
theorem body_eq : Cert.Kernel2.cc0_attn_inproj (F := Bits) = Cert.Kernel2Ideal.cc0_attn_inproj (F := Bits) := rfl

/-- So is the table of bodies. -/
theorem bodies_eq : Cert.Kernel2.defs₀ (F := Bits) = Cert.Kernel2Ideal.defs₀ (F := Bits) := by
  unfold Cert.Kernel2.defs₀ Cert.Kernel2Ideal.defs₀
  refine congrArg Defs.onTc ?_
  funext l a
  match l, a with
  | 0, (t, s) =>
    show Cert.Kernel2.cc0_attn_inproj (F := Bits) _ _ _ _ _ _ _ _ _ _ _ _ _ _ _ _ _ = Cert.Kernel2Ideal.cc0_attn_inproj (F := Bits) _ _ _ _ _ _ _ _ _ _ _ _ _ _ _ _ _
    rw [body_eq]
    rfl

/-- So is the whole table, the pipeline's with it. -/
theorem defs_eq : Cert.Kernel2.defs (F := Bits) = Cert.Kernel2Ideal.defs (F := Bits) :=
  congrArg (Pipeline.defs Cert.Kernel2Ideal.pcfgs) bodies_eq

/-- The kernel leaves its arguments as they were and every counter at zero. -/
theorem frame_kernel : Cert.quiescent_Kernel2 (hKernel2 := Cert.Kernel2.Gen.facts) := by
  intro m ρ _
  have h := Cert.Kernel2Ideal.Inproj.frame (F := Bits) m ρ
  rw [← defs_eq] at h
  exact h

/-- So does its reading over the extended reals. -/
theorem frame_kernelIdeal : Cert.quiescent_Kernel2Ideal (hKernel2Ideal := Cert.Kernel2Ideal.Gen.facts) := fun m ρ _ =>
  Cert.Kernel2Ideal.Inproj.frame (F := Ideal) m ρ

/-- So does the reference. -/
theorem frame_reference : Cert.quiescent_Reference2Ideal (hReference2Ideal := Cert.Reference2Ideal.Gen.facts) := by
  intro m ρ _
  exact (θ_run _ _ _).mono (fun r h => ⟨fun c => (h c).2.2, sem_eq_zero_of_no_sems (by decide) r.2⟩) (Cert.Reference2Ideal.Value.run (F := Ideal) m ρ)

/-- The kernel's two results are the reference's, over the extended reals. -/
theorem algebraic : Cert.algebraic_Kernel2Ideal_Reference2Ideal (hKernel2Ideal := Cert.Kernel2Ideal.Gen.facts) (hReference2Ideal := Cert.Reference2Ideal.Gen.facts) := by
  intro m g m' g' _ hagree
  refine ⟨fun c => Cert.Reference2Ideal.Read.val_main_v85 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
    fun c => Cert.Reference2Ideal.Read.val_main_v87 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), ?_, ?_⟩
  · exact (θ_run _ _ _).mono (fun r h c => ⟨(h c).1.trans (Cert.Kernel2Ideal.Inproj.arr4_eq m c), (h c).2.1.trans (Cert.Kernel2Ideal.Inproj.arr5_eq m c), (h c).2.2⟩) (Cert.Kernel2Ideal.Inproj.run_arrays m g)
  · refine (θ_run _ _ _).mono (fun r h c => ⟨((h c).1.trans (Cert.Reference2Ideal.Read.val_main_v85_eq (F := Ideal) m' c)).trans ?_,
      ((h c).2.1.trans (Cert.Reference2Ideal.Read.val_main_v87_eq (F := Ideal) _ _ _)).trans ?_, (h c).2.2⟩) (Cert.Reference2Ideal.Value.run (F := Ideal) m' g')
    · obtain ⟨e0, e1, e2⟩ := hagree c
      show Cert.Reference2Ideal.Read.val_main_v85 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) = _
      rw [e0, e1, e2]
    · obtain ⟨e0, e1, e2⟩ := hagree c
      show Cert.Reference2Ideal.Read.val_main_v87 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) = _
      rw [e0, e1, e2]

end Cert.InprojClaim
-- ==== Proof.ModRef.lean ====
/-
  The modulation's reference, read at an index: row `i` of the result is silu(c) times the weights plus the bias.
-/
module

public import proofs.«01_k».proof.Proof.Gen.Reference3Ideal.Read
public import Idealize.ShloMosaic.Lib.Pointwise

@[expose] public section

noncomputable section

namespace Modulation
open Idealize.ShloMosaic

/-- The modulation of one batch entry: `cond` times the weights, plus the bias. -/
def row (cond : Fin 1024 → EReal) (w : Fin 1024 → Fin 3072 → EReal) (bias : Fin 3072 → EReal) (j : Fin 3072) : EReal :=
  (∑ k : Fin 1024, cond k * Ideal.logistic (cond k) * w k j) + bias j

end Modulation

namespace Cert.Reference3Ideal.Mod

open Cert.Reference3Ideal Cert.Reference3Ideal.Gen Cert.Reference3Ideal.Read Idealize.ShloMosaic Idealize.ShloMosaic.TcCoe

variable (x0 : (⟨S4x1024, .f32⟩ : BufTy).Contents (Elt Ideal)) (x1 : (⟨S2x1024x3072, .f32⟩ : BufTy).Contents (Elt Ideal))
  (x2 : (⟨S2x3072, .f32⟩ : BufTy).Contents (Elt Ideal))

theorem first_apply (b : Fin 4) (j : Fin 3072) : val_main_v8 (F := Ideal) x0 x1 x2 (ix2 b j)
    = Modulation.row (fun k => x0 (ix2 b k)) (fun k j => x1 (ix3 0 k j)) (fun j => x2 (ix2 0 j)) j := by
  pointwise [val_main_v8, val_main_v7, val_main_v6, val_main_v5, val_main_v4, val_main_v3, val_main_v2, val_main_v1, val_main_v0, val_main_call0_v0, val_main_call0_v1, val_main_call0_cst, val_main_call0_v2, val_main_call0_v3, val_main_call0_cst_0, val_main_call0_v4, val_main_call0_v5]
  rfl

theorem second_apply (b : Fin 4) (j : Fin 3072) : val_main_v16 (F := Ideal) x0 x1 x2 (ix2 b j)
    = Modulation.row (fun k => x0 (ix2 b k)) (fun k j => x1 (ix3 1 k j)) (fun j => x2 (ix2 1 j)) j := by
  pointwise [val_main_v16, val_main_v15, val_main_v14, val_main_v13, val_main_v12, val_main_v11, val_main_v10, val_main_v9, val_main_v0, val_main_call0_v0, val_main_call0_v1, val_main_call0_cst, val_main_call0_v2, val_main_call0_v3, val_main_call0_cst_0, val_main_call0_v4, val_main_call0_v5]
  rfl

/-- Row `i` of the reference's result. -/
theorem out_apply (i : Fin 2) (b : Fin 4) (j : Fin 3072) : val_main_v19 (F := Ideal) x0 x1 x2 (ix3 i b j)
    = Modulation.row (fun k => x0 (ix2 b k)) (fun k j => x1 (ix3 i k j)) (fun j => x2 (ix2 i j)) j := by
  obtain ⟨i, hi⟩ := i
  interval_cases i
  · rw [show (⟨0, hi⟩ : Fin 2) = 0 from rfl]
    pointwise [val_main_v19, val_main_v18, val_main_v17]
    exact first_apply x0 x1 x2 b j
  · rw [show (⟨1, hi⟩ : Fin 2) = 1 from rfl]
    pointwise [val_main_v19, val_main_v18, val_main_v17]
    exact second_apply x0 x1 x2 b j

end Cert.Reference3Ideal.Mod
-- ==== Proof.ModArray.lean ====
/-
  The modulation kernel's result array, at every index: the block a grid point writes, the windows' blocks read from the
  arguments, and the six blocks put together.
-/
module

public import proofs.«01_k».proof.Proof.ModRef
public import proofs.«01_k».proof.Proof.IdxOf
public import proofs.«01_k».proof.Proof.Gen.Kernel3Ideal.Value
public import Idealize.ShloMosaic.Lib.Pipeline.ValueKit.Tiles

@[expose] public section

noncomputable section

namespace Cert.Kernel3Ideal.Mod

open Cert.Kernel3Ideal Cert.Kernel3Ideal.Gen Idealize.ShloMosaic Idealize.ShloMosaic.TcCoe Idealize.SL.Sem Idealize.ShloMosaic.Tactic
open Idealize.ShloMosaic.Pipeline (Dat)

/-- Column `n` of the block that a grid point writes, for batch entry `b`. -/
def blockRow (x0 : Vec Ideal S1024x4 .f32) (x1 : Vec Ideal S1x1024x1024 .f32) (x2 : Vec Ideal S1x1x1024 .f32) (b : Fin 4) (n : Fin 1024) : EReal :=
  (∑ k : Fin 1024, x0 (ix2 k b) * Ideal.logistic (x0 (ix2 k b)) * x1 (ix3 0 k n)) + x2 (ix3 0 0 n)
def blockVal (x0 : Vec Ideal S1024x4 .f32) (x1 : Vec Ideal S1x1024x1024 .f32) (x2 : Vec Ideal S1x1x1024 .f32) : Vec Ideal S1x4x1024 .f32 :=
  fun y => blockRow x0 x1 x2 (y 1) (y 2)

theorem out_eq (x0 : Vec Ideal S1024x4 .f32) (x1 : Vec Ideal S1x1024x1024 .f32) (x2 : Vec Ideal S1x1x1024 .f32) :
    out0_3 x0 x1 x2 = blockVal x0 x1 x2 := by
  funext y
  unfold out0_3
  refine View.canon_eq_of_allAt _ _ _ (cover0_3 _ _ _ _ y) ?_
  refine View.allAt_cons_unit _ _ _ _ _ ?_ ?_
  · intro x hx
    obtain ⟨a, b, n, rfl⟩ : ∃ (a : Fin 1) (b : Fin 1) (n : Fin 1024), x = ix3 a b n := ⟨x 0, x 1, x 2, eq_ix3 x⟩
    obtain rfl := Idx.of3 (y := y) 0 3 n (by have := hx 0; simpa using this) (by have := hx 1; simpa using this) (by have := hx 2; simpa using this)
    unfold_payloads
    pointwise
    rfl
  refine View.allAt_cons_unit _ _ _ _ _ ?_ ?_
  · intro x hx
    obtain ⟨a, b, n, rfl⟩ : ∃ (a : Fin 1) (b : Fin 1) (n : Fin 1024), x = ix3 a b n := ⟨x 0, x 1, x 2, eq_ix3 x⟩
    obtain rfl := Idx.of3 (y := y) 0 2 n (by have := hx 0; simpa using this) (by have := hx 1; simpa using this) (by have := hx 2; simpa using this)
    unfold_payloads
    pointwise
    rfl
  refine View.allAt_cons_unit _ _ _ _ _ ?_ ?_
  · intro x hx
    obtain ⟨a, b, n, rfl⟩ : ∃ (a : Fin 1) (b : Fin 1) (n : Fin 1024), x = ix3 a b n := ⟨x 0, x 1, x 2, eq_ix3 x⟩
    obtain rfl := Idx.of3 (y := y) 0 1 n (by have := hx 0; simpa using this) (by have := hx 1; simpa using this) (by have := hx 2; simpa using this)
    unfold_payloads
    pointwise
    rfl
  refine View.allAt_cons_unit _ _ _ _ _ ?_ ?_
  · intro x hx
    obtain ⟨a, b, n, rfl⟩ : ∃ (a : Fin 1) (b : Fin 1) (n : Fin 1024), x = ix3 a b n := ⟨x 0, x 1, x 2, eq_ix3 x⟩
    obtain rfl := Idx.of3 (y := y) 0 0 n (by have := hx 0; simpa using this) (by have := hx 1; simpa using this) (by have := hx 2; simpa using this)
    unfold_payloads
    pointwise
    rfl
  exact View.allAt_nil _ _

variable (m : (ℓ : Loc nD τ sig) → Buf (Elt Ideal) ℓ) (c : Dev nD)

/-- The layer's half and the column block of a grid point. -/
def ti (t : Fin cfg0.N) : Fin 2 := ⟨t.val / 3, by have := t.isLt; have : cfg0.N = 6 := rfl; omega⟩

theorem V_v0 (k : Fin 1024) (b : Fin 4) : (V m c main_v0 : Vec Ideal _ _) (ix2 k b) = (m ((c : Thread nD τ).loc main_arg0) (ix2 b k) : EReal) := by
  dsimp only [V, hostOps0]
  after_results
  pointwise

theorem V_v1 (i : Fin 2) (j : Fin 3072) : (V m c main_v1 : Vec Ideal _ _) (ix3 i 0 j) = (m ((c : Thread nD τ).loc main_arg2) (ix2 i j) : EReal) := by
  dsimp only [V, hostOps0]
  after_results
  pointwise

theorem idx0 : ∀ t : Fin cfg0.N, win0_0.index t = ![0, 0] := (by decide +kernel : ∀ t : Fin grid0.N, win0_0.index t = ![0, 0])
theorem idx1 : ∀ t : Fin cfg0.N, win0_1.index t = ![t.val / 3, 0, t.val % 3] := (by decide +kernel : ∀ t : Fin grid0.N, win0_1.index t = ![t.val / 3, 0, t.val % 3])
theorem idx2 : ∀ t : Fin cfg0.N, win0_2.index t = ![t.val / 3, 0, t.val % 3] := (by decide +kernel : ∀ t : Fin grid0.N, win0_2.index t = ![t.val / 3, 0, t.val % 3])
theorem idx3 : ∀ t : Fin cfg0.N, win0_3.index t = ![t.val / 3, 0, t.val % 3] := (by decide +kernel : ∀ t : Fin grid0.N, win0_3.index t = ![t.val / 3, 0, t.val % 3])
theorem flush3 : ∀ t : Fin cfg0.N, (cfg0.win 3).flush t = true := (by decide +kernel : ∀ t : Fin grid0.N, win0_3.flush t = true)

theorem iblk0 (t : Fin cfg0.N) (k : Fin 1024) (b : Fin 4) : (iblk m c 0 t : Vec Ideal S1024x4 .f32) (ix2 k b) = (V m c main_v0 : Vec Ideal S1024x4 .f32) (ix2 k b) := by
  have h := idx0 t
  show (V m c main_v0 : Vec Ideal _ _) (((cfg0.win 0).blk t).view.emb (ix2 k b)) = _
  refine congrArg (V m c main_v0 : Vec Ideal _ _) ?_
  have e : ∀ a, ((((cfg0.win 0).blk t).view.emb (ix2 k b)) a : Nat) = win0_0.index t a * (![1024, 4] : Fin 2 → Nat) a + 1 * ((ix2 k b : (⟨2, ![1024, 4]⟩ : Shape).Idx) a : Nat) := fun a => rfl
  funext a
  apply Fin.ext
  rw [e, h]
  fin_cases a <;> simp

theorem iblk1 (t : Fin cfg0.N) (k j : Fin 1024) : (iblk m c 1 t : Vec Ideal S1x1024x1024 .f32) (ix3 0 k j)
    = (V m c main_arg1 : Vec Ideal S2x1024x3072 .f32) (ix3 (ti t) k ⟨1024 * (t.val % 3) + j.val, by omega⟩) := by
  have h := idx1 t
  show (V m c main_arg1 : Vec Ideal _ _) (((cfg0.win 1).blk t).view.emb (ix3 0 k j)) = _
  refine congrArg (V m c main_arg1 : Vec Ideal _ _) ?_
  have e : ∀ a, ((((cfg0.win 1).blk t).view.emb (ix3 0 k j)) a : Nat) = win0_1.index t a * (![1, 1024, 1024] : Fin 3 → Nat) a + 1 * ((ix3 0 k j : (⟨3, ![1, 1024, 1024]⟩ : Shape).Idx) a : Nat) := fun a => rfl
  funext a
  apply Fin.ext
  rw [e, h]
  fin_cases a <;> simp [ti] <;> omega

theorem iblk2 (t : Fin cfg0.N) (j : Fin 1024) : (iblk m c 2 t : Vec Ideal S1x1x1024 .f32) (ix3 0 0 j)
    = (V m c main_v1 : Vec Ideal S2x1x3072 .f32) (ix3 (ti t) 0 ⟨1024 * (t.val % 3) + j.val, by omega⟩) := by
  have h := idx2 t
  show (V m c main_v1 : Vec Ideal _ _) (((cfg0.win 2).blk t).view.emb (ix3 0 0 j)) = _
  refine congrArg (V m c main_v1 : Vec Ideal _ _) ?_
  have e : ∀ a, ((((cfg0.win 2).blk t).view.emb (ix3 0 0 j)) a : Nat) = win0_2.index t a * (![1, 1, 1024] : Fin 3 → Nat) a + 1 * ((ix3 0 0 j : (⟨3, ![1, 1, 1024]⟩ : Shape).Idx) a : Nat) := fun a => rfl
  funext a
  apply Fin.ext
  rw [e, h]
  fin_cases a <;> simp [ti] <;> omega

/-- The result array in the block of grid point `t`. -/
theorem arr_at (t : Fin cfg0.N) (b : Fin 4) (n : Fin 1024) :
    ((dats m 0 c).arrAt 3 cfg0.N : Vec Ideal S2x4x3072 .f32) (ix3 (ti t) b ⟨1024 * (t.val % 3) + n.val, by omega⟩)
      = blockRow (iblk m c 0 t) (iblk m c 1 t) (iblk m c 2 t) b n := by
  have h := idx3 t
  have hb := Cert.Kernel3Ideal.Value.blocks3 m c t (flush3 t)
  rw [Cert.Kernel3Ideal.Value.flushed3, out_eq] at hb
  have hx := congrFun hb (ix3 0 b n)
  refine Eq.trans ?_ hx
  show _ = ((dats m 0 c).arrAt 3 cfg0.N : Vec Ideal S2x4x3072 .f32) (((cfg0.win 3).blk t).view.emb (ix3 0 b n))
  refine congrArg ((dats m 0 c).arrAt 3 cfg0.N : Vec Ideal S2x4x3072 .f32) ?_
  have e : ∀ a, ((((cfg0.win 3).blk t).view.emb (ix3 0 b n)) a : Nat) = win0_3.index t a * (![1, 4, 1024] : Fin 3 → Nat) a + 1 * ((ix3 0 b n : (⟨3, ![1, 4, 1024]⟩ : Shape).Idx) a : Nat) := fun a => rfl
  funext a
  apply Fin.ext
  rw [e, h]
  fin_cases a <;> simp [ti] <;> omega

/-- The result array is what the reference computes of the arguments. -/
theorem arr_eq : ((dats m 0 c).arrAt 3 cfg0.N : Vec Ideal S2x4x3072 .f32)
      = Cert.Reference3Ideal.Read.val_main_v19 (F := Ideal) (m ((c : Thread nD τ).loc main_arg0)) (m ((c : Thread nD τ).loc main_arg1)) (m ((c : Thread nD τ).loc main_arg2)) := by
  funext z
  obtain ⟨i, b, j, rfl⟩ : ∃ (i : Fin 2) (b : Fin 4) (j : Fin 3072), z = ix3 i b j := ⟨z 0, z 1, z 2, eq_ix3 z⟩
  rw [Cert.Reference3Ideal.Mod.out_apply]
  have hN : cfg0.N = 6 := rfl
  obtain ⟨t, ht⟩ : ∃ t : Fin cfg0.N, t.val = i.val * 3 + j.val / 1024 := ⟨⟨i.val * 3 + j.val / 1024, by omega⟩, rfl⟩
  have hti : ti t = i := Fin.ext (by simp only [ti]; omega)
  obtain ⟨n, hn⟩ : ∃ n : Fin 1024, n.val = j.val % 1024 := ⟨⟨j.val % 1024, by omega⟩, rfl⟩
  have hj : (⟨1024 * (t.val % 3) + n.val, by omega⟩ : Fin 3072) = j := Fin.ext (by simp only; omega)
  have h := arr_at m c t b n
  rw [hti, hj] at h
  rw [h]
  unfold blockRow Modulation.row
  have e0 : ∀ k, (iblk m c 0 t : Vec Ideal S1024x4 .f32) (ix2 k b) = m ((c : Thread nD τ).loc main_arg0) (ix2 b k) :=
    fun k => (iblk0 m c t k b).trans (V_v0 m c k b)
  have e1 : ∀ k, (iblk m c 1 t : Vec Ideal S1x1024x1024 .f32) (ix3 0 k n) = m ((c : Thread nD τ).loc main_arg1) (ix3 i k j) := fun k => by
    rw [iblk1 m c t k n, hti, hj]; exact congrFun (V_main_arg1 m c) _
  have e2 : (iblk m c 2 t : Vec Ideal S1x1x1024 .f32) (ix3 0 0 n) = m ((c : Thread nD τ).loc main_arg2) (ix2 i j) := by
    rw [iblk2 m c t n, hti, hj]; exact V_v1 m c i j
  simp only [e0, e1, e2]

end Cert.Kernel3Ideal.Mod
-- ==== Proof.ModClaim.lean ====
/-
  The claims about the modulation kernel, assembled: the reference's frame from its run, and the equality of the two results.
-/
module
public import proofs.«01_k».proof.Defs
public import proofs.«01_k».proof.Proof.ModArray
public import proofs.«01_k».proof.Proof.Gen.Reference3Ideal.Run
@[expose] public section
noncomputable section
namespace Cert.ModClaim
open Idealize.ShloMosaic Idealize.SL.Sem

/-- The reference leaves its arguments as they were and every counter at zero. -/
theorem frame_reference : Cert.quiescent_Reference3Ideal (hReference3Ideal := Cert.Reference3Ideal.Gen.facts) := by
  intro m ρ _
  exact (θ_run _ _ _).mono (fun r h => ⟨fun c => (h c).2, sem_eq_zero_of_no_sems (by decide) r.2⟩) (Cert.Reference3Ideal.Value.run (F := Ideal) m ρ)

/-- The kernel's result is the reference's, over the extended reals. -/
theorem algebraic : Cert.algebraic_Kernel3Ideal_Reference3Ideal (hKernel3Ideal := Cert.Kernel3Ideal.Gen.facts) (hReference3Ideal := Cert.Reference3Ideal.Gen.facts) := by
  intro m g m' g' _ hagree
  refine ⟨fun c => Cert.Reference3Ideal.Read.val_main_v19 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)), ?_, ?_⟩
  · refine (θ_run _ _ _).mono (fun r h c => ⟨(h c).1.trans (Cert.Kernel3Ideal.Mod.arr_eq m c), (h c).2⟩) (Cert.Kernel3Ideal.Value.run_blocks (F := Ideal) m g)
  · refine (θ_run _ _ _).mono (fun r h c => ⟨((h c).1.trans (Cert.Reference3Ideal.Read.val_main_v19_eq (F := Ideal) _ _ _)).trans ?_, (h c).2⟩) (Cert.Reference3Ideal.Value.run (F := Ideal) m' g')
    obtain ⟨e0, e1, e2⟩ := hagree c
    show Cert.Reference3Ideal.Read.val_main_v19 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
    rw [e0, e1, e2]

end Cert.ModClaim
-- ==== Proof.AttnSafe.lean ====
/-
The attention kernel's body only loads and stores inside the buffers it is handed: what a run of it needs, and what it gives back, is an invariant `I` that owns them.
-/
module

public import proofs.«01_k».proof.Kernel4Ideal
public import Idealize.ShloMosaic.Lib.Pipeline.FrameBody
public import Idealize.ShloMosaic.Lib.Ring
public import Idealize.ShloMosaic.Lib.Tactic

@[expose] public section

set_option maxRecDepth 16384

noncomputable section

namespace Cert.Kernel4Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]

local notation "𝕄" => MT nD τ sig Unit (Elt F) ℕ (UR sig nD τ) ℕ

/-- The program runs from `I` and gives it back, whatever it returns. -/
def Safe (c : Dev nD) (I : sProp 𝕄) {α : Type} (P : Prog (TpuEff nD τ sig (Elt F) Λ₀ .tc) α) : Prop :=
  ∀ K : α → sProp 𝕄, iprop(I ∗ (∀ a, I -∗ K a)) ⊢ wp frame (wpE (defs₀ (F := F)) Variants.none (c : Thread nD τ) none) Set.univ P K

/-- `I` lends the buffer at `ℓ`, to be given back as it was. -/
def Holds (I : sProp 𝕄) (ℓ : Loc nD τ sig) : Prop :=
  I ⊢ iprop(∃ f : Buf (Elt F) ℓ, (ℓ ↦[Finset.univ]{fullShare} f) ∗ ((ℓ ↦[Finset.univ]{fullShare} f) -∗ I))

/-- `I` lends the buffer at `ℓ`, to be given back with any contents. -/
def Frees (I : sProp 𝕄) (ℓ : Loc nD τ sig) : Prop :=
  I ⊢ iprop(∃ f : Buf (Elt F) ℓ, (ℓ ↦[Finset.univ]{fullShare} f) ∗ (∀ g : Buf (Elt F) ℓ, (ℓ ↦[Finset.univ]{fullShare} g) -∗ I))

theorem Frees.holds {I : sProp 𝕄} {ℓ : Loc nD τ sig} (h : Frees I ℓ) : Holds I ℓ := by
  refine h.trans ?_
  iintro ⟨%f, H, Hb⟩
  iexists f
  isplitl [H]
  · iexact H
  · iintro H
    iapply Hb $$ H

theorem Safe.pure {c : Dev nD} {I : sProp 𝕄} {α : Type} (a : α) : Safe c I (Pure.pure a : Prog (TpuEff nD τ sig (Elt F) Λ₀ .tc) α) := by
  intro K
  rw [wp_pure]
  iintro ⟨H, Hk⟩
  imodintro
  iapply Hk $$ H

theorem Safe.bind {c : Dev nD} {I : sProp 𝕄} {α β : Type} {p : Prog (TpuEff nD τ sig (Elt F) Λ₀ .tc) α} {k : α → Prog (TpuEff nD τ sig (Elt F) Λ₀ .tc) β}
    (hp : Safe c I p) (hk : ∀ a, Safe c I (k a)) : Safe c I (p >>= k) := by
  intro K
  rw [wp_bind]
  refine BIBase.Entails.trans ?_ (hp _)
  iintro ⟨H, Hk⟩
  isplitl [H]
  · iexact H
  · iintro %a H
    iapply (hk a K)
    isplitl [H]
    · iexact H
    · iexact Hk

theorem Safe.load {c : Dev nD} {I : sProp 𝕄} {cs : CoreSpace} {s : Shape} {e : EltTy} {m : Memref sig .tc cs s e} (h : Holds I (m.view.loc (c : Thread nD τ))) {r : LoadRect s} {hl : m.view.LoadsAt r} :
    Safe c I (Prog.lift (.load m r hl) : Prog (TpuEff nD τ sig (Elt F) Λ₀ .tc) _) := by
  intro K
  unfold Holds at h
  iintro ⟨H, Hk⟩
  ihave ⟨%f, H, Hb⟩ := h $$ H
  iapply (wp_load Variants.none (c : Thread nD τ) none Set.univ (m := m) (hl := hl) (S := Finset.univ) (Finset.subset_univ _)) $$ H
  iintro H
  rw [wp_ret]
  imodintro
  iapply Hk
  iapply Hb $$ H

theorem Safe.smemLoad {c : Dev nD} {I : sProp 𝕄} {s : Shape} {e : EltTy} {m : Memref sig .tc .smem s e} (h : Holds I (m.view.loc (c : Thread nD τ))) {r : Rect s} {h1 : r.shape.numel = 1} {hp : e.packing = 1} :
    Safe c I (Idealize.ShloMosaic.smemLoad m r h1 hp : Prog (TpuEff nD τ sig (Elt F) Λ₀ .tc) _) := by
  intro K
  unfold Holds at h
  unfold Idealize.ShloMosaic.smemLoad smemLoadElt
  iintro ⟨H, Hk⟩
  ihave ⟨%f, H, Hb⟩ := h $$ H
  iapply (wp_load Variants.none (c : Thread nD τ) none Set.univ (m := m) (S := Finset.univ) (Finset.subset_univ _)) $$ H
  iintro H
  rw [wp_ret]
  imodintro
  iapply Hk
  iapply Hb $$ H

theorem Safe.store {c : Dev nD} {I : sProp 𝕄} {cs : CoreSpace} {s : Shape} {e : EltTy} {m : Memref sig .tc cs s e} (h : Frees I (m.view.loc (c : Thread nD τ))) {r : Rect s} {w : r.shape.Idx → Elt F e} {Mk : Finset r.shape.Idx} {hx : (m.access r).Stores Mk} {hm : Mk = Finset.univ ∨ ∀ a, r.stride a = 1} :
    Safe c I (Prog.lift (.store m r w Mk hx hm) : Prog (TpuEff nD τ sig (Elt F) Λ₀ .tc) _) := by
  intro K
  unfold Frees at h
  iintro ⟨H, Hk⟩
  ihave ⟨%f, H, Hb⟩ := h $$ H
  iapply (wp_store Variants.none (c : Thread nD τ) none Set.univ (m := m) (r := r) (w := w) (Mk := Mk) (hx := hx) (hm := hm) (S := Finset.univ) (f := f) (Finset.subset_univ _)) $$ H
  iintro H
  rw [wp_ret]
  imodintro
  iapply Hk
  iapply Hb $$ H

attribute [irreducible] Safe Holds Frees

end Cert.Kernel4Ideal.Attn
-- ==== Proof.AttnBody.lean ====
/-
The attention kernel's body, run from the invariant that lends its buffers.
-/
module

public import proofs.«01_k».proof.Proof.AttnSafe

@[expose] public section

set_option maxRecDepth 16384

noncomputable section

namespace Cert.Kernel4Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]

local notation "𝕄" => MT nD τ sig Unit (Elt F) ℕ (UR sig nD τ) ℕ

set_option maxHeartbeats 8000000 in
/-- The body only loads from its windows' buffers and stores to the output's and the scratches': one step of it after another, each by the lemma of its kind. -/
theorem safe_cc0_dilated_attn (c : Dev nD) (I : sProp 𝕄) (i : grid0.Coords) (arg3 : Memref sig .tc .smem S48 .f32) (harg3 : arg3.IsWhole) (arg4 : Memref sig .tc .vmem S1x1x1x1x1x1024x256 .bf16) (harg4 : arg4.IsWhole) (arg5 : Memref sig .tc .vmem S1x1x1x1x1x1024x256 .bf16) (harg5 : arg5.IsWhole) (arg6 : Memref sig .tc .vmem S1x1x1x1x1x1024x256 .bf16) (harg6 : arg6.IsWhole) (arg7 : Memref sig .tc .vmem S1x1x1x1x1x1x64x256 .bf16) (harg7 : arg7.IsWhole) (arg8 : Memref sig .tc .vmem S1x1x1x1x1x1x64x256 .bf16) (harg8 : arg8.IsWhole) (arg9 : Memref sig .tc .vmem S1x1x1x1x1x1x64x256 .bf16) (harg9 : arg9.IsWhole) (arg10 : Memref sig .tc .vmem S1x1x1x1x1x1x64x256 .bf16) (harg10 : arg10.IsWhole) (arg11 : Memref sig .tc .vmem S1x1x1x1x4x256x256 .bf16) (harg11 : arg11.IsWhole) (arg12 : Memref sig .tc .vmem S1x1x1x1x4x256x256 .bf16) (harg12 : arg12.IsWhole) (arg13 : Memref sig .tc .vmem S1x1x1x1x4x256x256 .bf16) (harg13 : arg13.IsWhole) (arg14 : Memref sig .tc .vmem S1x1x1x1x4x1x64x256 .bf16) (harg14 : arg14.IsWhole) (arg15 : Memref sig .tc .vmem S1x1x1x1x4x1x64x256 .bf16) (harg15 : arg15.IsWhole) (arg16 : Memref sig .tc .vmem S1x1x1x1x4x1x64x256 .bf16) (harg16 : arg16.IsWhole) (arg17 : Memref sig .tc .vmem S1x1x1x1x4x1x64x256 .bf16) (harg17 : arg17.IsWhole) (arg18 : Memref sig .tc .vmem S1x1x1x1x16x64x256 .bf16) (harg18 : arg18.IsWhole) (arg19 : Memref sig .tc .vmem S1x1x1x1x16x64x256 .bf16) (harg19 : arg19.IsWhole) (arg20 : Memref sig .tc .vmem S1x1x1x1x16x64x256 .bf16) (harg20 : arg20.IsWhole) (arg21 : Memref sig .tc .vmem S1x1x1x1x16x1x64x256 .bf16) (harg21 : arg21.IsWhole) (arg22 : Memref sig .tc .vmem S1x1x1x1x16x1x64x256 .bf16) (harg22 : arg22.IsWhole) (arg23 : Memref sig .tc .vmem S1x1x1x1x16x1x64x256 .bf16) (harg23 : arg23.IsWhole) (arg24 : Memref sig .tc .vmem S1x1x1x1x16x1x64x256 .bf16) (harg24 : arg24.IsWhole) (arg25 : Memref sig .tc .vmem S1x1x1x1024x256 .bf16) (harg25 : arg25.IsWhole) (arg26 : Memref sig .tc .vmem S1x1024x256 .bf16) (harg26 : arg26.IsWhole) (arg27 : Memref sig .tc .vmem S3x3x192x256 .f32) (harg27 : arg27.IsWhole) (arg28 : Memref sig .tc .vmem S2x2x192x256 .f32) (harg28 : arg28.IsWhole) (arg29 : Memref sig .tc .vmem S2x2x256x256 .bf16) (harg29 : arg29.IsWhole) (arg30 : Memref sig .tc .vmem S3x2x1024x128 .f32) (harg30 : arg30.IsWhole) (arg31 : Memref sig .tc .vmem S3x2x1024x128 .f32) (harg31 : arg31.IsWhole) (h3 : Holds I (arg3.view.loc (c : Thread nD τ))) (h4 : Holds I (arg4.view.loc (c : Thread nD τ))) (h5 : Holds I (arg5.view.loc (c : Thread nD τ))) (h6 : Holds I (arg6.view.loc (c : Thread nD τ))) (h7 : Holds I (arg7.view.loc (c : Thread nD τ))) (h8 : Holds I (arg8.view.loc (c : Thread nD τ))) (h9 : Holds I (arg9.view.loc (c : Thread nD τ))) (h10 : Holds I (arg10.view.loc (c : Thread nD τ))) (h11 : Holds I (arg11.view.loc (c : Thread nD τ))) (h12 : Holds I (arg12.view.loc (c : Thread nD τ))) (h13 : Holds I (arg13.view.loc (c : Thread nD τ))) (h14 : Holds I (arg14.view.loc (c : Thread nD τ))) (h15 : Holds I (arg15.view.loc (c : Thread nD τ))) (h16 : Holds I (arg16.view.loc (c : Thread nD τ))) (h17 : Holds I (arg17.view.loc (c : Thread nD τ))) (h18 : Holds I (arg18.view.loc (c : Thread nD τ))) (h19 : Holds I (arg19.view.loc (c : Thread nD τ))) (h20 : Holds I (arg20.view.loc (c : Thread nD τ))) (h21 : Holds I (arg21.view.loc (c : Thread nD τ))) (h22 : Holds I (arg22.view.loc (c : Thread nD τ))) (h23 : Holds I (arg23.view.loc (c : Thread nD τ))) (h24 : Holds I (arg24.view.loc (c : Thread nD τ))) (h25 : Holds I (arg25.view.loc (c : Thread nD τ))) (f26 : Frees I (arg26.view.loc (c : Thread nD τ))) (f27 : Frees I (arg27.view.loc (c : Thread nD τ))) (f28 : Frees I (arg28.view.loc (c : Thread nD τ))) (f29 : Frees I (arg29.view.loc (c : Thread nD τ))) (f30 : Frees I (arg30.view.loc (c : Thread nD τ))) (f31 : Frees I (arg31.view.loc (c : Thread nD τ))) :
    Safe c I (cc0_dilated_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) := by
  repeat' first
    | with_reducible assumption
    | with_reducible exact Frees.holds (by assumption)
    | with_reducible refine Safe.load ?_
    | with_reducible refine Safe.store ?_
    | with_reducible exact Safe.pure _
    | refine Safe.bind ?_ (fun _ => ?_)
    | refine Safe.smemLoad ?_
    | exact Safe.pure _
    | assumption
    | exact Frees.holds (by assumption)

end Cert.Kernel4Ideal.Attn
-- ==== Proof.AttnFrame.lean ====
/-
The attention kernel's frame: every point's body is run from the buffers the pipeline hands it, the inputs given back as they came.
-/
module

public import proofs.«01_k».proof.Proof.AttnBody
public import proofs.«01_k».proof.Proof.Gen.Kernel4Ideal.Frame

@[expose] public section

set_option maxRecDepth 16384

noncomputable section

namespace Cert.Kernel4Ideal.Attn

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is kept of the body: an input's staging buffer is left as it was found; of the output's nothing is said. -/
def rdat (c : Dev nD) : RDat τ (Elt F) Unit ℕ (UR sig nD τ) ℕ cfg0 c where
  A w := V m c (Pipeline.arrRef spec0 w)
  after w _ Y X := (cfg0.win w).isOut = true ∨ X = Y
  Φ _ := Pipeline.ΦA spec0 c
  q w := Pipeline.shareOf spec0 w
  owed _ := 0

/-- The buffers the body is handed at point `t`, in the state it leaves them in: the scratches and the generator's register, and the windows' staging buffers. -/
def Inv (c : Dev nD) (t : Fin cfg0.N) (Y : (w : Fin cfg0.W) → (cfg0.win w).block.Idx → Elt F (cfg0.win w).elt) : sProp 𝕄 :=
  iprop(Pipeline.ΦA spec0 c ∗ bigSep Finset.univ fun w : Fin cfg0.W =>
    iprop(∃ X, ⌜(cfg0.win w).isOut = true ∨ X = Y w⌝ ∗ owns (c : Thread nD τ) ((cfg0.win w).stage (cfg0.slots t w)) fullShare X))

variable (c : Dev nD) (t : Fin cfg0.N) (Y : (w : Fin cfg0.W) → (cfg0.win w).block.Idx → Elt F (cfg0.win w).elt)

/-- A window's staging buffer taken out of the windows', to be put back. -/
theorem take (w : Fin cfg0.W) : Inv c t Y ⊢ iprop(
    (∃ X, ⌜(cfg0.win w).isOut = true ∨ X = Y w⌝ ∗ owns (c : Thread nD τ) ((cfg0.win w).stage (cfg0.slots t w)) fullShare X)
    ∗ ((∃ X, ⌜(cfg0.win w).isOut = true ∨ X = Y w⌝ ∗ owns (c : Thread nD τ) ((cfg0.win w).stage (cfg0.slots t w)) fullShare X) -∗ Inv c t Y)) := by
  unfold Inv
  have e : (bigSep Finset.univ fun w : Fin cfg0.W => iprop(∃ X, ⌜(cfg0.win w).isOut = true ∨ X = Y w⌝ ∗ owns (c : Thread nD τ) ((cfg0.win w).stage (cfg0.slots t w)) fullShare X) : sProp 𝕄)
      = iprop((∃ X, ⌜(cfg0.win w).isOut = true ∨ X = Y w⌝ ∗ owns (c : Thread nD τ) ((cfg0.win w).stage (cfg0.slots t w)) fullShare X) ∗ bigSep (Finset.univ.erase w) fun w : Fin cfg0.W => iprop(∃ X, ⌜(cfg0.win w).isOut = true ∨ X = Y w⌝ ∗ owns (c : Thread nD τ) ((cfg0.win w).stage (cfg0.slots t w)) fullShare X)) := bigSep_univ_split w
  rw [e]
  iintro ⟨Hp, Hw, Hr⟩
  isplitl [Hw]
  · iexact Hw
  · iintro Hw
    isplitl [Hp]
    · iexact Hp
    · isplitl [Hw]
      · iexact Hw
      · iexact Hr

theorem holds_win (w : Fin cfg0.W) : Holds (Inv c t Y) (((cfg0.win w).stage (cfg0.slots t w)).view.loc (c : Thread nD τ)) := by
  unfold Holds
  refine (take c t Y w).trans ?_
  unfold owns
  rw [(stage_whole0 w (cfg0.slots t w)).set_eq_univ]
  iintro ⟨⟨%X, %hX, %f, %hf, H⟩, Hb⟩
  iexists f
  isplitl [H]
  · iexact H
  · iintro H
    iapply Hb
    iexists X
    isplitr
    · ipureintro; exact hX
    · iexists f
      isplitr
      · ipureintro; exact hf
      · iexact H

theorem frees_win (w : Fin cfg0.W) (h : (cfg0.win w).isOut = true) : Frees (Inv c t Y) (((cfg0.win w).stage (cfg0.slots t w)).view.loc (c : Thread nD τ)) := by
  unfold Frees
  refine (take c t Y w).trans ?_
  unfold owns
  rw [(stage_whole0 w (cfg0.slots t w)).set_eq_univ]
  iintro ⟨⟨%X, -, %f, -, H⟩, Hb⟩
  iexists f
  isplitl [H]
  · iexact H
  · iintro %g H
    iapply Hb
    iexists (((cfg0.win w).stage (cfg0.slots t w)).view.read (Elt F) g)
    isplitr
    · ipureintro; exact Or.inl h
    · iexists g
      isplitr
      · ipureintro; rfl
      · iexact H

/-- A buffer of the scratches' taken out of them, to be put back with any contents. -/
theorem frees_scratch (ℓ : Loc nD τ sig) (h : Pipeline.scopedRest (Ix := Unit) (Name := ℕ) (U := UR sig nD τ) (Lvl := ℕ) (Val := Elt F) spec0 c
    ⊢ iprop(∃ f : Buf (Elt F) ℓ, (ℓ ↦[Finset.univ]{fullShare} f) ∗ (∀ g : Buf (Elt F) ℓ, (ℓ ↦[Finset.univ]{fullShare} g) -∗ Pipeline.scopedRest (Ix := Unit) (Name := ℕ) (U := UR sig nD τ) (Lvl := ℕ) (Val := Elt F) spec0 c))) :
    Frees (Inv c t Y) ℓ := by
  unfold Frees Inv Pipeline.ΦA
  iintro ⟨⟨Hs, Hp⟩, Hw⟩
  ihave ⟨%f, H, Hb⟩ := h $$ Hs
  iexists f
  isplitl [H]
  · iexact H
  · iintro %g H
    isplitr [Hw]
    · isplitr [Hp]
      · iapply Hb $$ H
      · iexact Hp
    · iexact Hw

theorem frees0 : Frees (Inv c t Y) ((c : Thread nD τ).loc cc0_scratch0) := by
  refine frees_scratch c t Y _ ?_
  rw [scopedRest0_eq]
  iintro ⟨⟨%f, H⟩, H1, H2, H3, H4⟩
  iexists f
  isplitl [H]
  · iexact H
  · iintro %g H
    isplitl [H]; · iexists g; iexact H
    isplitl [H1]; · iexact H1
    isplitl [H2]; · iexact H2
    isplitl [H3]; · iexact H3
    iexact H4

theorem frees1 : Frees (Inv c t Y) ((c : Thread nD τ).loc cc0_scratch1) := by
  refine frees_scratch c t Y _ ?_
  rw [scopedRest0_eq]
  iintro ⟨H0, ⟨%f, H⟩, H2, H3, H4⟩
  iexists f
  isplitl [H]
  · iexact H
  · iintro %g H
    isplitl [H0]; · iexact H0
    isplitl [H]; · iexists g; iexact H
    isplitl [H2]; · iexact H2
    isplitl [H3]; · iexact H3
    iexact H4

theorem frees2 : Frees (Inv c t Y) ((c : Thread nD τ).loc cc0_scratch2) := by
  refine frees_scratch c t Y _ ?_
  rw [scopedRest0_eq]
  iintro ⟨H0, H1, ⟨%f, H⟩, H3, H4⟩
  iexists f
  isplitl [H]
  · iexact H
  · iintro %g H
    isplitl [H0]; · iexact H0
    isplitl [H1]; · iexact H1
    isplitl [H]; · iexists g; iexact H
    isplitl [H3]; · iexact H3
    iexact H4

theorem frees3 : Frees (Inv c t Y) ((c : Thread nD τ).loc cc0_scratch3) := by
  refine frees_scratch c t Y _ ?_
  rw [scopedRest0_eq]
  iintro ⟨H0, H1, H2, ⟨%f, H⟩, H4⟩
  iexists f
  isplitl [H]
  · iexact H
  · iintro %g H
    isplitl [H0]; · iexact H0
    isplitl [H1]; · iexact H1
    isplitl [H2]; · iexact H2
    isplitl [H]; · iexists g; iexact H
    iexact H4

theorem frees4 : Frees (Inv c t Y) ((c : Thread nD τ).loc cc0_scratch4) := by
  refine frees_scratch c t Y _ ?_
  rw [scopedRest0_eq]
  iintro ⟨H0, H1, H2, H3, %f, H⟩
  iexists f
  isplitl [H]
  · iexact H
  · iintro %g H
    isplitl [H0]; · iexact H0
    isplitl [H1]; · iexact H1
    isplitl [H2]; · iexact H2
    isplitl [H3]; · iexact H3
    iexists g; iexact H

/-- The body at a point runs from the buffers handed to it and gives them back. -/
theorem safe_body : Safe c (Inv c t Y) (bodyAt0 (F := F) t) :=
  safe_cc0_dilated_attn c (Inv c t Y) _ _ _ _ _ _ _ _ _ _ _ _ _ _ _ _ _ _ _ _ _ _ _ _ _ _ _ _ _ _ _ _ _ _ _ _ _ _ _ _ _ _ _ _ _ _ _ _ _ _ _ _ _ _ _ _ _ _ _
    (holds_win c t Y 0) (holds_win c t Y 1) (holds_win c t Y 2) (holds_win c t Y 3) (holds_win c t Y 4) (holds_win c t Y 5) (holds_win c t Y 6) (holds_win c t Y 7) (holds_win c t Y 8) (holds_win c t Y 9) (holds_win c t Y 10) (holds_win c t Y 11) (holds_win c t Y 12) (holds_win c t Y 13) (holds_win c t Y 14) (holds_win c t Y 15) (holds_win c t Y 16) (holds_win c t Y 17) (holds_win c t Y 18) (holds_win c t Y 19) (holds_win c t Y 20) (holds_win c t Y 21) (holds_win c t Y 22)
    (frees_win c t Y 23 rfl) (frees0 c t Y) (frees1 c t Y) (frees2 c t Y) (frees3 c t Y) (frees4 c t Y)

theorem defs₀_row (t : Fin cfg0.N) :
    defs₀ (F := F) .tc cfg0.body (cfg0.bodyArgs t (cfg0.slots t)) = bodyAt0 t := by
  unfold defs₀; rw [Defs.onTc_tc]

/-- A program that runs from those buffers, told as the pipeline asks it: `O` is what the core still owes. -/
theorem handed {P : Prog (TpuEff nD τ sig (Elt F) Λ₀ .tc) PUnit} (h : Safe c (Inv c t Y) P) (O : sProp 𝕄) :
    iprop(Pipeline.ΦA spec0 c ∗ O ∗ bigSep Finset.univ fun w : Fin cfg0.W => owns (c : Thread nD τ) ((cfg0.win w).stage (cfg0.slots t w)) fullShare (Y w))
      ⊢ wp frame (wpE (defs₀ (F := F)) Variants.none (c : Thread nD τ) none) Set.univ P fun _ =>
        iprop(Pipeline.ΦA spec0 c ∗ O ∗ bigSep Finset.univ fun w : Fin cfg0.W =>
          iprop(∃ X, ⌜(cfg0.win w).isOut = true ∨ X = Y w⌝ ∗ owns (c : Thread nD τ) ((cfg0.win w).stage (cfg0.slots t w)) fullShare X)) := by
  unfold Safe at h
  refine BIBase.Entails.trans ?_ (h _)
  unfold Inv
  iintro ⟨Hp, Ho, Hw⟩
  isplitl [Hp Hw]
  · isplitl [Hp]
    · iexact Hp
    · iapply (show (bigSep Finset.univ fun w => owns (c : Thread nD τ) ((cfg0.win w).stage (cfg0.slots t w)) fullShare (Y w)) ⊢ (bigSep Finset.univ fun w : Fin cfg0.W =>
        iprop(∃ X, ⌜(cfg0.win w).isOut = true ∨ X = Y w⌝ ∗ owns (c : Thread nD τ) ((cfg0.win w).stage (cfg0.slots t w)) fullShare X) : sProp 𝕄) from
        bigSep_mono fun w _ => show owns (c : Thread nD τ) ((cfg0.win w).stage (cfg0.slots t w)) fullShare (Y w) ⊢ (iprop(∃ X, ⌜(cfg0.win w).isOut = true ∨ X = Y w⌝ ∗ owns (c : Thread nD τ) ((cfg0.win w).stage (cfg0.slots t w)) fullShare X) : sProp 𝕄) from by
          iintro H
          iexists (Y w)
          isplitr
          · ipureintro; exact Or.inr rfl
          · iexact H) $$ Hw
  · iintro %a ⟨Hp, Hw⟩
    isplitl [Hp]
    · iexact Hp
    · isplitl [Ho]
      · iexact Ho
      · iexact Hw

theorem body_obligation : (rdat m c).BodyObligation (defs₀ (F := F)) Variants.none () Set.univ := fun t Y _ => by
  rw [defs₀_row]
  have e : (rdat m c).owesAt () t.succ = (rdat m c).owesAt () t.castSucc := by unfold RDat.owesAt rdat; rfl
  rw [e]
  refine triple_restated (handed c t Y (safe_body c t Y) ((rdat m c).owesAt () t.castSucc)) ?_ ?_ fun a => ?_
  · rfl
  · exact .rfl
  · exact .rfl

/-- From any memory: the run ends, every input array as the call found it, every other unscoped buffer too, and every counter at zero. -/
theorem run_quiescent : θ_run defs (onTc (τ := τ) (main (F := F))) (s₀ m ρ) (fun r => RDat.FramePost cfg0 (rdat m) (V m) r ∧ r.2.sem = fun _ => 0) :=
  RDat.θ_run_frame_track_shared (Q' := _) cfgs (0 : Fin 1) launch₀0 defs₀ Variants.none (rdat m) m ρ main
    (hbody := fun c => body_obligation m c) (hq := fun _ _ _ => rfl) (howed := fun _ _ => rfl) (V := V m) (hmain := hmain m Variants.none)
    (hA := fun _ _ => rfl) (hin := fun _ => .rfl) (hout := fun _ => .rfl)

/-- The arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨((h.1 c).2 main_arg0 (Pipeline.mem_restRefs_of main_arg0 (by decide) (by decide))).trans (V_main_arg0 m c),
      (h.1.arr_in c 22 rfl).trans (V_main_arg1 m c)⟩, h.2⟩) (run_quiescent m ρ)

end Cert.Kernel4Ideal.Attn

end
-- ==== Proof.AttnClaim.lean ====
/-
  The claims about the attention's kernel, assembled: its frame and that of its reading over the extended reals.
-/
module
public import proofs.«01_k».proof.Defs
public import proofs.«01_k».proof.Proof.AttnFrame
public import proofs.«01_k».proof.Proof.Gen.Kernel4
@[expose] public section
noncomputable section
namespace Cert.AttnClaim
open Idealize.ShloMosaic Idealize.SL.Sem

set_option maxHeartbeats 40000000 in
/-- The kernel's body is, over the machine's floats, the body of its idealization: the two programs have one text. -/
theorem body_eq : Cert.Kernel4.cc0_dilated_attn (F := Bits) = Cert.Kernel4Ideal.cc0_dilated_attn (F := Bits) := rfl

set_option maxHeartbeats 40000000 in
/-- So is the table of bodies. -/
theorem bodies_eq : Cert.Kernel4.defs₀ (F := Bits) = Cert.Kernel4Ideal.defs₀ (F := Bits) := by
  unfold Cert.Kernel4.defs₀ Cert.Kernel4Ideal.defs₀
  refine congrArg Defs.onTc ?_
  funext l a
  match l, a with
  | 0, (t, s) =>
    show Cert.Kernel4.cc0_dilated_attn (F := Bits) _ _ _ _ _ _ _ _ _ _ _ _ _ _ _ _ _ _ _ _ _ _ _ _ _ _ _ _ _ _ _ _ _ _ _ _ _ _ _ _ _ _ _ _ _ _ _ _ _ _ _ _ _ _ _ _ _ _ _ = Cert.Kernel4Ideal.cc0_dilated_attn (F := Bits) _ _ _ _ _ _ _ _ _ _ _ _ _ _ _ _ _ _ _ _ _ _ _ _ _ _ _ _ _ _ _ _ _ _ _ _ _ _ _ _ _ _ _ _ _ _ _ _ _ _ _ _ _ _ _ _ _ _ _
    rw [body_eq]
    rfl

set_option maxHeartbeats 40000000 in
/-- So is the whole table, the pipeline's with it. -/
theorem defs_eq : Cert.Kernel4.defs (F := Bits) = Cert.Kernel4Ideal.defs (F := Bits) :=
  congrArg (Pipeline.defs Cert.Kernel4Ideal.pcfgs) bodies_eq

set_option maxHeartbeats 40000000 in
/-- The kernel leaves its arguments as they were and every counter at zero. -/
theorem frame_kernel : Cert.quiescent_Kernel4 (hKernel4 := Cert.Kernel4.Gen.facts) := by
  intro m ρ _
  have h := Cert.Kernel4Ideal.Attn.frame (F := Bits) m ρ
  rw [← defs_eq] at h
  exact h

set_option maxHeartbeats 40000000 in
/-- So does its reading over the extended reals. -/
theorem frame_kernelIdeal : Cert.quiescent_Kernel4Ideal (hKernel4Ideal := Cert.Kernel4Ideal.Gen.facts) := fun m ρ _ =>
  Cert.Kernel4Ideal.Attn.frame (F := Ideal) m ρ

end Cert.AttnClaim
-- ==== Proof.lean ====
module

public import proofs.«01_k».proof.Proof.Gen.Kernel2.Frame
public import proofs.«01_k».proof.Proof.Gen.Kernel2Ideal.Skeleton
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal.Frame
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Read
public import proofs.«01_k».proof.Proof.SguClaim
public import proofs.«01_k».proof.Proof.InprojClaim
public import proofs.«01_k».proof.Proof.ModClaim
public import proofs.«01_k».proof.Proof.AttnClaim

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts,
  fun m ρ _ => Cert.Kernel.Gen.frame m ρ,
  fun m ρ _ => Cert.KernelIdeal.Gen.frame m ρ,
  Cert.SguClaim.frame_reference,
  Cert.InprojClaim.frame_kernel,
  Cert.InprojClaim.frame_kernelIdeal,
  Cert.InprojClaim.frame_reference,
  fun m ρ _ => Cert.Kernel3.Gen.frame m ρ,
  fun m ρ _ => Cert.Kernel3Ideal.Gen.frame m ρ,
  Cert.ModClaim.frame_reference,
  Cert.AttnClaim.frame_kernel,
  Cert.AttnClaim.frame_kernelIdeal,
  trivial,
  Cert.SguClaim.algebraic,
  trivial,
  Cert.InprojClaim.algebraic,
  trivial,
  Cert.ModClaim.algebraic,
  trivial⟩

end Cert.Proof

end
